-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite [hPre_finite : Cert.Pre_finite.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite [hPre_finite : Cert.Pre_finite.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Kernel3Ideal_pre_finite [hKernel3Ideal : Cert.Kernel3Ideal.Facts] [hPre_finite : Cert.Pre_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Reference3Ideal_pre_finite [hReference3Ideal : Cert.Reference3Ideal.Facts] [hPre_finite : Cert.Pre_finite.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def preserves_Kernel2_Kernel2Ideal : Prop :=
  True

def algebraic_Kernel2Ideal_Reference2Ideal_on_heads_only [hKernel2Ideal : Cert.Kernel2Ideal.Facts] [hReference2Ideal : Cert.Reference2Ideal.Facts] [hOn_heads_only : Cert.On_heads_only.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v10_0)) (v1 : (c : Dev Cert.Kernel2Ideal.nD) → Buf (Elt Ideal) ((c.tc : Thread Cert.Kernel2Ideal.nD Cert.Kernel2Ideal.τ).loc Cert.Kernel2Ideal.main_v10_1)) (v2 : (c : Dev Cert.Kernel2Ideal.nD) → Buf (Elt Ideal) ((c.tc : Thread Cert.Kernel2Ideal.nD Cert.Kernel2Ideal.τ).loc Cert.Kernel2Ideal.main_v10_2)) (v3 : (c : Dev Cert.Kernel2Ideal.nD) → Buf (Elt Ideal) ((c.tc : Thread Cert.Kernel2Ideal.nD Cert.Kernel2Ideal.τ).loc Cert.Kernel2Ideal.main_v10_3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          (∀ i : (⟨3, ![16, 2048, 1024]⟩ : Shape).Idx, (Cert.On_heads_only.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))).1 i = 1#1 → r.2.mem ((c.tc : Thread Cert.Kernel2Ideal.nD Cert.Kernel2Ideal.τ).loc Cert.Kernel2Ideal.main_v10_0) i = v0 c i)
          ∧ (∀ i : (⟨3, ![16, 2048, 1024]⟩ : Shape).Idx, (Cert.On_heads_only.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))).2.1 i = 1#1 → r.2.mem ((c.tc : Thread Cert.Kernel2Ideal.nD Cert.Kernel2Ideal.τ).loc Cert.Kernel2Ideal.main_v10_1) i = v1 c i)
          ∧ (∀ i : (⟨3, ![16, 640, 2048]⟩ : Shape).Idx, (Cert.On_heads_only.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))).2.2.1 i = 1#1 → r.2.mem ((c.tc : Thread Cert.Kernel2Ideal.nD Cert.Kernel2Ideal.τ).loc Cert.Kernel2Ideal.main_v10_2) i = v2 c i)
          ∧ (∀ i : (⟨3, ![16, 2048, 128]⟩ : Shape).Idx, (Cert.On_heads_only.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))).2.2.2 i = 1#1 → r.2.mem ((c.tc : Thread Cert.Kernel2Ideal.nD Cert.Kernel2Ideal.τ).loc Cert.Kernel2Ideal.main_v10_3) i = v3 c i)
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          (∀ i : (⟨3, ![16, 2048, 1024]⟩ : Shape).Idx, (Cert.On_heads_only.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))).1 i = 1#1 → r.2.mem ((c.tc : Thread Cert.Reference2Ideal.nD Cert.Reference2Ideal.τ).loc Cert.Reference2Ideal.main_v20) i = v0 c i)
          ∧ (∀ i : (⟨3, ![16, 2048, 1024]⟩ : Shape).Idx, (Cert.On_heads_only.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))).2.1 i = 1#1 → r.2.mem ((c.tc : Thread Cert.Reference2Ideal.nD Cert.Reference2Ideal.τ).loc Cert.Reference2Ideal.main_v56) i = v1 c i)
          ∧ (∀ i : (⟨3, ![16, 640, 2048]⟩ : Shape).Idx, (Cert.On_heads_only.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))).2.2.1 i = 1#1 → r.2.mem ((c.tc : Thread Cert.Reference2Ideal.nD Cert.Reference2Ideal.τ).loc Cert.Reference2Ideal.main_v58) i = v2 c i)
          ∧ (∀ i : (⟨3, ![16, 2048, 128]⟩ : Shape).Idx, (Cert.On_heads_only.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))).2.2.2 i = 1#1 → r.2.mem ((c.tc : Thread Cert.Reference2Ideal.nD Cert.Reference2Ideal.τ).loc Cert.Reference2Ideal.main_v55) i = v3 c i)
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  IdealRules.named_const.Statement Cert.Kernel3Ideal.κ "mask" .f32 0xF149F2CA#32 ⊥

def algebraic_Kernel3Ideal_Reference3Ideal_on_first_rows_pre_finite [hKernel3Ideal : Cert.Kernel3Ideal.Facts] [hReference3Ideal : Cert.Reference3Ideal.Facts] [hPre_finite : Cert.Pre_finite.Facts] [hOn_first_rows : Cert.On_first_rows.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v85)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          (∀ i : (⟨3, ![16, 2048, 512]⟩ : Shape).Idx, (Cert.On_first_rows.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))) i = 1#1 → r.2.mem ((c.tc : Thread Cert.Kernel3Ideal.nD Cert.Kernel3Ideal.τ).loc Cert.Kernel3Ideal.main_v85) i = v0 c i)
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          (∀ i : (⟨3, ![16, 2048, 512]⟩ : Shape).Idx, (Cert.On_first_rows.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))) i = 1#1 → r.2.mem ((c.tc : Thread Cert.Reference3Ideal.nD Cert.Reference3Ideal.τ).loc Cert.Reference3Ideal.main_v34) i = v0 c i)
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite : Cert.Pre_finite.Facts) (hOn_heads_only : Cert.On_heads_only.Facts) (hOn_first_rows : Cert.On_first_rows.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite (hKernel3Ideal := hKernel3Ideal) (hPre_finite := hPre_finite)
    ∧ quiescent_Reference3Ideal (hReference3Ideal := hReference3Ideal)
    ∧ quiescent_Reference3Ideal_pre_finite (hReference3Ideal := hReference3Ideal) (hPre_finite := hPre_finite)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal_on_heads_only (hKernel2Ideal := hKernel2Ideal) (hReference2Ideal := hReference2Ideal) (hOn_heads_only := hOn_heads_only)
    ∧ preserves_Kernel3_Kernel3Ideal
    ∧ algebraic_Kernel3Ideal_Reference3Ideal_on_first_rows_pre_finite (hKernel3Ideal := hKernel3Ideal) (hReference3Ideal := hReference3Ideal) (hPre_finite := hPre_finite) (hOn_first_rows := hOn_first_rows)
-- ==== On_first_rows.lean ====
abbrev S16x2048x512 : Shape := ⟨3, ![16, 2048, 512]⟩
abbrev S16x2048x8 : Shape := ⟨3, ![16, 2048, 8]⟩
abbrev S_ : Shape := ⟨0, ![]⟩

class Facts : Prop where
  bcast_S_S16x2048x512 : S_.BroadcastsInDim S16x2048x512 (![] : Fin 0 → Fin S16x2048x512.rank)

variable [Facts]

def fn {F : FTy → Type} [FloatOps F] (main_arg0 : FVec F S16x2048x512 .f32) (main_arg1 : FVec F S16x2048x512 .f32) (main_arg2 : FVec F S16x2048x512 .f32) (main_arg3 : FVec F S16x2048x8 .f32) : IVec S16x2048x512 1 :=
  let main_v0 : IVec S16x2048x512 32 := iotaInDim S16x2048x512 32 1
  let main_c : IVec S_ 32 := constantI S_ 32 256#32
  let main_v1 : IVec S16x2048x512 32 := broadcastInDim S16x2048x512 ![] bcast_S_S16x2048x512 main_c
  let main_v2 : IVec S16x2048x512 1 := cmpi .slt main_v0 main_v1
  main_v2
-- ==== On_heads_only.lean ====
abbrev S16x2048x1024 : Shape := ⟨3, ![16, 2048, 1024]⟩
abbrev S1024 : Shape := ⟨1, ![1024]⟩
abbrev S1024x2816 : Shape := ⟨2, ![1024, 2816]⟩
abbrev S2816x1024 : Shape := ⟨2, ![2816, 1024]⟩
abbrev S1024x5128 : Shape := ⟨2, ![1024, 5128]⟩
abbrev S8 : Shape := ⟨1, ![8]⟩
abbrev S_ : Shape := ⟨0, ![]⟩
abbrev S16x640x2048 : Shape := ⟨3, ![16, 640, 2048]⟩
abbrev S16x2048x128 : Shape := ⟨3, ![16, 2048, 128]⟩

class Facts : Prop where
  bcast_S_S16x2048x1024 : S_.BroadcastsInDim S16x2048x1024 (![] : Fin 0 → Fin S16x2048x1024.rank)
  bcast_S_S16x640x2048 : S_.BroadcastsInDim S16x640x2048 (![] : Fin 0 → Fin S16x640x2048.rank)
  bcast_S_S16x2048x128 : S_.BroadcastsInDim S16x2048x128 (![] : Fin 0 → Fin S16x2048x128.rank)

variable [Facts]

def fn {F : FTy → Type} [FloatOps F] (main_arg0 : FVec F S16x2048x1024 .f32) (main_arg1 : FVec F S1024 .f32) (main_arg2 : FVec F S1024x2816 .f32) (main_arg3 : FVec F S1024x2816 .f32) (main_arg4 : FVec F S2816x1024 .f32) (main_arg5 : FVec F S1024 .f32) (main_arg6 : FVec F S1024x5128 .f32) (main_arg7 : FVec F S8 .f32) : IVec S16x2048x1024 1 × IVec S16x2048x1024 1 × IVec S16x640x2048 1 × IVec S16x2048x128 1 :=
  let main_c : IVec S_ 1 := constantI S_ 1 1#1
  let main_v0 : IVec S16x2048x1024 1 := broadcastInDim S16x2048x1024 ![] bcast_S_S16x2048x1024 main_c
  let main_c_0 : IVec S_ 1 := constantI S_ 1 1#1
  let main_v1 : IVec S16x2048x1024 1 := broadcastInDim S16x2048x1024 ![] bcast_S_S16x2048x1024 main_c_0
  let main_c_1 : IVec S_ 1 := constantI S_ 1 1#1
  let main_v2 : IVec S16x640x2048 1 := broadcastInDim S16x640x2048 ![] bcast_S_S16x640x2048 main_c_1
  let main_v3 : IVec S16x2048x128 32 := iotaInDim S16x2048x128 32 2
  let main_c_2 : IVec S_ 32 := constantI S_ 32 8#32
  let main_v4 : IVec S16x2048x128 32 := broadcastInDim S16x2048x128 ![] bcast_S_S16x2048x128 main_c_2
  let main_v5 : IVec S16x2048x128 1 := cmpi .slt main_v3 main_v4
  (main_v0, main_v1, main_v2, main_v5)
-- ==== Pre_finite.lean ====
abbrev S16x2048x512 : Shape := ⟨3, ![16, 2048, 512]⟩
abbrev S16x2048x8 : Shape := ⟨3, ![16, 2048, 8]⟩
abbrev S_ : Shape := ⟨0, ![]⟩

class Facts : Prop where
  bcast_S_S16x2048x512 : S_.BroadcastsInDim S16x2048x512 (![] : Fin 0 → Fin S16x2048x512.rank)
  reducesTo_S16x2048x512_S_d0_1_2 : S16x2048x512.ReducesTo [0, 1, 2] S_
  h_S_ : 0 < S_.numel
  bcast_S_S16x2048x8 : S_.BroadcastsInDim S16x2048x8 (![] : Fin 0 → Fin S16x2048x8.rank)
  reducesTo_S16x2048x8_S_d0_1_2 : S16x2048x8.ReducesTo [0, 1, 2] S_

variable [Facts]

def fn_part1 {F : FTy → Type} [FloatOps F] (main_v13 : IVec S_ 1) (main_v16 : IVec S16x2048x8 1) : IVec S_ 1 :=
  let main_c_5 : IVec S_ 1 := constantI S_ 1 1#1
  let main_v17 : IVec S_ 1 := (fun x v => Host.reduce IntOp.andi x v reducesTo_S16x2048x8_S_d0_1_2 h_S_) main_v16 main_c_5
  let main_v18 : IVec S_ 1 := andi main_v13 main_v17
  main_v18

def fn {F : FTy → Type} [FloatOps F] (main_arg0 : FVec F S16x2048x512 .f32) (main_arg1 : FVec F S16x2048x512 .f32) (main_arg2 : FVec F S16x2048x512 .f32) (main_arg3 : FVec F S16x2048x8 .f32) : IVec S_ 1 :=
  let main_v0 : FVec F S16x2048x512 .f32 := Host.absf main_arg0
  let main_cst : FVec F S_ .f32 := constant S_ .f32 0x7F800000#32
  let main_v1 : FVec F S16x2048x512 .f32 := broadcastInDim S16x2048x512 ![] bcast_S_S16x2048x512 main_cst
  let main_v2 : IVec S16x2048x512 1 := cmpf .olt main_v0 main_v1
  let main_c : IVec S_ 1 := constantI S_ 1 1#1
  let main_v3 : IVec S_ 1 := (fun x v => Host.reduce IntOp.andi x v reducesTo_S16x2048x512_S_d0_1_2 h_S_) main_v2 main_c
  let main_v4 : FVec F S16x2048x512 .f32 := Host.absf main_arg1
  let main_cst_0 : FVec F S_ .f32 := constant S_ .f32 0x7F800000#32
  let main_v5 : FVec F S16x2048x512 .f32 := broadcastInDim S16x2048x512 ![] bcast_S_S16x2048x512 main_cst_0
  let main_v6 : IVec S16x2048x512 1 := cmpf .olt main_v4 main_v5
  let main_c_1 : IVec S_ 1 := constantI S_ 1 1#1
  let main_v7 : IVec S_ 1 := (fun x v => Host.reduce IntOp.andi x v reducesTo_S16x2048x512_S_d0_1_2 h_S_) main_v6 main_c_1
  let main_v8 : IVec S_ 1 := andi main_v3 main_v7
  let main_v9 : FVec F S16x2048x512 .f32 := Host.absf main_arg2
  let main_cst_2 : FVec F S_ .f32 := constant S_ .f32 0x7F800000#32
  let main_v10 : FVec F S16x2048x512 .f32 := broadcastInDim S16x2048x512 ![] bcast_S_S16x2048x512 main_cst_2
  let main_v11 : IVec S16x2048x512 1 := cmpf .olt main_v9 main_v10
  let main_c_3 : IVec S_ 1 := constantI S_ 1 1#1
  let main_v12 : IVec S_ 1 := (fun x v => Host.reduce IntOp.andi x v reducesTo_S16x2048x512_S_d0_1_2 h_S_) main_v11 main_c_3
  let main_v13 : IVec S_ 1 := andi main_v8 main_v12
  let main_v14 : FVec F S16x2048x8 .f32 := Host.absf main_arg3
  let main_cst_4 : FVec F S_ .f32 := constant S_ .f32 0x7F800000#32
  let main_v15 : FVec F S16x2048x8 .f32 := broadcastInDim S16x2048x8 ![] bcast_S_S16x2048x8 main_cst_4
  let main_v16 : IVec S16x2048x8 1 := cmpf .olt main_v14 main_v15
  fn_part1 (F := F) main_v13 main_v16
-- ==== Kernel.lean ====
abbrev S16x2048x1024 : Shape := ⟨3, ![16, 2048, 1024]⟩
abbrev S16x2048x512 : Shape := ⟨3, ![16, 2048, 512]⟩
abbrev S1024 : Shape := ⟨1, ![1024]⟩
abbrev S1024x5128 : Shape := ⟨2, ![1024, 5128]⟩
abbrev S3x512 : Shape := ⟨2, ![3, 512]⟩
abbrev S512x1024 : Shape := ⟨2, ![512, 1024]⟩
abbrev S1024x1024 : Shape := ⟨2, ![1024, 1024]⟩
abbrev S1024x2816 : Shape := ⟨2, ![1024, 2816]⟩
abbrev S2816x1024 : Shape := ⟨2, ![2816, 1024]⟩
abbrev S1024x3584 : Shape := ⟨2, ![1024, 3584]⟩
abbrev S1x1024 : Shape := ⟨2, ![1, 1024]⟩
abbrev S1x1024x1024 : Shape := ⟨3, ![1, 1024, 1024]⟩
abbrev S1x1024x512 : Shape := ⟨3, ![1, 1024, 512]⟩
abbrev S2x512 : Shape := ⟨2, ![2, 512]⟩
abbrev S256x512 : Shape := ⟨2, ![256, 512]⟩
abbrev S1x256x1024 : Shape := ⟨3, ![1, 256, 1024]⟩
abbrev S256x1024 : Shape := ⟨2, ![256, 1024]⟩
abbrev S256 : Shape := ⟨1, ![256]⟩
abbrev S256x1 : Shape := ⟨2, ![256, 1]⟩
abbrev S1024x512 : Shape := ⟨2, ![1024, 512]⟩
abbrev S1x512 : Shape := ⟨2, ![1, 512]⟩
abbrev S1x256x512 : Shape := ⟨3, ![1, 256, 512]⟩
abbrev S1024x256 : Shape := ⟨2, ![1024, 256]⟩
abbrev S256x256 : Shape := ⟨2, ![256, 256]⟩
abbrev S256x2816 : Shape := ⟨2, ![256, 2816]⟩

abbrev nBuf : Space → Nat
  | .hbm => 26
  | .vmem => 20
  | .smem => 0
  | _ => 0

abbrev bufTy : (tb : Table) → Fin (tcTables nBuf tb) → BufTy
  | .hbm, ⟨0, _⟩ => ⟨S16x2048x1024, .f32⟩
  | .hbm, ⟨1, _⟩ => ⟨S16x2048x512, .f32⟩
  | .hbm, ⟨2, _⟩ => ⟨S1024, .f32⟩
  | .hbm, ⟨3, _⟩ => ⟨S1024x5128, .f32⟩
  | .hbm, ⟨4, _⟩ => ⟨S3x512, .f32⟩
  | .hbm, ⟨5, _⟩ => ⟨S512x1024, .f32⟩
  | .hbm, ⟨6, _⟩ => ⟨S512x1024, .f32⟩
  | .hbm, ⟨7, _⟩ => ⟨S1024x1024, .f32⟩
  | .hbm, ⟨8, _⟩ => ⟨S1024, .f32⟩
  | .hbm, ⟨9, _⟩ => ⟨S1024x2816, .f32⟩
  | .hbm, ⟨10, _⟩ => ⟨S1024x2816, .f32⟩
  | .hbm, ⟨11, _⟩ => ⟨S2816x1024, .f32⟩
  | .hbm, ⟨12, _⟩ => ⟨S1024, .f32⟩
  | .hbm, ⟨13, _⟩ => ⟨S1024x3584, .f32⟩
  | .hbm, ⟨14, _⟩ => ⟨S1024x3584, .bf16⟩
  | .hbm, ⟨15, _⟩ => ⟨S16x2048x512, .bf16⟩
  | .hbm, ⟨16, _⟩ => ⟨S1x1024, .f32⟩
  | .hbm, ⟨17, _⟩ => ⟨S512x1024, .bf16⟩
  | .hbm, ⟨18, _⟩ => ⟨S512x1024, .bf16⟩
  | .hbm, ⟨19, _⟩ => ⟨S1024x1024, .bf16⟩
  | .hbm, ⟨20, _⟩ => ⟨S1x1024, .f32⟩
  | .hbm, ⟨21, _⟩ => ⟨S1024x2816, .bf16⟩
  | .hbm, ⟨22, _⟩ => ⟨S1024x2816, .bf16⟩
  | .hbm, ⟨23, _⟩ => ⟨S2816x1024, .bf16⟩
  | .hbm, ⟨24, _⟩ => ⟨S1x1024, .f32⟩
  | .hbm, ⟨25, _⟩ => ⟨S16x2048x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024x512, .bf16⟩
  | .local _ .vmem, ⟨3, _⟩ => ⟨S1x1024x512, .bf16⟩
  | .local _ .vmem, ⟨4, _⟩ => ⟨S1x1024, .f32⟩
  | .local _ .vmem, ⟨5, _⟩ => ⟨S1024x3584, .bf16⟩
  | .local _ .vmem, ⟨6, _⟩ => ⟨S3x512, .f32⟩
  | .local _ .vmem, ⟨7, _⟩ => ⟨S512x1024, .bf16⟩
  | .local _ .vmem, ⟨8, _⟩ => ⟨S512x1024, .bf16⟩
  | .local _ .vmem, ⟨9, _⟩ => ⟨S1024x1024, .bf16⟩
  | .local _ .vmem, ⟨10, _⟩ => ⟨S1x1024, .f32⟩
  | .local _ .vmem, ⟨11, _⟩ => ⟨S1024x2816, .bf16⟩
  | .local _ .vmem, ⟨12, _⟩ => ⟨S1024x2816, .bf16⟩
  | .local _ .vmem, ⟨13, _⟩ => ⟨S2816x1024, .bf16⟩
  | .local _ .vmem, ⟨14, _⟩ => ⟨S1x1024, .f32⟩
  | .local _ .vmem, ⟨15, _⟩ => ⟨S1x1024x1024, .f32⟩
  | .local _ .vmem, ⟨16, _⟩ => ⟨S1x1024x1024, .f32⟩
  | .local _ .vmem, ⟨17, _⟩ => ⟨S1024x1024, .bf16⟩
  | .local _ .vmem, ⟨18, _⟩ => ⟨S1024x2816, .bf16⟩
  | .local _ .vmem, ⟨19, _⟩ => ⟨S2x512, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg13_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem13_1 : DmaSem sig := 16

abbrev nD : Nat := 1
abbrev τ : Topo := Topo.v7x

variable {F : FTy → Type} [FloatOps F]

abbrev grid0 : Pipeline.Grid := ⟨2, ![16, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x3584 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S3x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x2816 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x2816 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S2816x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x1024x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== ReferenceIdeal.lean ====
abbrev S16x2048x1024 : Shape := ⟨3, ![16, 2048, 1024]⟩
abbrev S16x2048x512 : Shape := ⟨3, ![16, 2048, 512]⟩
abbrev S1024 : Shape := ⟨1, ![1024]⟩
abbrev S1024x5128 : Shape := ⟨2, ![1024, 5128]⟩
abbrev S3x512 : Shape := ⟨2, ![3, 512]⟩
abbrev S512x1024 : Shape := ⟨2, ![512, 1024]⟩
abbrev S1024x1024 : Shape := ⟨2, ![1024, 1024]⟩
abbrev S1024x2816 : Shape := ⟨2, ![1024, 2816]⟩
abbrev S2816x1024 : Shape := ⟨2, ![2816, 1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x2048x5128 : Shape := ⟨3, ![16, 2048, 5128]⟩
abbrev S16x2048x3584 : Shape := ⟨3, ![16, 2048, 3584]⟩
abbrev S16x2050x512 : Shape := ⟨3, ![16, 2050, 512]⟩
abbrev S1x512 : Shape := ⟨2, ![1, 512]⟩
abbrev S512 : Shape := ⟨1, ![512]⟩
abbrev S1x1x512 : Shape := ⟨3, ![1, 1, 512]⟩
abbrev S16x2048x2816 : Shape := ⟨3, ![16, 2048, 2816]⟩

abbrev nBuf : Space → Nat
  | .hbm => 133
  | .vmem => 0
  | .smem => 0
  | _ => 0

abbrev hbmTy0_0 (i : Nat) : BufTy := match i % 128 with
  | 0 => ⟨S16x2048x1024, .f32⟩
  | 1 => ⟨S16x2048x512, .f32⟩
  | 2 => ⟨S1024, .f32⟩
  | 3 => ⟨S1024x5128, .f32⟩
  | 4 => ⟨S3x512, .f32⟩
  | 5 => ⟨S512x1024, .f32⟩
  | 6 => ⟨S512x1024, .f32⟩
  | 7 => ⟨S1024x1024, .f32⟩
  | 8 => ⟨S1024, .f32⟩
  | 9 => ⟨S1024x2816, .f32⟩
  | 10 => ⟨S1024x2816, .f32⟩
  | 11 => ⟨S2816x1024, .f32⟩
  | 12 => ⟨S1024, .f32⟩
  | 13 => ⟨S16x2048x1024, .f32⟩
  | 14 => ⟨S_, .f32⟩
  | 15 => ⟨S16x2048, .f32⟩
  | 16 => ⟨S16x2048x1, .f32⟩
  | 17 => ⟨S_, .f32⟩
  | 18 => ⟨S16x2048x1, .f32⟩
  | 19 => ⟨S16x2048x1, .f32⟩
  | 20 => ⟨S_, .f32⟩
  | 21 => ⟨S16x2048x1, .f32⟩
  | 22 => ⟨S16x2048x1, .f32⟩
  | 23 => ⟨S16x2048x1, .f32⟩
  | 24 => ⟨S16x2048x1024, .f32⟩
  | 25 => ⟨S16x2048x1024, .f32⟩
  | 26 => ⟨S1x1x1024, .f32⟩
  | 27 => ⟨S16x2048x1024, .f32⟩
  | 28 => ⟨S16x2048x1024, .f32⟩
  | 29 => ⟨S16x2048x5128, .f32⟩
  | 30 => ⟨S16x2048x3584, .f32⟩
  | 31 => ⟨S16x2048x512, .f32⟩
  | 32 => ⟨S16x2048x512, .f32⟩
  | 33 => ⟨S16x2048x512, .f32⟩
  | 34 => ⟨S16x2048x1024, .f32⟩
  | 35 => ⟨S16x2048x1024, .f32⟩
  | 36 => ⟨S16x2048x1024, .f32⟩
  | 37 => ⟨S16x2048x512, .f32⟩
  | 38 => ⟨S_, .i32⟩
  | 39 => ⟨S_, .f32⟩
  | 40 => ⟨S16x2050x512, .f32⟩
  | 41 => ⟨S1x512, .f32⟩
  | 42 => ⟨S512, .f32⟩
  | 43 => ⟨S16x2048x512, .f32⟩
  | 44 => ⟨S1x1x512, .f32⟩
  | 45 => ⟨S16x2048x512, .f32⟩
  | 46 => ⟨S16x2048x512, .f32⟩
  | 47 => ⟨S1x512, .f32⟩
  | 48 => ⟨S512, .f32⟩
  | 49 => ⟨S16x2048x512, .f32⟩
  | 50 => ⟨S1x1x512, .f32⟩
  | 51 => ⟨S16x2048x512, .f32⟩
  | 52 => ⟨S16x2048x512, .f32⟩
  | 53 => ⟨S16x2048x512, .f32⟩
  | 54 => ⟨S1x512, .f32⟩
  | 55 => ⟨S512, .f32⟩
  | 56 => ⟨S16x2048x512, .f32⟩
  | 57 => ⟨S1x1x512, .f32⟩
  | 58 => ⟨S16x2048x512, .f32⟩
  | 59 => ⟨S16x2048x512, .f32⟩
  | 60 => ⟨S16x2048x512, .f32⟩
  | 61 => ⟨S16x2048x512, .f32⟩
  | 62 => ⟨S16x2048x1024, .f32⟩
  | 63 => ⟨S16x2048x1024, .f32⟩
  | 64 => ⟨S16x2048x1024, .f32⟩
  | 65 => ⟨S_, .f32⟩
  | 66 => ⟨S16x2048x1024, .f32⟩
  | 67 => ⟨S16x2048x1024, .f32⟩
  | 68 => ⟨S_, .f32⟩
  | 69 => ⟨S16x2048x1024, .f32⟩
  | 70 => ⟨S16x2048x1024, .f32⟩
  | 71 => ⟨S16x2048x1024, .f32⟩
  | 72 => ⟨S16x2048x1024, .f32⟩
  | 73 => ⟨S16x2048x1024, .f32⟩
  | 74 => ⟨S_, .f32⟩
  | 75 => ⟨S16x2048x1024, .f32⟩
  | 76 => ⟨S16x2048x1024, .f32⟩
  | 77 => ⟨S_, .f32⟩
  | 78 => ⟨S16x2048x1024, .f32⟩
  | 79 => ⟨S16x2048x1024, .f32⟩
  | 80 => ⟨S16x2048x1024, .f32⟩
  | 81 => ⟨S16x2048x1024, .f32⟩
  | 82 => ⟨S16x2048x1024, .f32⟩
  | 83 => ⟨S16x2048x1024, .f32⟩
  | 84 => ⟨S16x2048x1024, .f32⟩
  | 85 => ⟨S_, .f32⟩
  | 86 => ⟨S16x2048, .f32⟩
  | 87 => ⟨S16x2048x1, .f32⟩
  | 88 => ⟨S_, .f32⟩
  | 89 => ⟨S16x2048x1, .f32⟩
  | 90 => ⟨S16x2048x1, .f32⟩
  | 91 => ⟨S_, .f32⟩
  | 92 => ⟨S16x2048x1, .f32⟩
  | 93 => ⟨S16x2048x1, .f32⟩
  | 94 => ⟨S16x2048x1, .f32⟩
  | 95 => ⟨S16x2048x1024, .f32⟩
  | 96 => ⟨S16x2048x1024, .f32⟩
  | 97 => ⟨S1x1x1024, .f32⟩
  | 98 => ⟨S16x2048x1024, .f32⟩
  | 99 => ⟨S16x2048x1024, .f32⟩
  | 100 => ⟨S16x2048x2816, .f32⟩
  | 101 => ⟨S16x2048x2816, .f32⟩
  | 102 => ⟨S16x2048x2816, .f32⟩
  | 103 => ⟨S_, .f32⟩
  | 104 => ⟨S16x2048x2816, .f32⟩
  | 105 => ⟨S16x2048x2816, .f32⟩
  | 106 => ⟨S_, .f32⟩
  | 107 => ⟨S16x2048x2816, .f32⟩
  | 108 => ⟨S16x2048x2816, .f32⟩
  | 109 => ⟨S16x2048x2816, .f32⟩
  | 110 => ⟨S16x2048x2816, .f32⟩
  | 111 => ⟨S16x2048x2816, .f32⟩
  | 112 => ⟨S16x2048x1024, .f32⟩
  | 113 => ⟨S_, .f32⟩
  | 114 => ⟨S16x2048x1024, .f32⟩
  | 115 => ⟨S16x2048x1024, .f32⟩
  | 116 => ⟨S16x2048x1024, .f32⟩
  | 117 => ⟨S16x2048x1024, .f32⟩
  | 118 => ⟨S_, .f32⟩
  | 119 => ⟨S16x2048, .f32⟩
  | 120 => ⟨S16x2048x1, .f32⟩
  | 121 => ⟨S_, .f32⟩
  | 122 => ⟨S16x2048x1, .f32⟩
  | 123 => ⟨S16x2048x1, .f32⟩
  | 124 => ⟨S_, .f32⟩
  | 125 => ⟨S16x2048x1, .f32⟩
  | 126 => ⟨S16x2048x1, .f32⟩
  | 127 => ⟨S16x2048x1, .f32⟩
  | _ => ⟨S16x2048x1024, .f32⟩

abbrev hbmTy0_1 (i : Nat) : BufTy := match i % 128 with
  | 0 => ⟨S16x2048x1024, .f32⟩
  | 1 => ⟨S16x2048x1024, .f32⟩
  | 2 => ⟨S1x1x1024, .f32⟩
  | 3 => ⟨S16x2048x1024, .f32⟩
  | 4 => ⟨S16x2048x1024, .f32⟩
  | _ => ⟨S16x2048x1024, .f32⟩

abbrev hbmTy (i : Nat) : BufTy := match i / 128 with
  | 0 => hbmTy0_0 i
  | 1 => hbmTy0_1 i
  | _ => ⟨S16x2048x1024, .f32⟩

abbrev bufTy : (tb : Table) → Fin (tcTables nBuf tb) → BufTy
  | .hbm, ⟨i, _⟩ => hbmTy i
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_cst : Ref sig .tc := ⟨.hbm, 14, rfl⟩
abbrev main_v1 : Ref sig .tc := ⟨.hbm, 15, rfl⟩
abbrev main_v2 : Ref sig .tc := ⟨.hbm, 16, rfl⟩
abbrev main_cst_0 : Ref sig .tc := ⟨.hbm, 17, rfl⟩
abbrev main_v3 : Ref sig .tc := ⟨.hbm, 18, rfl⟩
abbrev main_v4 : Ref sig .tc := ⟨.hbm, 19, rfl⟩
abbrev main_cst_1 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c : Ref sig .tc := ⟨.hbm, 38, rfl⟩
abbrev main_call0_v0 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_2 : Ref sig .tc := ⟨.hbm, 65, rfl⟩
abbrev main_v47 : Ref sig .tc := ⟨.hbm, 66, rfl⟩
abbrev main_v48 : Ref sig .tc := ⟨.hbm, 67, rfl⟩
abbrev main_cst_3 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_4 : Ref sig .tc := ⟨.hbm, 74, rfl⟩
abbrev main_v54 : Ref sig .tc := ⟨.hbm, 75, rfl⟩
abbrev main_v55 : Ref sig .tc := ⟨.hbm, 76, rfl⟩
abbrev main_cst_5 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_cst_6 : Ref sig .tc := ⟨.hbm, 85, rfl⟩
abbrev main_v63 : Ref sig .tc := ⟨.hbm, 86, rfl⟩
abbrev main_v64 : Ref sig .tc := ⟨.hbm, 87, rfl⟩
abbrev main_cst_7 : Ref sig .tc := ⟨.hbm, 88, rfl⟩
abbrev main_v65 : Ref sig .tc := ⟨.hbm, 89, rfl⟩
abbrev main_v66 : Ref sig .tc := ⟨.hbm, 90, rfl⟩
abbrev main_cst_8 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_call1_v0 : Ref sig .tc := ⟨.hbm, 101, rfl⟩
abbrev main_call1_v1 : Ref sig .tc := ⟨.hbm, 102, rfl⟩
abbrev main_call1_cst : Ref sig .tc := ⟨.hbm, 103, rfl⟩
abbrev main_call1_v2 : Ref sig .tc := ⟨.hbm, 104, rfl⟩
abbrev main_call1_v3 : Ref sig .tc := ⟨.hbm, 105, rfl⟩
abbrev main_call1_cst_0 : Ref sig .tc := ⟨.hbm, 106, rfl⟩
abbrev main_call1_v4 : Ref sig .tc := ⟨.hbm, 107, rfl⟩
abbrev main_call1_v5 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_cst_9 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_cst_10 : Ref sig .tc := ⟨.hbm, 118, rfl⟩
abbrev main_v84 : Ref sig .tc := ⟨.hbm, 119, rfl⟩
abbrev main_v85 : Ref sig .tc := ⟨.hbm, 120, rfl⟩
abbrev main_cst_11 : Ref sig .tc := ⟨.hbm, 121, rfl⟩
abbrev main_v86 : Ref sig .tc := ⟨.hbm, 122, rfl⟩
abbrev main_v87 : Ref sig .tc := ⟨.hbm, 123, rfl⟩
abbrev main_cst_12 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩

abbrev nD : Nat := 1
abbrev τ : Topo := Topo.v7x

variable {F : FTy → Type} [FloatOps F]
-- ==== Kernel2.lean ====
abbrev S16x2048x1024 : Shape := ⟨3, ![16, 2048, 1024]⟩
abbrev S1024 : Shape := ⟨1, ![1024]⟩
abbrev S1024x2816 : Shape := ⟨2, ![1024, 2816]⟩
abbrev S2816x1024 : Shape := ⟨2, ![2816, 1024]⟩
abbrev S1024x5128 : Shape := ⟨2, ![1024, 5128]⟩
abbrev S8 : Shape := ⟨1, ![8]⟩
abbrev S1024x1544 : Shape := ⟨2, ![1024, 1544]⟩
abbrev S_ : Shape := ⟨0, ![]⟩
abbrev S1024x1664 : Shape := ⟨2, ![1024, 1664]⟩
abbrev S1x8 : Shape := ⟨2, ![1, 8]⟩
abbrev S1x128 : Shape := ⟨2, ![1, 128]⟩
abbrev S1x1024 : Shape := ⟨2, ![1, 1024]⟩
abbrev S16x640x2048 : Shape := ⟨3, ![16, 640, 2048]⟩
abbrev S16x2048x128 : Shape := ⟨3, ![16, 2048, 128]⟩
abbrev S1x1024x1024 : Shape := ⟨3, ![1, 1024, 1024]⟩
abbrev S1x640x1024 : Shape := ⟨3, ![1, 640, 1024]⟩
abbrev S1x1024x128 : Shape := ⟨3, ![1, 1024, 128]⟩
abbrev S1024x1024 : Shape := ⟨2, ![1024, 1024]⟩
abbrev S1x512x1024 : Shape := ⟨3, ![1, 512, 1024]⟩
abbrev S512x1024 : Shape := ⟨2, ![512, 1024]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S512x2816 : Shape := ⟨2, ![512, 2816]⟩
abbrev S512x1664 : Shape := ⟨2, ![512, 1664]⟩
abbrev S512x512 : Shape := ⟨2, ![512, 512]⟩
abbrev S1x512x512 : Shape := ⟨3, ![1, 512, 512]⟩
abbrev S64x512 : Shape := ⟨2, ![64, 512]⟩
abbrev S1x64x512 : Shape := ⟨3, ![1, 64, 512]⟩
abbrev S16x512 : Shape := ⟨2, ![16, 512]⟩
abbrev S1x16x512 : Shape := ⟨3, ![1, 16, 512]⟩
abbrev S512x128 : Shape := ⟨2, ![512, 128]⟩
abbrev S1x512x128 : Shape := ⟨3, ![1, 512, 128]⟩

abbrev nBuf : Space → Nat
  | .hbm => 26
  | .vmem => 20
  | .smem => 0
  | _ => 0

abbrev bufTy : (tb : Table) → Fin (tcTables nBuf tb) → BufTy
  | .hbm, ⟨0, _⟩ => ⟨S16x2048x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024, .f32⟩
  | .hbm, ⟨6, _⟩ => ⟨S1024x5128, .f32⟩
  | .hbm, ⟨7, _⟩ => ⟨S8, .f32⟩
  | .hbm, ⟨8, _⟩ => ⟨S1024x1544, .f32⟩
  | .hbm, ⟨9, _⟩ => ⟨S_, .i32⟩
  | .hbm, ⟨10, _⟩ => ⟨S_, .f32⟩
  | .hbm, ⟨11, _⟩ => ⟨S1024x1664, .f32⟩
  | .hbm, ⟨12, _⟩ => ⟨S1024x1664, .bf16⟩
  | .hbm, ⟨13, _⟩ => ⟨S1x8, .f32⟩
  | .hbm, ⟨14, _⟩ => ⟨S_, .i32⟩
  | .hbm, ⟨15, _⟩ => ⟨S_, .f32⟩
  | .hbm, ⟨16, _⟩ => ⟨S1x128, .f32⟩
  | .hbm, ⟨17, _⟩ => ⟨S1x1024, .f32⟩
  | .hbm, ⟨18, _⟩ => ⟨S1024x2816, .bf16⟩
  | .hbm, ⟨19, _⟩ => ⟨S1024x2816, .bf16⟩
  | .hbm, ⟨20, _⟩ => ⟨S2816x1024, .bf16⟩
  | .hbm, ⟨21, _⟩ => ⟨S1x1024, .f32⟩
  | .hbm, ⟨22, _⟩ => ⟨S16x2048x1024, .f32⟩
  | .hbm, ⟨23, _⟩ => ⟨S16x2048x1024, .bf16⟩
  | .hbm, ⟨24, _⟩ => ⟨S16x640x2048, .bf16⟩
  | .hbm, ⟨25, _⟩ => ⟨S16x2048x128, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S1x1024, .f32⟩
  | .local _ .vmem, ⟨7, _⟩ => ⟨S1024x1664, .bf16⟩
  | .local _ .vmem, ⟨8, _⟩ => ⟨S1x128, .f32⟩
  | .local _ .vmem, ⟨9, _⟩ => ⟨S1x1024x1024, .f32⟩
  | .local _ .vmem, ⟨10, _⟩ => ⟨S1x1024x1024, .f32⟩
  | .local _ .vmem, ⟨11, _⟩ => ⟨S1x1024x1024, .bf16⟩
  | .local _ .vmem, ⟨12, _⟩ => ⟨S1x1024x1024, .bf16⟩
  | .local _ .vmem, ⟨13, _⟩ => ⟨S1x640x1024, .bf16⟩
  | .local _ .vmem, ⟨14, _⟩ => ⟨S1x640x1024, .bf16⟩
  | .local _ .vmem, ⟨15, _⟩ => ⟨S1x1024x128, .f32⟩
  | .local _ .vmem, ⟨16, _⟩ => ⟨S1x1024x128, .f32⟩
  | .local _ .vmem, ⟨17, _⟩ => ⟨S1024x1024, .bf16⟩
  | .local _ .vmem, ⟨18, _⟩ => ⟨S1024x2816, .bf16⟩
  | .local _ .vmem, ⟨19, _⟩ => ⟨S1x128, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_call0_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c_0 : Ref sig .tc := ⟨.hbm, 14, rfl⟩
abbrev main_call1_v0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10_0 : Ref sig .tc := ⟨.hbm, 22, rfl⟩
abbrev main_v10_1 : Ref sig .tc := ⟨.hbm, 23, rfl⟩
abbrev main_v10_2 : Ref sig .tc := ⟨.hbm, 24, rfl⟩
abbrev main_v10_3 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16

abbrev nD : Nat := 1
abbrev τ : Topo := Topo.v7x

variable {F : FTy → Type} [FloatOps F]

abbrev grid0 : Pipeline.Grid := ⟨2, ![16, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x1664 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1024x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x640x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1024x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== Reference2Ideal.lean ====
abbrev S16x2048x1024 : Shape := ⟨3, ![16, 2048, 1024]⟩
abbrev S1024 : Shape := ⟨1, ![1024]⟩
abbrev S1024x2816 : Shape := ⟨2, ![1024, 2816]⟩
abbrev S2816x1024 : Shape := ⟨2, ![2816, 1024]⟩
abbrev S1024x5128 : Shape := ⟨2, ![1024, 5128]⟩
abbrev S8 : Shape := ⟨1, ![8]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x2048x2816 : Shape := ⟨3, ![16, 2048, 2816]⟩
abbrev S16x2048x5128 : Shape := ⟨3, ![16, 2048, 5128]⟩
abbrev S16x2048x1544 : Shape := ⟨3, ![16, 2048, 1544]⟩
abbrev S16x2048x512 : Shape := ⟨3, ![16, 2048, 512]⟩
abbrev S16x2048x8 : Shape := ⟨3, ![16, 2048, 8]⟩
abbrev S1x1x8 : Shape := ⟨3, ![1, 1, 8]⟩
abbrev S16x2048x8x64 : Shape := ⟨4, ![16, 2048, 8, 64]⟩
abbrev S16x8x64x2048 : Shape := ⟨4, ![16, 8, 64, 2048]⟩
abbrev S16x8x80x2048 : Shape := ⟨4, ![16, 8, 80, 2048]⟩
abbrev S16x2048x128 : Shape := ⟨3, ![16, 2048, 128]⟩
abbrev S16x640x2048 : Shape := ⟨3, ![16, 640, 2048]⟩

abbrev nBuf : Space → Nat
  | .hbm => 106
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024, .f32⟩
  | .hbm, ⟨6, _⟩ => ⟨S1024x5128, .f32⟩
  | .hbm, ⟨7, _⟩ => ⟨S8, .f32⟩
  | .hbm, ⟨8, _⟩ => ⟨S16x2048x1024, .f32⟩
  | .hbm, ⟨9, _⟩ => ⟨S_, .f32⟩
  | .hbm, ⟨10, _⟩ => ⟨S16x2048, .f32⟩
  | .hbm, ⟨11, _⟩ => ⟨S16x2048x1, .f32⟩
  | .hbm, ⟨12, _⟩ => ⟨S_, .f32⟩
  | .hbm, ⟨13, _⟩ => ⟨S16x2048x1, .f32⟩
  | .hbm, ⟨14, _⟩ => ⟨S16x2048x1, .f32⟩
  | .hbm, ⟨15, _⟩ => ⟨S_, .f32⟩
  | .hbm, ⟨16, _⟩ => ⟨S16x2048x1, .f32⟩
  | .hbm, ⟨17, _⟩ => ⟨S16x2048x1, .f32⟩
  | .hbm, ⟨18, _⟩ => ⟨S16x2048x1, .f32⟩
  | .hbm, ⟨19, _⟩ => ⟨S16x2048x1024, .f32⟩
  | .hbm, ⟨20, _⟩ => ⟨S16x2048x1024, .f32⟩
  | .hbm, ⟨21, _⟩ => ⟨S1x1x1024, .f32⟩
  | .hbm, ⟨22, _⟩ => ⟨S16x2048x1024, .f32⟩
  | .hbm, ⟨23, _⟩ => ⟨S16x2048x1024, .f32⟩
  | .hbm, ⟨24, _⟩ => ⟨S16x2048x2816, .f32⟩
  | .hbm, ⟨25, _⟩ => ⟨S16x2048x2816, .f32⟩
  | .hbm, ⟨26, _⟩ => ⟨S16x2048x2816, .f32⟩
  | .hbm, ⟨27, _⟩ => ⟨S_, .f32⟩
  | .hbm, ⟨28, _⟩ => ⟨S16x2048x2816, .f32⟩
  | .hbm, ⟨29, _⟩ => ⟨S16x2048x2816, .f32⟩
  | .hbm, ⟨30, _⟩ => ⟨S_, .f32⟩
  | .hbm, ⟨31, _⟩ => ⟨S16x2048x2816, .f32⟩
  | .hbm, ⟨32, _⟩ => ⟨S16x2048x2816, .f32⟩
  | .hbm, ⟨33, _⟩ => ⟨S16x2048x2816, .f32⟩
  | .hbm, ⟨34, _⟩ => ⟨S16x2048x2816, .f32⟩
  | .hbm, ⟨35, _⟩ => ⟨S16x2048x2816, .f32⟩
  | .hbm, ⟨36, _⟩ => ⟨S16x2048x1024, .f32⟩
  | .hbm, ⟨37, _⟩ => ⟨S_, .f32⟩
  | .hbm, ⟨38, _⟩ => ⟨S16x2048x1024, .f32⟩
  | .hbm, ⟨39, _⟩ => ⟨S16x2048x1024, .f32⟩
  | .hbm, ⟨40, _⟩ => ⟨S16x2048x1024, .f32⟩
  | .hbm, ⟨41, _⟩ => ⟨S16x2048x1024, .f32⟩
  | .hbm, ⟨42, _⟩ => ⟨S_, .f32⟩
  | .hbm, ⟨43, _⟩ => ⟨S16x2048, .f32⟩
  | .hbm, ⟨44, _⟩ => ⟨S16x2048x1, .f32⟩
  | .hbm, ⟨45, _⟩ => ⟨S_, .f32⟩
  | .hbm, ⟨46, _⟩ => ⟨S16x2048x1, .f32⟩
  | .hbm, ⟨47, _⟩ => ⟨S16x2048x1, .f32⟩
  | .hbm, ⟨48, _⟩ => ⟨S_, .f32⟩
  | .hbm, ⟨49, _⟩ => ⟨S16x2048x1, .f32⟩
  | .hbm, ⟨50, _⟩ => ⟨S16x2048x1, .f32⟩
  | .hbm, ⟨51, _⟩ => ⟨S16x2048x1, .f32⟩
  | .hbm, ⟨52, _⟩ => ⟨S16x2048x1024, .f32⟩
  | .hbm, ⟨53, _⟩ => ⟨S16x2048x1024, .f32⟩
  | .hbm, ⟨54, _⟩ => ⟨S1x1x1024, .f32⟩
  | .hbm, ⟨55, _⟩ => ⟨S16x2048x1024, .f32⟩
  | .hbm, ⟨56, _⟩ => ⟨S16x2048x1024, .f32⟩
  | .hbm, ⟨57, _⟩ => ⟨S16x2048x5128, .f32⟩
  | .hbm, ⟨58, _⟩ => ⟨S16x2048x1544, .f32⟩
  | .hbm, ⟨59, _⟩ => ⟨S16x2048x512, .f32⟩
  | .hbm, ⟨60, _⟩ => ⟨S16x2048x512, .f32⟩
  | .hbm, ⟨61, _⟩ => ⟨S16x2048x512, .f32⟩
  | .hbm, ⟨62, _⟩ => ⟨S16x2048x8, .f32⟩
  | .hbm, ⟨63, _⟩ => ⟨S1x1x8, .f32⟩
  | .hbm, ⟨64, _⟩ => ⟨S16x2048x8, .f32⟩
  | .hbm, ⟨65, _⟩ => ⟨S16x2048x8, .f32⟩
  | .hbm, ⟨66, _⟩ => ⟨S16x2048x8, .f32⟩
  | .hbm, ⟨67, _⟩ => ⟨S_, .f32⟩
  | .hbm, ⟨68, _⟩ => ⟨S16x2048x8, .f32⟩
  | .hbm, ⟨69, _⟩ => ⟨S16x2048x8, .f32⟩
  | .hbm, ⟨70, _⟩ => ⟨S16x2048x8, .f32⟩
  | .hbm, ⟨71, _⟩ => ⟨S16x2048x8, .f32⟩
  | .hbm, ⟨72, _⟩ => ⟨S16x2048x8, .i1⟩
  | .hbm, ⟨73, _⟩ => ⟨S16x2048x8, .f32⟩
  | .hbm, ⟨74, _⟩ => ⟨S16x2048x8, .f32⟩
  | .hbm, ⟨75, _⟩ => ⟨S16x2048x8, .f32⟩
  | .hbm, ⟨76, _⟩ => ⟨S16x2048x8, .f32⟩
  | .hbm, ⟨77, _⟩ => ⟨S16x2048x8, .f32⟩
  | .hbm, ⟨78, _⟩ => ⟨S16x2048x8, .f32⟩
  | .hbm, ⟨79, _⟩ => ⟨S16x2048x8, .f32⟩
  | .hbm, ⟨80, _⟩ => ⟨S16x2048x8, .f32⟩
  | .hbm, ⟨81, _⟩ => ⟨S16x2048x8, .f32⟩
  | .hbm, ⟨82, _⟩ => ⟨S_, .f32⟩
  | .hbm, ⟨83, _⟩ => ⟨S_, .f32⟩
  | .hbm, ⟨84, _⟩ => ⟨S16x2048x8, .f32⟩
  | .hbm, ⟨85, _⟩ => ⟨S_, .f32⟩
  | .hbm, ⟨86, _⟩ => ⟨S16x2048x512, .f32⟩
  | .hbm, ⟨87, _⟩ => ⟨S16x2048x512, .f32⟩
  | .hbm, ⟨88, _⟩ => ⟨S_, .f32⟩
  | .hbm, ⟨89, _⟩ => ⟨S16x2048x512, .f32⟩
  | .hbm, ⟨90, _⟩ => ⟨S16x2048x512, .f32⟩
  | .hbm, ⟨91, _⟩ => ⟨S16x2048x1024, .f32⟩
  | .hbm, ⟨92, _⟩ => ⟨S16x2048x8x64, .f32⟩
  | .hbm, ⟨93, _⟩ => ⟨S16x8x64x2048, .f32⟩
  | .hbm, ⟨94, _⟩ => ⟨S_, .f32⟩
  | .hbm, ⟨95, _⟩ => ⟨S_, .f32⟩
  | .hbm, ⟨96, _⟩ => ⟨S16x8x80x2048, .f32⟩
  | .hbm, ⟨97, _⟩ => ⟨S_, .f32⟩
  | .hbm, ⟨98, _⟩ => ⟨S16x2048x8, .f32⟩
  | .hbm, ⟨99, _⟩ => ⟨S16x2048x8, .f32⟩
  | .hbm, ⟨100, _⟩ => ⟨S_, .i32⟩
  | .hbm, ⟨101, _⟩ => ⟨S_, .f32⟩
  | .hbm, ⟨102, _⟩ => ⟨S16x2048x128, .f32⟩
  | .hbm, ⟨103, _⟩ => ⟨S16x2048x1024, .bf16⟩
  | .hbm, ⟨104, _⟩ => ⟨S16x640x2048, .f32⟩
  | .hbm, ⟨105, _⟩ => ⟨S16x640x2048, .bf16⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_call0_v5 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_cst_2 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_3 : Ref sig .tc := ⟨.hbm, 42, rfl⟩
abbrev main_v22 : Ref sig .tc := ⟨.hbm, 43, rfl⟩
abbrev main_v23 : Ref sig .tc := ⟨.hbm, 44, rfl⟩
abbrev main_cst_4 : Ref sig .tc := ⟨.hbm, 45, rfl⟩
abbrev main_v24 : Ref sig .tc := ⟨.hbm, 46, rfl⟩
abbrev main_v25 : Ref sig .tc := ⟨.hbm, 47, rfl⟩
abbrev main_cst_5 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_call1_v0 : Ref sig .tc := ⟨.hbm, 66, rfl⟩
abbrev main_call1_call0_cst : Ref sig .tc := ⟨.hbm, 67, rfl⟩
abbrev main_call1_call0_v0 : Ref sig .tc := ⟨.hbm, 68, rfl⟩
abbrev main_call1_call0_v1 : Ref sig .tc := ⟨.hbm, 69, rfl⟩
abbrev main_call1_call0_v2 : Ref sig .tc := ⟨.hbm, 70, rfl⟩
abbrev main_call1_call0_v3 : Ref sig .tc := ⟨.hbm, 71, rfl⟩
abbrev main_call1_call0_v4 : Ref sig .tc := ⟨.hbm, 72, rfl⟩
abbrev main_call1_call0_v5 : Ref sig .tc := ⟨.hbm, 73, rfl⟩
abbrev main_call1_call0_v6 : Ref sig .tc := ⟨.hbm, 74, rfl⟩
abbrev main_call1_call0_v7 : Ref sig .tc := ⟨.hbm, 75, rfl⟩
abbrev main_call1_call0_v8 : Ref sig .tc := ⟨.hbm, 76, rfl⟩
abbrev main_call1_call0_v9 : Ref sig .tc := ⟨.hbm, 77, rfl⟩
abbrev main_call1_call0_v10 : Ref sig .tc := ⟨.hbm, 78, rfl⟩
abbrev main_call1_call0_v11 : Ref sig .tc := ⟨.hbm, 79, rfl⟩
abbrev main_call1_v1 : Ref sig .tc := ⟨.hbm, 80, rfl⟩
abbrev main_v43 : Ref sig .tc := ⟨.hbm, 81, rfl⟩
abbrev main_call2_call0_cst : Ref sig .tc := ⟨.hbm, 82, rfl⟩
abbrev main_call2_call0_v0 : Ref sig .tc := ⟨.hbm, 83, rfl⟩
abbrev main_v44 : Ref sig .tc := ⟨.hbm, 84, rfl⟩
abbrev main_cst_6 : Ref sig .tc := ⟨.hbm, 85, rfl⟩
abbrev main_v45 : Ref sig .tc := ⟨.hbm, 86, rfl⟩
abbrev main_v46 : Ref sig .tc := ⟨.hbm, 87, rfl⟩
abbrev main_cst_7 : Ref sig .tc := ⟨.hbm, 88, rfl⟩
abbrev main_v47 : Ref sig .tc := ⟨.hbm, 89, rfl⟩
abbrev main_v48 : Ref sig .tc := ⟨.hbm, 90, rfl⟩
abbrev main_v49 : Ref sig .tc := ⟨.hbm, 91, rfl⟩
abbrev main_v50 : Ref sig .tc := ⟨.hbm, 92, rfl⟩
abbrev main_v51 : Ref sig .tc := ⟨.hbm, 93, rfl⟩
abbrev main_cst_8 : Ref sig .tc := ⟨.hbm, 94, rfl⟩
abbrev main_call3_v0 : Ref sig .tc := ⟨.hbm, 95, rfl⟩
abbrev main_v52 : Ref sig .tc := ⟨.hbm, 96, rfl⟩
abbrev main_cst_9 : Ref sig .tc := ⟨.hbm, 97, rfl⟩
abbrev main_v53 : Ref sig .tc := ⟨.hbm, 98, rfl⟩
abbrev main_v54 : Ref sig .tc := ⟨.hbm, 99, rfl⟩
abbrev main_c : Ref sig .tc := ⟨.hbm, 100, rfl⟩
abbrev main_call4_v0 : Ref sig .tc := ⟨.hbm, 101, rfl⟩
abbrev main_v55 : Ref sig .tc := ⟨.hbm, 102, rfl⟩
abbrev main_v56 : Ref sig .tc := ⟨.hbm, 103, rfl⟩
abbrev main_v57 : Ref sig .tc := ⟨.hbm, 104, rfl⟩
abbrev main_v58 : Ref sig .tc := ⟨.hbm, 105, rfl⟩

abbrev nD : Nat := 1
abbrev τ : Topo := Topo.v7x

variable {F : FTy → Type} [FloatOps F]
-- ==== Kernel3.lean ====
abbrev S16x2048x512 : Shape := ⟨3, ![16, 2048, 512]⟩
abbrev S16x2048x8 : Shape := ⟨3, ![16, 2048, 8]⟩
abbrev S_ : Shape := ⟨0, ![]⟩
abbrev S16x2048x1024 : Shape := ⟨3, ![16, 2048, 1024]⟩
abbrev S16x512x2048 : Shape := ⟨3, ![16, 512, 2048]⟩
abbrev S16x8x64x2048 : Shape := ⟨4, ![16, 8, 64, 2048]⟩
abbrev S16x8x16x2048 : Shape := ⟨4, ![16, 8, 16, 2048]⟩
abbrev S16x8x80x2048 : Shape := ⟨4, ![16, 8, 80, 2048]⟩
abbrev S16x640x2048 : Shape := ⟨3, ![16, 640, 2048]⟩
abbrev S16x2048x128 : Shape := ⟨3, ![16, 2048, 128]⟩
abbrev S384x512 : Shape := ⟨2, ![384, 512]⟩
abbrev S1x2048x1024 : Shape := ⟨3, ![1, 2048, 1024]⟩
abbrev S1x640x2048 : Shape := ⟨3, ![1, 640, 2048]⟩
abbrev S1x2048x128 : Shape := ⟨3, ![1, 2048, 128]⟩
abbrev S1x2048x512 : Shape := ⟨3, ![1, 2048, 512]⟩
abbrev S4x8x512x256 : Shape := ⟨4, ![4, 8, 512, 256]⟩
abbrev S8x4x256x256 : Shape := ⟨4, ![8, 4, 256, 256]⟩
abbrev S2x8x256 : Shape := ⟨3, ![2, 8, 256]⟩
abbrev S2x640x256 : Shape := ⟨3, ![2, 640, 256]⟩
abbrev S2x512x256 : Shape := ⟨3, ![2, 512, 256]⟩
abbrev S256x128 : Shape := ⟨2, ![256, 128]⟩
abbrev S1x256x128 : Shape := ⟨3, ![1, 256, 128]⟩
abbrev S256x384 : Shape := ⟨2, ![256, 384]⟩
abbrev S256x512 : Shape := ⟨2, ![256, 512]⟩
abbrev S1x1x256x128 : Shape := ⟨4, ![1, 1, 256, 128]⟩
abbrev S1x1x512x256 : Shape := ⟨4, ![1, 1, 512, 256]⟩
abbrev S512x256 : Shape := ⟨2, ![512, 256]⟩
abbrev S1x1x256x256 : Shape := ⟨4, ![1, 1, 256, 256]⟩
abbrev S256x256 : Shape := ⟨2, ![256, 256]⟩
abbrev S8x256 : Shape := ⟨2, ![8, 256]⟩
abbrev S1x8x256 : Shape := ⟨3, ![1, 8, 256]⟩
abbrev S640x256 : Shape := ⟨2, ![640, 256]⟩
abbrev S1x640x256 : Shape := ⟨3, ![1, 640, 256]⟩
abbrev S1x1x128 : Shape := ⟨3, ![1, 1, 128]⟩
abbrev S1x128 : Shape := ⟨2, ![1, 128]⟩
abbrev S128 : Shape := ⟨1, ![128]⟩
abbrev S1x80x256 : Shape := ⟨3, ![1, 80, 256]⟩
abbrev S80x256 : Shape := ⟨2, ![80, 256]⟩
abbrev S1x80x128 : Shape := ⟨3, ![1, 80, 128]⟩
abbrev S80x128 : Shape := ⟨2, ![80, 128]⟩
abbrev S1x64x256 : Shape := ⟨3, ![1, 64, 256]⟩
abbrev S64x256 : Shape := ⟨2, ![64, 256]⟩
abbrev S1x1x256 : Shape := ⟨3, ![1, 1, 256]⟩
abbrev S1x256 : Shape := ⟨2, ![1, 256]⟩
abbrev S1x512x256 : Shape := ⟨3, ![1, 512, 256]⟩
abbrev S1x256x512 : Shape := ⟨3, ![1, 256, 512]⟩

abbrev nBuf : Space → Nat
  | .hbm => 121
  | .vmem => 15
  | .smem => 0
  | _ => 0

abbrev bufTy : (tb : Table) → Fin (tcTables nBuf tb) → BufTy
  | .hbm, ⟨0, _⟩ => ⟨S16x2048x512, .f32⟩
  | .hbm, ⟨1, _⟩ => ⟨S16x2048x512, .f32⟩
  | .hbm, ⟨2, _⟩ => ⟨S16x2048x512, .f32⟩
  | .hbm, ⟨3, _⟩ => ⟨S16x2048x8, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S16x2048x512, .f32⟩
  | .hbm, ⟨10, _⟩ => ⟨S16x2048x512, .f32⟩
  | .hbm, ⟨11, _⟩ => ⟨S16x2048x512, .f32⟩
  | .hbm, ⟨12, _⟩ => ⟨S16x2048x512, .f32⟩
  | .hbm, ⟨13, _⟩ => ⟨S16x2048x512, .bf16⟩
  | .hbm, ⟨14, _⟩ => ⟨S16x2048x512, .bf16⟩
  | .hbm, ⟨15, _⟩ => ⟨S16x2048x1024, .bf16⟩
  | .hbm, ⟨16, _⟩ => ⟨S16x512x2048, .f32⟩
  | .hbm, ⟨17, _⟩ => ⟨S16x8x64x2048, .f32⟩
  | .hbm, ⟨18, _⟩ => ⟨S_, .f32⟩
  | .hbm, ⟨19, _⟩ => ⟨S16x8x16x2048, .f32⟩
  | .hbm, ⟨20, _⟩ => ⟨S16x8x80x2048, .f32⟩
  | .hbm, ⟨21, _⟩ => ⟨S16x640x2048, .f32⟩
  | .hbm, ⟨22, _⟩ => ⟨S16x640x2048, .bf16⟩
  | .hbm, ⟨23, _⟩ => ⟨S16x2048x8, .f32⟩
  | .hbm, ⟨24, _⟩ => ⟨S16x2048x8, .f32⟩
  | .hbm, ⟨25, _⟩ => ⟨S_, .i32⟩
  | .hbm, ⟨26, _⟩ => ⟨S_, .f32⟩
  | .hbm, ⟨27, _⟩ => ⟨S16x2048x128, .f32⟩
  | .hbm, ⟨28, _⟩ => ⟨S384x512, .i32⟩
  | .hbm, ⟨29, _⟩ => ⟨S384x512, .i32⟩
  | .hbm, ⟨30, _⟩ => ⟨S_, .i32⟩
  | .hbm, ⟨31, _⟩ => ⟨S384x512, .i32⟩
  | .hbm, ⟨32, _⟩ => ⟨S384x512, .i32⟩
  | .hbm, ⟨33, _⟩ => ⟨S_, .i32⟩
  | .hbm, ⟨34, _⟩ => ⟨S384x512, .i32⟩
  | .hbm, ⟨35, _⟩ => ⟨S384x512, .i32⟩
  | .hbm, ⟨36, _⟩ => ⟨S_, .i32⟩
  | .hbm, ⟨37, _⟩ => ⟨S384x512, .i32⟩
  | .hbm, ⟨38, _⟩ => ⟨S384x512, .i32⟩
  | .hbm, ⟨39, _⟩ => ⟨S_, .i32⟩
  | .hbm, ⟨40, _⟩ => ⟨S384x512, .i32⟩
  | .hbm, ⟨41, _⟩ => ⟨S384x512, .i32⟩
  | .hbm, ⟨42, _⟩ => ⟨S384x512, .i32⟩
  | .hbm, ⟨43, _⟩ => ⟨S_, .i32⟩
  | .hbm, ⟨44, _⟩ => ⟨S384x512, .i32⟩
  | .hbm, ⟨45, _⟩ => ⟨S384x512, .i32⟩
  | .hbm, ⟨46, _⟩ => ⟨S_, .i32⟩
  | .hbm, ⟨47, _⟩ => ⟨S384x512, .i32⟩
  | .hbm, ⟨48, _⟩ => ⟨S384x512, .i32⟩
  | .hbm, ⟨49, _⟩ => ⟨S_, .i32⟩
  | .hbm, ⟨50, _⟩ => ⟨S384x512, .i32⟩
  | .hbm, ⟨51, _⟩ => ⟨S384x512, .i1⟩
  | .hbm, ⟨52, _⟩ => ⟨S_, .i32⟩
  | .hbm, ⟨53, _⟩ => ⟨S384x512, .i32⟩
  | .hbm, ⟨54, _⟩ => ⟨S384x512, .i1⟩
  | .hbm, ⟨55, _⟩ => ⟨S_, .i32⟩
  | .hbm, ⟨56, _⟩ => ⟨S384x512, .i32⟩
  | .hbm, ⟨57, _⟩ => ⟨S384x512, .i32⟩
  | .hbm, ⟨58, _⟩ => ⟨S384x512, .i32⟩
  | .hbm, ⟨59, _⟩ => ⟨S_, .i32⟩
  | .hbm, ⟨60, _⟩ => ⟨S384x512, .i32⟩
  | .hbm, ⟨61, _⟩ => ⟨S384x512, .i1⟩
  | .hbm, ⟨62, _⟩ => ⟨S_, .i32⟩
  | .hbm, ⟨63, _⟩ => ⟨S384x512, .i32⟩
  | .hbm, ⟨64, _⟩ => ⟨S384x512, .i32⟩
  | .hbm, ⟨65, _⟩ => ⟨S_, .i32⟩
  | .hbm, ⟨66, _⟩ => ⟨S384x512, .i32⟩
  | .hbm, ⟨67, _⟩ => ⟨S384x512, .i32⟩
  | .hbm, ⟨68, _⟩ => ⟨S_, .i32⟩
  | .hbm, ⟨69, _⟩ => ⟨S384x512, .i32⟩
  | .hbm, ⟨70, _⟩ => ⟨S384x512, .i32⟩
  | .hbm, ⟨71, _⟩ => ⟨S_, .i32⟩
  | .hbm, ⟨72, _⟩ => ⟨S384x512, .i32⟩
  | .hbm, ⟨73, _⟩ => ⟨S384x512, .i32⟩
  | .hbm, ⟨74, _⟩ => ⟨S384x512, .i32⟩
  | .hbm, ⟨75, _⟩ => ⟨S384x512, .i32⟩
  | .hbm, ⟨76, _⟩ => ⟨S_, .i32⟩
  | .hbm, ⟨77, _⟩ => ⟨S384x512, .i32⟩
  | .hbm, ⟨78, _⟩ => ⟨S384x512, .i1⟩
  | .hbm, ⟨79, _⟩ => ⟨S_, .i32⟩
  | .hbm, ⟨80, _⟩ => ⟨S384x512, .i32⟩
  | .hbm, ⟨81, _⟩ => ⟨S384x512, .i32⟩
  | .hbm, ⟨82, _⟩ => ⟨S_, .i32⟩
  | .hbm, ⟨83, _⟩ => ⟨S384x512, .i32⟩
  | .hbm, ⟨84, _⟩ => ⟨S384x512, .i32⟩
  | .hbm, ⟨85, _⟩ => ⟨S_, .i32⟩
  | .hbm, ⟨86, _⟩ => ⟨S384x512, .i32⟩
  | .hbm, ⟨87, _⟩ => ⟨S384x512, .i1⟩
  | .hbm, ⟨88, _⟩ => ⟨S_, .i32⟩
  | .hbm, ⟨89, _⟩ => ⟨S384x512, .i32⟩
  | .hbm, ⟨90, _⟩ => ⟨S384x512, .i32⟩
  | .hbm, ⟨91, _⟩ => ⟨S_, .i32⟩
  | .hbm, ⟨92, _⟩ => ⟨S384x512, .i32⟩
  | .hbm, ⟨93, _⟩ => ⟨S384x512, .i32⟩
  | .hbm, ⟨94, _⟩ => ⟨S384x512, .i32⟩
  | .hbm, ⟨95, _⟩ => ⟨S_, .i32⟩
  | .hbm, ⟨96, _⟩ => ⟨S384x512, .i32⟩
  | .hbm, ⟨97, _⟩ => ⟨S384x512, .i32⟩
  | .hbm, ⟨98, _⟩ => ⟨S_, .i32⟩
  | .hbm, ⟨99, _⟩ => ⟨S384x512, .i32⟩
  | .hbm, ⟨100, _⟩ => ⟨S384x512, .i32⟩
  | .hbm, ⟨101, _⟩ => ⟨S384x512, .i32⟩
  | .hbm, ⟨102, _⟩ => ⟨S384x512, .i32⟩
  | .hbm, ⟨103, _⟩ => ⟨S_, .f32⟩
  | .hbm, ⟨104, _⟩ => ⟨S384x512, .f32⟩
  | .hbm, ⟨105, _⟩ => ⟨S_, .f32⟩
  | .hbm, ⟨106, _⟩ => ⟨S384x512, .f32⟩
  | .hbm, ⟨107, _⟩ => ⟨S384x512, .i1⟩
  | .hbm, ⟨108, _⟩ => ⟨S384x512, .i1⟩
  | .hbm, ⟨109, _⟩ => ⟨S384x512, .f32⟩
  | .hbm, ⟨110, _⟩ => ⟨S384x512, .i1⟩
  | .hbm, ⟨111, _⟩ => ⟨S384x512, .i1⟩
  | .hbm, ⟨112, _⟩ => ⟨S_, .i32⟩
  | .hbm, ⟨113, _⟩ => ⟨S384x512, .i32⟩
  | .hbm, ⟨114, _⟩ => ⟨S384x512, .i1⟩
  | .hbm, ⟨115, _⟩ => ⟨S384x512, .f32⟩
  | .hbm, ⟨116, _⟩ => ⟨S384x512, .f32⟩
  | .hbm, ⟨117, _⟩ => ⟨S384x512, .f32⟩
  | .hbm, ⟨118, _⟩ => ⟨S384x512, .bf16⟩
  | .hbm, ⟨119, _⟩ => ⟨S384x512, .bf16⟩
  | .hbm, ⟨120, _⟩ => ⟨S16x2048x512, .bf16⟩
  | .local _ .vmem, ⟨0, _⟩ => ⟨S1x2048x1024, .bf16⟩
  | .local _ .vmem, ⟨1, _⟩ => ⟨S1x2048x1024, .bf16⟩
  | .local _ .vmem, ⟨2, _⟩ => ⟨S1x640x2048, .bf16⟩
  | .local _ .vmem, ⟨3, _⟩ => ⟨S1x640x2048, .bf16⟩
  | .local _ .vmem, ⟨4, _⟩ => ⟨S1x2048x128, .f32⟩
  | .local _ .vmem, ⟨5, _⟩ => ⟨S1x2048x128, .f32⟩
  | .local _ .vmem, ⟨6, _⟩ => ⟨S384x512, .bf16⟩
  | .local _ .vmem, ⟨7, _⟩ => ⟨S384x512, .bf16⟩
  | .local _ .vmem, ⟨8, _⟩ => ⟨S1x2048x512, .bf16⟩
  | .local _ .vmem, ⟨9, _⟩ => ⟨S1x2048x512, .bf16⟩
  | .local _ .vmem, ⟨10, _⟩ => ⟨S4x8x512x256, .bf16⟩
  | .local _ .vmem, ⟨11, _⟩ => ⟨S8x4x256x256, .bf16⟩
  | .local _ .vmem, ⟨12, _⟩ => ⟨S2x8x256, .f32⟩
  | .local _ .vmem, ⟨13, _⟩ => ⟨S2x640x256, .f32⟩
  | .local _ .vmem, ⟨14, _⟩ => ⟨S2x512x256, .f32⟩
  | _, _ => ⟨S16x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_cst_1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_c : Ref sig .tc := ⟨.hbm, 25, rfl⟩
abbrev main_call0_v0 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c_3 : Ref sig .tc := ⟨.hbm, 30, rfl⟩
abbrev main_v20 : Ref sig .tc := ⟨.hbm, 31, rfl⟩
abbrev main_v21 : Ref sig .tc := ⟨.hbm, 32, rfl⟩
abbrev main_c_4 : Ref sig .tc := ⟨.hbm, 33, rfl⟩
abbrev main_v22 : Ref sig .tc := ⟨.hbm, 34, rfl⟩
abbrev main_v23 : Ref sig .tc := ⟨.hbm, 35, rfl⟩
abbrev main_c_5 : Ref sig .tc := ⟨.hbm, 36, rfl⟩
abbrev main_v24 : Ref sig .tc := ⟨.hbm, 37, rfl⟩
abbrev main_v25 : Ref sig .tc := ⟨.hbm, 38, rfl⟩
abbrev main_c_6 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_c_7 : Ref sig .tc := ⟨.hbm, 43, rfl⟩
abbrev main_v29 : Ref sig .tc := ⟨.hbm, 44, rfl⟩
abbrev main_v30 : Ref sig .tc := ⟨.hbm, 45, rfl⟩
abbrev main_c_8 : Ref sig .tc := ⟨.hbm, 46, rfl⟩
abbrev main_v31 : Ref sig .tc := ⟨.hbm, 47, rfl⟩
abbrev main_v32 : Ref sig .tc := ⟨.hbm, 48, rfl⟩
abbrev main_c_9 : Ref sig .tc := ⟨.hbm, 49, rfl⟩
abbrev main_v33 : Ref sig .tc := ⟨.hbm, 50, rfl⟩
abbrev main_v34 : Ref sig .tc := ⟨.hbm, 51, rfl⟩
abbrev main_c_10 : Ref sig .tc := ⟨.hbm, 52, rfl⟩
abbrev main_v35 : Ref sig .tc := ⟨.hbm, 53, rfl⟩
abbrev main_v36 : Ref sig .tc := ⟨.hbm, 54, rfl⟩
abbrev main_c_11 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_c_12 : Ref sig .tc := ⟨.hbm, 59, rfl⟩
abbrev main_v40 : Ref sig .tc := ⟨.hbm, 60, rfl⟩
abbrev main_v41 : Ref sig .tc := ⟨.hbm, 61, rfl⟩
abbrev main_c_13 : Ref sig .tc := ⟨.hbm, 62, rfl⟩
abbrev main_v42 : Ref sig .tc := ⟨.hbm, 63, rfl⟩
abbrev main_v43 : Ref sig .tc := ⟨.hbm, 64, rfl⟩
abbrev main_c_14 : Ref sig .tc := ⟨.hbm, 65, rfl⟩
abbrev main_v44 : Ref sig .tc := ⟨.hbm, 66, rfl⟩
abbrev main_v45 : Ref sig .tc := ⟨.hbm, 67, rfl⟩
abbrev main_c_15 : Ref sig .tc := ⟨.hbm, 68, rfl⟩
abbrev main_v46 : Ref sig .tc := ⟨.hbm, 69, rfl⟩
abbrev main_v47 : Ref sig .tc := ⟨.hbm, 70, rfl⟩
abbrev main_c_16 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_c_17 : Ref sig .tc := ⟨.hbm, 76, rfl⟩
abbrev main_v52 : Ref sig .tc := ⟨.hbm, 77, rfl⟩
abbrev main_v53 : Ref sig .tc := ⟨.hbm, 78, rfl⟩
abbrev main_c_18 : Ref sig .tc := ⟨.hbm, 79, rfl⟩
abbrev main_v54 : Ref sig .tc := ⟨.hbm, 80, rfl⟩
abbrev main_v55 : Ref sig .tc := ⟨.hbm, 81, rfl⟩
abbrev main_c_19 : Ref sig .tc := ⟨.hbm, 82, rfl⟩
abbrev main_v56 : Ref sig .tc := ⟨.hbm, 83, rfl⟩
abbrev main_v57 : Ref sig .tc := ⟨.hbm, 84, rfl⟩
abbrev main_c_20 : Ref sig .tc := ⟨.hbm, 85, rfl⟩
abbrev main_v58 : Ref sig .tc := ⟨.hbm, 86, rfl⟩
abbrev main_v59 : Ref sig .tc := ⟨.hbm, 87, rfl⟩
abbrev main_c_21 : Ref sig .tc := ⟨.hbm, 88, rfl⟩
abbrev main_v60 : Ref sig .tc := ⟨.hbm, 89, rfl⟩
abbrev main_v61 : Ref sig .tc := ⟨.hbm, 90, rfl⟩
abbrev main_c_22 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_c_23 : Ref sig .tc := ⟨.hbm, 95, rfl⟩
abbrev main_v65 : Ref sig .tc := ⟨.hbm, 96, rfl⟩
abbrev main_v66 : Ref sig .tc := ⟨.hbm, 97, rfl⟩
abbrev main_c_24 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_cst_25 : Ref sig .tc := ⟨.hbm, 103, rfl⟩
abbrev main_v71 : Ref sig .tc := ⟨.hbm, 104, rfl⟩
abbrev main_cst_26 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_c_27 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x640x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S384x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S384x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Kernel3Ideal.lean ====
variable {F : FTy → Type} [FloatOps F] [Named F]
def κ : String → Option EReal := fun
  | "mask" => some ⊥
  | _ => none
-- ==== Reference3Ideal.lean ====
abbrev S16x2048x512 : Shape := ⟨3, ![16, 2048, 512]⟩
abbrev S16x2048x8 : Shape := ⟨3, ![16, 2048, 8]⟩
abbrev S16x8x2048 : Shape := ⟨3, ![16, 8, 2048]⟩
abbrev S16x2048x8x64 : Shape := ⟨4, ![16, 2048, 8, 64]⟩
abbrev S16x8x2048x2048 : Shape := ⟨4, ![16, 8, 2048, 2048]⟩
abbrev S_ : Shape := ⟨0, ![]⟩
abbrev S16x8x2048x1 : Shape := ⟨4, ![16, 8, 2048, 1]⟩
abbrev S16x8x1x2048 : Shape := ⟨4, ![16, 8, 1, 2048]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S16x8x64x2048 : Shape := ⟨4, ![16, 8, 64, 2048]⟩

abbrev nBuf : Space → Nat
  | .hbm => 47
  | .vmem => 0
  | .smem => 0
  | _ => 0

abbrev bufTy : (tb : Table) → Fin (tcTables nBuf tb) → BufTy
  | .hbm, ⟨0, _⟩ => ⟨S16x2048x512, .f32⟩
  | .hbm, ⟨1, _⟩ => ⟨S16x2048x512, .f32⟩
  | .hbm, ⟨2, _⟩ => ⟨S16x2048x512, .f32⟩
  | .hbm, ⟨3, _⟩ => ⟨S16x2048x8, .f32⟩
  | .hbm, ⟨4, _⟩ => ⟨S16x8x2048, .f32⟩
  | .hbm, ⟨5, _⟩ => ⟨S16x2048x8x64, .f32⟩
  | .hbm, ⟨6, _⟩ => ⟨S16x2048x8x64, .f32⟩
  | .hbm, ⟨7, _⟩ => ⟨S16x8x2048x2048, .f32⟩
  | .hbm, ⟨8, _⟩ => ⟨S_, .f32⟩
  | .hbm, ⟨9, _⟩ => ⟨S16x8x2048x2048, .f32⟩
  | .hbm, ⟨10, _⟩ => ⟨S16x8x2048x2048, .f32⟩
  | .hbm, ⟨11, _⟩ => ⟨S16x8x2048x1, .f32⟩
  | .hbm, ⟨12, _⟩ => ⟨S16x8x2048x2048, .f32⟩
  | .hbm, ⟨13, _⟩ => ⟨S16x8x2048x2048, .f32⟩
  | .hbm, ⟨14, _⟩ => ⟨S16x8x1x2048, .f32⟩
  | .hbm, ⟨15, _⟩ => ⟨S16x8x2048x2048, .f32⟩
  | .hbm, ⟨16, _⟩ => ⟨S16x8x2048x2048, .f32⟩
  | .hbm, ⟨17, _⟩ => ⟨S2048, .i32⟩
  | .hbm, ⟨18, _⟩ => ⟨S2048x1, .i32⟩
  | .hbm, ⟨19, _⟩ => ⟨S1x2048, .i32⟩
  | .hbm, ⟨20, _⟩ => ⟨S2048x2048, .i32⟩
  | .hbm, ⟨21, _⟩ => ⟨S2048x2048, .i32⟩
  | .hbm, ⟨22, _⟩ => ⟨S2048x2048, .i1⟩
  | .hbm, ⟨23, _⟩ => ⟨S_, .f32⟩
  | .hbm, ⟨24, _⟩ => ⟨S_, .f32⟩
  | .hbm, ⟨25, _⟩ => ⟨S16x8x2048x2048, .i1⟩
  | .hbm, ⟨26, _⟩ => ⟨S16x8x2048x2048, .f32⟩
  | .hbm, ⟨27, _⟩ => ⟨S16x8x2048x2048, .f32⟩
  | .hbm, ⟨28, _⟩ => ⟨S_, .f32⟩
  | .hbm, ⟨29, _⟩ => ⟨S16x8x2048, .f32⟩
  | .hbm, ⟨30, _⟩ => ⟨S_, .f32⟩
  | .hbm, ⟨31, _⟩ => ⟨S16x8x2048, .f32⟩
  | .hbm, ⟨32, _⟩ => ⟨S16x8x2048, .f32⟩
  | .hbm, ⟨33, _⟩ => ⟨S16x8x2048x1, .f32⟩
  | .hbm, ⟨34, _⟩ => ⟨S16x8x2048x2048, .f32⟩
  | .hbm, ⟨35, _⟩ => ⟨S16x8x2048x2048, .f32⟩
  | .hbm, ⟨36, _⟩ => ⟨S16x8x2048x2048, .f32⟩
  | .hbm, ⟨37, _⟩ => ⟨S_, .f32⟩
  | .hbm, ⟨38, _⟩ => ⟨S16x8x2048, .f32⟩
  | .hbm, ⟨39, _⟩ => ⟨S16x8x2048x1, .f32⟩
  | .hbm, ⟨40, _⟩ => ⟨S16x8x2048x2048, .f32⟩
  | .hbm, ⟨41, _⟩ => ⟨S16x8x2048x2048, .f32⟩
  | .hbm, ⟨42, _⟩ => ⟨S16x2048x8x64, .f32⟩
  | .hbm, ⟨43, _⟩ => ⟨S16x8x64x2048, .f32⟩
  | .hbm, ⟨44, _⟩ => ⟨S16x2048x8x64, .f32⟩
  | .hbm, ⟨45, _⟩ => ⟨S16x2048x512, .f32⟩
  | .hbm, ⟨46, _⟩ => ⟨S16x2048x512, .bf16⟩
  | _, _ => ⟨S16x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_0 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_v18 : Ref sig .tc := ⟨.hbm, 27, rfl⟩
abbrev main_cst_1 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_3 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]
-- ==== Proof.Mix.Rows.lean ====
module
public import Idealize.ShloMosaic.Lib.Pointwise

/-!
The mathematics of one token of the second half of the layer, as functions on rows of extended reals.

`outRow` is the whole of it: what one token's row of the result is, from the token's row `x` of the running state, its row `y` of the attention's
output, and the two gated rows `p0`, `p1` of the two tokens before it, which the short convolution looks back to.
-/

@[expose] public section

noncomputable section

namespace Cert.Mix

open Idealize.ShloMosaic

/-- The weights, as functions of their coordinates. -/
structure Wt where
  /-- the scale of the norm before the projections -/
  mg : Fin 1024 → EReal
  /-- the five projections behind the query, key, value and forget columns, side by side -/
  w : Fin 1024 → Fin 3584 → EReal
  /-- the three taps of the short convolution -/
  cw : Fin 3 → Fin 512 → EReal
  /-- the attention branch's output projection -/
  wa : Fin 512 → Fin 1024 → EReal
  /-- the convolution branch's output projection -/
  wc : Fin 512 → Fin 1024 → EReal
  /-- the projection of the merged branches -/
  wo : Fin 1024 → Fin 1024 → EReal
  /-- the scale of the norm before the feed-forward half-step -/
  fg : Fin 1024 → EReal
  /-- the feed-forward gate -/
  g : Fin 1024 → Fin 2816 → EReal
  /-- the feed-forward up projection -/
  u : Fin 1024 → Fin 2816 → EReal
  /-- the feed-forward down projection -/
  d : Fin 2816 → Fin 1024 → EReal
  /-- the scale of the last norm -/
  ng : Fin 1024 → EReal

/-- The root-mean-square norm of a row, scaled by `g`. -/
def rmsRow (x g : Fin 1024 → EReal) (c : Fin 1024) : EReal :=
  x c * Ideal.rsqrt (Ideal.div (∑ k, x k * x k) (Ideal.ofBits FTy.f32 1149239296#32) + Ideal.ofBits FTy.f32 897988541#32) * g c

/-- A token's projected and gated row: what the short convolution runs over. -/
def bxRow (h : Fin 1024 → EReal) (w : Fin 1024 → Fin 3584 → EReal) (l : Fin 512) : EReal :=
  (∑ k, h k * w k ⟨512 + l, by omega⟩) * ∑ k, h k * w k ⟨1024 + l, by omega⟩

/-- The short convolution of a token, gated: `p0`, `p1` are the gated rows two tokens and one token back, `p2` the token's own. -/
def convRow (h : Fin 1024 → EReal) (w : Fin 1024 → Fin 3584 → EReal) (cw : Fin 3 → Fin 512 → EReal) (p0 p1 p2 : Fin 512 → EReal) (l : Fin 512) : EReal :=
  (∑ k, h k * w k ⟨l, by omega⟩) * (cw 0 l * p0 l + cw 1 l * p1 l + cw 2 l * p2 l)

/-- The two branches, each projected and weighed by its own sigmoid gate, added. -/
def mergeRow (h : Fin 1024 → EReal) (w : Fin 1024 → Fin 3584 → EReal) (wa wc : Fin 512 → Fin 1024 → EReal) (y v : Fin 512 → EReal) (n : Fin 1024) : EReal :=
  Ideal.logistic (∑ k, h k * w k ⟨1536 + n, by omega⟩) * (∑ k, y k * wa k n)
    + Ideal.logistic (∑ k, h k * w k ⟨2560 + n, by omega⟩) * ∑ k, v k * wc k n

/-- A row with the product of another row and a matrix added. -/
def addMat (x z : Fin 1024 → EReal) (w : Fin 1024 → Fin 1024 → EReal) (n : Fin 1024) : EReal := x n + ∑ k, z k * w k n

/-- The feed-forward's hidden row: the gate through its own sigmoid, times the up projection. -/
def actRow (h : Fin 1024 → EReal) (g u : Fin 1024 → Fin 2816 → EReal) (n : Fin 2816) : EReal :=
  (∑ k, h k * g k n) * Ideal.logistic (∑ k, h k * g k n) * ∑ k, h k * u k n

/-- A row with half the hidden row's down projection added. -/
def halfStep (x : Fin 1024 → EReal) (a : Fin 2816 → EReal) (d : Fin 2816 → Fin 1024 → EReal) (n : Fin 1024) : EReal :=
  x n + Ideal.ofBits FTy.f32 1056964608#32 * ∑ k, a k * d k n

/-- The state after the merged branches are added. -/
def midRow (W : Wt) (x : Fin 1024 → EReal) (y p0 p1 : Fin 512 → EReal) : Fin 1024 → EReal :=
  addMat x (mergeRow (rmsRow x W.mg) W.w W.wa W.wc y (convRow (rmsRow x W.mg) W.w W.cw p0 p1 (bxRow (rmsRow x W.mg) W.w))) W.wo

/-- The second feed-forward half-step and the last norm, from the state before them. -/
def tailRow (W : Wt) (x : Fin 1024 → EReal) : Fin 1024 → EReal :=
  rmsRow (halfStep x (actRow (rmsRow x W.fg) W.g W.u) W.d) W.ng

/-- One token's row of the result. -/
def outRow (W : Wt) (x : Fin 1024 → EReal) (y p0 p1 : Fin 512 → EReal) : Fin 1024 → EReal := tailRow W (midRow W x y p0 p1)

/-- The gated rows of a run of tokens with two more in front: row `n` of the result is row `n - 2` of the run, and for `n < 2` it is row `n` of `t`. -/
def shifted {N : ℕ} (t : Fin 2 → Fin 512 → EReal) (b : Fin N → Fin 512 → EReal) (n : ℕ) (l : Fin 512) : EReal :=
  if h : n < 2 then t ⟨n, h⟩ l else if h' : n - 2 < N then b ⟨n - 2, h'⟩ l else 0

/-- The gated rows of one sequence, with two rows of zeros in front: row `t` of it is two tokens back of token `t`. -/
def backRow (W : Wt) (x : Fin 2048 → Fin 1024 → EReal) (n : ℕ) : Fin 512 → EReal :=
  shifted (fun _ _ => 0) (fun t => bxRow (rmsRow (x t) W.mg) W.w) n

/-- The result for every token of every sequence, from the running state `x` and the attention's output `y`. -/
def layer (W : Wt) (x : Fin 16 → Fin 2048 → Fin 1024 → EReal) (y : Fin 16 → Fin 2048 → Fin 512 → EReal) (b : Fin 16) (t : Fin 2048) : Fin 1024 → EReal :=
  outRow W (x b t) (y b t) (backRow W (x b) t) (backRow W (x b) (t + 1))

end Cert.Mix

end
-- ==== Proof.Mix.Block.lean ====
module
public import proofs.«01_k».proof.Proof.Gen.KernelIdeal.Skeleton
public import proofs.«01_k».proof.Proof.Mix.Rows
public import Idealize.ShloMosaic.Lib.Pipeline.ValueKit
public import Idealize.ShloMosaic.Lib.Pipeline.ReadBack
public import Idealize.ShloMosaic.Lib.Pointwise
public import Idealize.ShloMosaic.Lib.WordCmp

/-!
What the kernel's body computes at one grid point, stage by stage, over arrays of the whole block of 1024 tokens. Each stage of the body works on four
groups of 256 tokens; each theorem here says that what the body stores for a group is the group's rows of the stage's array.
-/

@[expose] public section

set_option maxRecDepth 16384

noncomputable section

namespace Cert.Mix

open Cert.KernelIdeal Cert.KernelIdeal.Gen Idealize.ShloMosaic

variable (x0 : Vec Ideal S1x1024x1024 .f32) (x1 : Vec Ideal S1x1024x512 .bf16) (x2 : Vec Ideal S1x1024 .f32) (x3 : Vec Ideal S1024x3584 .bf16)
  (x4 : Vec Ideal S3x512 .f32) (x5 : Vec Ideal S512x1024 .bf16) (x6 : Vec Ideal S512x1024 .bf16) (x7 : Vec Ideal S1024x1024 .bf16)
  (x8 : Vec Ideal S1x1024 .f32) (x9 : Vec Ideal S1024x2816 .bf16) (x10 : Vec Ideal S1024x2816 .bf16) (x11 : Vec Ideal S2816x1024 .bf16)
  (x12 : Vec Ideal S1x1024 .f32) (tl : Vec Ideal S2x512 .f32)

/-- The block's tokens after the first norm. -/
def Hb : Vec Ideal S1024x1024 .bf16 := fun i => rmsRow (fun k => x0 (ix3 0 (i 0 : Fin 1024) k)) (fun k => x2 (ix2 0 k)) (i 1 : Fin 1024)

/-- The block's gated rows. -/
def Bx (r : Fin 1024) : Fin 512 → EReal := bxRow (fun k => Hb x0 x2 (ix2 r k)) (fun k n => x3 (ix2 k n))

/-- The block's gated rows with the two rows before the block in front. -/
def Sh (n : ℕ) : Fin 512 → EReal := shifted (fun i l => tl (ix2 i l)) (Bx x0 x2 x3) n

/-- The block's short convolution, gated. -/
def Cb : Vec Ideal S1024x512 .bf16 := fun i =>
  convRow (fun k => Hb x0 x2 (ix2 (i 0 : Fin 1024) k)) (fun k n => x3 (ix2 k n)) (fun k l => x4 (ix2 k l))
    (Sh x0 x2 x3 tl (i 0 : Fin 1024)) (Sh x0 x2 x3 tl ((i 0 : Fin 1024) + 1)) (Bx x0 x2 x3 (i 0 : Fin 1024)) (i 1 : Fin 512)

/-- The block's merged branches. -/
def Mb : Vec Ideal S1024x1024 .bf16 := fun i =>
  mergeRow (fun k => Hb x0 x2 (ix2 (i 0 : Fin 1024) k)) (fun k n => x3 (ix2 k n)) (fun k n => x5 (ix2 k n)) (fun k n => x6 (ix2 k n))
    (fun k => x1 (ix3 0 (i 0 : Fin 1024) k)) (fun k => Cb x0 x2 x3 x4 tl (ix2 (i 0 : Fin 1024) k)) (i 1 : Fin 1024)

/-- The block's state after the merged branches are added. -/
def Xb : Vec Ideal S1x1024x1024 .f32 := fun i =>
  addMat (fun k => x0 (ix3 0 (i 1 : Fin 1024) k)) (fun k => Mb x0 x1 x2 x3 x4 x5 x6 tl (ix2 (i 1 : Fin 1024) k)) (fun k n => x7 (ix2 k n)) (i 2 : Fin 1024)

/-- The block's tokens after the second norm. -/
def Nb : Vec Ideal S1024x1024 .bf16 := fun i =>
  rmsRow (fun k => Xb x0 x1 x2 x3 x4 x5 x6 x7 tl (ix3 0 (i 0 : Fin 1024) k)) (fun k => x8 (ix2 0 k)) (i 1 : Fin 1024)

/-- The block's hidden rows of the feed-forward. -/
def Ab : Vec Ideal S1024x2816 .bf16 := fun i =>
  actRow (fun k => Nb x0 x1 x2 x3 x4 x5 x6 x7 x8 tl (ix2 (i 0 : Fin 1024) k)) (fun k n => x9 (ix2 k n)) (fun k n => x10 (ix2 k n)) (i 1 : Fin 2816)

/-- The block's result. -/
def Ob : Vec Ideal S1x1024x1024 .f32 := fun i =>
  rmsRow (halfStep (fun k => Xb x0 x1 x2 x3 x4 x5 x6 x7 tl (ix3 0 (i 1 : Fin 1024) k))
    (fun k => Ab x0 x1 x2 x3 x4 x5 x6 x7 x8 x9 x10 tl (ix2 (i 1 : Fin 1024) k)) (fun k n => x11 (ix2 k n))) (fun k => x12 (ix2 0 k)) (i 2 : Fin 1024)

/-- `o` is a row at which a group of 256 tokens starts. -/
theorem rows_inb {o n w : ℕ} (ho : o + 256 ≤ n) : ∀ a : Fin 2, ![o, 0] a + (⟨2, ![256, w]⟩ : Shape).size a ≤ (⟨2, ![n, w]⟩ : Shape).size a := by
  intro a; fin_cases a
  · exact ho
  · simp

/-- The same, of a block that carries a leading axis of one. -/
theorem rows_inb3 {o n w : ℕ} (ho : o + 256 ≤ n) :
    ∀ a : Fin 3, ![0, o, 0] a + (⟨3, ![1, 256, w]⟩ : Shape).size a ≤ (⟨3, ![1, n, w]⟩ : Shape).size a := by
  intro a; fin_cases a
  · simp
  · exact ho
  · simp

/-- The rows of a group that starts at row `o`, of an array of the block. -/
abbrev rowsAt {w : ℕ} {t : EltTy} (x : Vec Ideal ⟨2, ![1024, w]⟩ t) (o : ℕ) (ho : o + 256 ≤ 1024) : Vec Ideal ⟨2, ![256, w]⟩ t :=
  View.ld x (Rect.unit ![o, 0] (⟨2, ![256, w]⟩ : Shape).size (rows_inb ho))

/-- The same, of an array that carries a leading axis of one. -/
abbrev rowsAt3 {w : ℕ} {t : EltTy} (x : Vec Ideal ⟨3, ![1, 1024, w]⟩ t) (o : ℕ) (ho : o + 256 ≤ 1024) : Vec Ideal ⟨3, ![1, 256, w]⟩ t :=
  View.ld x (Rect.unit ![0, o, 0] (⟨3, ![1, 256, w]⟩ : Shape).size (rows_inb3 ho))

/-- The columns of the first projections' weights that start at column `n`. -/
abbrev colsAt (n : ℕ) (inb : ∀ a, ![0, n] a + S1024x512.size a ≤ S1024x3584.size a) : Vec Ideal S1024x512 .bf16 :=
  View.ld x3 (Rect.unit ![0, n] S1024x512.size inb)

/-- The columns of a branch's gate. -/
abbrev gateAt (n : ℕ) (inb : ∀ a, ![0, n] a + S1024x1024.size a ≤ S1024x3584.size a) : Vec Ideal S1024x1024 .bf16 :=
  View.ld x3 (Rect.unit ![0, n] S1024x1024.size inb)

/-- One tap of the short convolution. -/
abbrev tapAt (n : ℕ) (inb : ∀ a, ![n, 0] a + S1x512.size a ≤ S3x512.size a) : Vec Ideal S1x512 .f32 :=
  View.ld x4 (Rect.unit ![n, 0] S1x512.size inb)

/-- The rows of the norm that the body stores for the first group. -/
theorem h_group0 (o : ℕ) (ho : o + 256 ≤ 1024) :
    k0_pay3 (F := Ideal) (rowsAt3 x0 o ho) x2
      = rowsAt (Hb x0 x2) o ho := by
  funext j
  idx_vars j
  pointwise [k0_pay3, Hb, rmsRow, rowsAt, rowsAt3, colsAt, gateAt, tapAt]

/-- The rows of the norm that the body stores for the second group. -/
theorem h_group1 (o : ℕ) (ho : o + 256 ≤ 1024) :
    k0_pay10 (F := Ideal) (k0_pay9 (rowsAt3 x0 o ho)) x2
      = rowsAt (Hb x0 x2) o ho := by
  funext j
  idx_vars j
  pointwise [k0_pay10, k0_pay9, Hb, rmsRow, rowsAt, rowsAt3, colsAt, gateAt, tapAt]

/-- The rows of the norm that the body stores for the third group. -/
theorem h_group2 (o : ℕ) (ho : o + 256 ≤ 1024) :
    k0_pay20 (F := Ideal) (k0_pay18 x2) (k0_pay19 (rowsAt3 x0 o ho))
      = rowsAt (Hb x0 x2) o ho := by
  funext j
  idx_vars j
  pointwise [k0_pay20, k0_pay18, k0_pay19, Hb, rmsRow, rowsAt, rowsAt3, colsAt, gateAt, tapAt]

/-- The rows of the norm that the body stores for the last group. -/
theorem h_group3 (o : ℕ) (ho : o + 256 ≤ 1024) :
    k0_pay30 (F := Ideal) (rowsAt3 x0 o ho) x2
      = rowsAt (Hb x0 x2) o ho := by
  funext j
  idx_vars j
  pointwise [k0_pay30, Hb, rmsRow, rowsAt, rowsAt3, colsAt, gateAt, tapAt]

/-- A choice by comparing a row's number with a constant. -/
theorem choose_row (r : Fin 256) (k : ℕ) (hk : k < 2 ^ 32) (a b : EReal) :
    Scalar.select (IntOp.cmpi .eq (BitVec.ofNat 32 r) (BitVec.ofNat 32 k)) a b = if (r : ℕ) = k then a else b := by
  rw [WordCmp.cmpi_eq_ofNat (by omega) hk, WordCmp.select_ofBool]
  simp

/-- What stands two rows back of a row of a group: for the group's first two rows the rows `T` kept from before it, else the group's own. -/
theorem back_two (T : Vec Ideal S2x512 .f32) (o : ℕ) (ho : o + 256 ≤ 1024) (hT : ∀ i l, T (ix2 i l) = Sh x0 x2 x3 tl (o + i) l) (r : Fin 256) (l : Fin 512)
    (h : o + (r + 256 - 2) % 256 < 1024) :
    Scalar.select (IntOp.cmpi .eq (BitVec.ofNat 32 r) 0#32) (T (ix2 0 l))
      (Scalar.select (IntOp.cmpi .eq (BitVec.ofNat 32 r) 1#32) (T (ix2 1 l)) (Bx x0 x2 x3 ⟨o + (r + 256 - 2) % 256, h⟩ l)) = Sh x0 x2 x3 tl (o + r) l := by
  rw [choose_row r 0 (by norm_num), choose_row r 1 (by norm_num), hT, hT]
  rcases r with ⟨_ | _ | r, hr⟩
  · simp
  · simp
  · simp only [Sh, shifted]
    rw [if_neg (by omega), if_neg (by omega), dif_neg (by omega), dif_pos (by omega)]
    congr 2
    omega

/-- What stands one row back of a row of a group. -/
theorem back_one (T : Vec Ideal S2x512 .f32) (o : ℕ) (ho : o + 256 ≤ 1024) (hT : ∀ i l, T (ix2 i l) = Sh x0 x2 x3 tl (o + i) l) (r : Fin 256) (l : Fin 512)
    (h : o + (r + 256 - 1) % 256 < 1024) :
    Scalar.select (IntOp.cmpi .eq (BitVec.ofNat 32 r) 0#32) (T (ix2 1 l)) (Bx x0 x2 x3 ⟨o + (r + 256 - 1) % 256, h⟩ l) = Sh x0 x2 x3 tl (o + r + 1) l := by
  rw [choose_row r 0 (by norm_num), hT]
  rcases r with ⟨_ | r, hr⟩
  · simp
  · simp only [Sh, shifted]
    rw [if_neg (by omega), dif_neg (by omega), dif_pos (by omega)]
    congr 2
    omega

/-- The two rows kept at the end of a group are the two in front of the next. -/
theorem sh_of_bx (o : ℕ) (ho : o + 256 ≤ 1024) (i : Fin 2) (l : Fin 512) (h : o + (254 + i) < 1024) : Bx x0 x2 x3 ⟨o + (254 + i), h⟩ l = Sh x0 x2 x3 tl (o + 256 + i) l := by
  simp only [Sh, shifted]
  rw [dif_neg (by omega), dif_pos (by omega)]
  congr 2
  omega

/-- The short convolution that the body stores for the first group, with `T` the two gated rows in front of the group. -/
theorem c_group0 (T : Vec Ideal S2x512 .f32) (o : ℕ) (ho : o + 256 ≤ 1024) (hT : ∀ i l, T (ix2 i l) = Sh x0 x2 x3 tl (o + i) l) :
    k0_pay8 (F := Ideal) (iota Kind.tc S256x512 32 [0] iota_S256x512_d0_w32) T (k0_pay4 (rowsAt (Hb x0 x2) o ho) (colsAt x3 0 inb_S1024x3584_S1024x512_0_0)) (rowsAt (Hb x0 x2) o ho) (k0_pay5 (colsAt x3 512 inb_S1024x3584_S1024x512_0_512)) (constant S256x512 .f32 0#32) (rowsAt (Hb x0 x2) o ho) (colsAt x3 1024 inb_S1024x3584_S1024x512_0_1024) (tapAt x4 0 inb_S3x512_S1x512_0_0) (tapAt x4 1 inb_S3x512_S1x512_1_0) (tapAt x4 2 inb_S3x512_S1x512_2_0)
      = rowsAt (Cb x0 x2 x3 x4 tl) o ho := by
  funext j
  idx_vars j
  pointwise [k0_pay8, k0_pay6, k0_pay4, k0_pay5, Cb, convRow, rowsAt, rowsAt3, colsAt, gateAt, tapAt]
  rw [← back_two x0 x2 x3 tl T o ho hT j0 j1 (by omega), ← back_one x0 x2 x3 tl T o ho hT j0 j1 (by omega)]
  rfl

/-- The short convolution that the body stores for the second group, with `T` the two gated rows in front of the group. -/
theorem c_group1 (T : Vec Ideal S2x512 .f32) (o : ℕ) (ho : o + 256 ≤ 1024) (hT : ∀ i l, T (ix2 i l) = Sh x0 x2 x3 tl (o + i) l) :
    k0_pay17 (F := Ideal) (iota Kind.tc S256x512 32 [0] iota_S256x512_d0_w32) (k0_pay11 (rowsAt (Hb x0 x2) o ho) (colsAt x3 0 inb_S1024x3584_S1024x512_0_0)) (k0_pay12 (rowsAt (Hb x0 x2) o ho) (colsAt x3 512 inb_S1024x3584_S1024x512_0_512) (rowsAt (Hb x0 x2) o ho) (colsAt x3 1024 inb_S1024x3584_S1024x512_0_1024)) (k0_pay13 T) (k0_pay14 T) (k0_pay15 (iota Kind.tc S256x512 32 [0] iota_S256x512_d0_w32)) 1#32 (tapAt x4 0 inb_S3x512_S1x512_0_0) (tapAt x4 1 inb_S3x512_S1x512_1_0) (tapAt x4 2 inb_S3x512_S1x512_2_0)
      = rowsAt (Cb x0 x2 x3 x4 tl) o ho := by
  funext j
  idx_vars j
  pointwise [k0_pay17, k0_pay11, k0_pay12, k0_pay13, k0_pay14, k0_pay15, Cb, convRow, rowsAt, rowsAt3, colsAt, gateAt, tapAt]
  rw [← back_two x0 x2 x3 tl T o ho hT j0 j1 (by omega), ← back_one x0 x2 x3 tl T o ho hT j0 j1 (by omega)]
  rfl

/-- The short convolution that the body stores for the third group, with `T` the two gated rows in front of the group. -/
theorem c_group2 (T : Vec Ideal S2x512 .f32) (o : ℕ) (ho : o + 256 ≤ 1024) (hT : ∀ i l, T (ix2 i l) = Sh x0 x2 x3 tl (o + i) l) :
    k0_pay29 (F := Ideal) (k0_pay21 (rowsAt (Hb x0 x2) o ho) (colsAt x3 0 inb_S1024x3584_S1024x512_0_0)) (k0_pay22 (rowsAt (Hb x0 x2) o ho) (colsAt x3 512 inb_S1024x3584_S1024x512_0_512) (rowsAt (Hb x0 x2) o ho) (colsAt x3 1024 inb_S1024x3584_S1024x512_0_1024)) (k0_pay24 (iota Kind.tc S256x512 32 [0] iota_S256x512_d0_w32) T (rowsAt (Hb x0 x2) o ho) (colsAt x3 512 inb_S1024x3584_S1024x512_0_512) (rowsAt (Hb x0 x2) o ho) (colsAt x3 1024 inb_S1024x3584_S1024x512_0_1024)) (k0_pay25 (iota Kind.tc S256x512 32 [0] iota_S256x512_d0_w32)) (k0_pay26 (iota Kind.tc S256x512 32 [0] iota_S256x512_d0_w32) T (rowsAt (Hb x0 x2) o ho) (colsAt x3 512 inb_S1024x3584_S1024x512_0_512) (rowsAt (Hb x0 x2) o ho) (colsAt x3 1024 inb_S1024x3584_S1024x512_0_1024)) (k0_pay27 T) (tapAt x4 0 inb_S3x512_S1x512_0_0) (tapAt x4 1 inb_S3x512_S1x512_1_0) (tapAt x4 2 inb_S3x512_S1x512_2_0)
      = rowsAt (Cb x0 x2 x3 x4 tl) o ho := by
  funext j
  idx_vars j
  pointwise [k0_pay29, k0_pay21, k0_pay22, k0_pay23, k0_pay24, k0_pay25, k0_pay26, k0_pay27, Cb, convRow, rowsAt, rowsAt3, colsAt, gateAt, tapAt]
  rw [← back_two x0 x2 x3 tl T o ho hT j0 j1 (by omega), ← back_one x0 x2 x3 tl T o ho hT j0 j1 (by omega)]
  rfl

/-- The short convolution that the body stores for the last group, with `T` the two gated rows in front of the group. -/
theorem c_group3 (T : Vec Ideal S2x512 .f32) (o : ℕ) (ho : o + 256 ≤ 1024) (hT : ∀ i l, T (ix2 i l) = Sh x0 x2 x3 tl (o + i) l) :
    k0_pay37 (F := Ideal) (k0_pay32 (rowsAt (Hb x0 x2) o ho) (k0_pay31 (colsAt x3 0 inb_S1024x3584_S1024x512_0_0)) (constant S256x512 .f32 0#32)) (k0_pay33 (rowsAt (Hb x0 x2) o ho) (colsAt x3 512 inb_S1024x3584_S1024x512_0_512) (rowsAt (Hb x0 x2) o ho) (colsAt x3 1024 inb_S1024x3584_S1024x512_0_1024)) (k0_pay35 (iota Kind.tc S256x512 32 [0] iota_S256x512_d0_w32) T (rowsAt (Hb x0 x2) o ho) (colsAt x3 512 inb_S1024x3584_S1024x512_0_512) (rowsAt (Hb x0 x2) o ho) (colsAt x3 1024 inb_S1024x3584_S1024x512_0_1024) (tapAt x4 0 inb_S3x512_S1x512_0_0) (tapAt x4 1 inb_S3x512_S1x512_1_0)) (k0_pay36 (tapAt x4 2 inb_S3x512_S1x512_2_0))
      = rowsAt (Cb x0 x2 x3 x4 tl) o ho := by
  funext j
  idx_vars j
  pointwise [k0_pay37, k0_pay31, k0_pay32, k0_pay33, k0_pay35, k0_pay36, Cb, convRow, rowsAt, rowsAt3, colsAt, gateAt, tapAt]
  rw [← back_two x0 x2 x3 tl T o ho hT j0 j1 (by omega), ← back_one x0 x2 x3 tl T o ho hT j0 j1 (by omega)]
  rfl

/-- The two gated rows kept at the end of the first group. -/
theorem t_group0 (o : ℕ) (ho : o + 256 ≤ 1024) (i : Fin 2) (l : Fin 512) :
    k0_pay7 (F := Ideal) (rowsAt (Hb x0 x2) o ho) (k0_pay5 (colsAt x3 512 inb_S1024x3584_S1024x512_0_512)) (constant S256x512 .f32 0#32) (rowsAt (Hb x0 x2) o ho) (colsAt x3 1024 inb_S1024x3584_S1024x512_0_1024) (ix2 i l) = Sh x0 x2 x3 tl (o + 256 + i) l := by
  pointwise [k0_pay7, k0_pay6, k0_pay5, rowsAt, rowsAt3, colsAt, gateAt, tapAt]
  exact sh_of_bx x0 x2 x3 tl o ho i l (by omega)

/-- The two gated rows kept at the end of the second group. -/
theorem t_group1 (o : ℕ) (ho : o + 256 ≤ 1024) (i : Fin 2) (l : Fin 512) :
    k0_pay16 (F := Ideal) (k0_pay12 (rowsAt (Hb x0 x2) o ho) (colsAt x3 512 inb_S1024x3584_S1024x512_0_512) (rowsAt (Hb x0 x2) o ho) (colsAt x3 1024 inb_S1024x3584_S1024x512_0_1024)) (ix2 i l) = Sh x0 x2 x3 tl (o + 256 + i) l := by
  pointwise [k0_pay16, k0_pay12, rowsAt, rowsAt3, colsAt, gateAt, tapAt]
  exact sh_of_bx x0 x2 x3 tl o ho i l (by omega)

/-- The two gated rows kept at the end of the third group. -/
theorem t_group2 (o : ℕ) (ho : o + 256 ≤ 1024) (i : Fin 2) (l : Fin 512) :
    k0_pay28 (F := Ideal) (k0_pay22 (rowsAt (Hb x0 x2) o ho) (colsAt x3 512 inb_S1024x3584_S1024x512_0_512) (rowsAt (Hb x0 x2) o ho) (colsAt x3 1024 inb_S1024x3584_S1024x512_0_1024)) (ix2 i l) = Sh x0 x2 x3 tl (o + 256 + i) l := by
  pointwise [k0_pay28, k0_pay22, rowsAt, rowsAt3, colsAt, gateAt, tapAt]
  exact sh_of_bx x0 x2 x3 tl o ho i l (by omega)

/-- The two gated rows kept at the end of the last group. -/
theorem t_group3 (o : ℕ) (ho : o + 256 ≤ 1024) (i : Fin 2) (l : Fin 512) :
    k0_pay38 (F := Ideal) (k0_pay34 (rowsAt (Hb x0 x2) o ho) (colsAt x3 512 inb_S1024x3584_S1024x512_0_512) (rowsAt (Hb x0 x2) o ho) (colsAt x3 1024 inb_S1024x3584_S1024x512_0_1024)) (ix2 i l) = Sh x0 x2 x3 tl (o + 256 + i) l := by
  pointwise [k0_pay38, k0_pay34, k0_pay33, rowsAt, rowsAt3, colsAt, gateAt, tapAt]
  exact sh_of_bx x0 x2 x3 tl o ho i l (by omega)

/-- The merged branches that the body stores for the first group. -/
theorem m_group0 (o : ℕ) (ho : o + 256 ≤ 1024) :
    k0_pay39 (F := Ideal) (rowsAt (Cb x0 x2 x3 x4 tl) o ho) x6 (rowsAt3 x1 o ho) x5 (rowsAt (Hb x0 x2) o ho) (gateAt x3 1536 inb_S1024x3584_S1024x1024_0_1536) (rowsAt (Hb x0 x2) o ho) (gateAt x3 2560 inb_S1024x3584_S1024x1024_0_2560)
      = rowsAt (Mb x0 x1 x2 x3 x4 x5 x6 tl) o ho := by
  funext j
  idx_vars j
  pointwise [k0_pay39, Mb, mergeRow, rowsAt, rowsAt3, colsAt, gateAt, tapAt]

/-- The merged branches that the body stores for the second group. -/
theorem m_group1 (o : ℕ) (ho : o + 256 ≤ 1024) :
    k0_pay40 (F := Ideal) (rowsAt (Cb x0 x2 x3 x4 tl) o ho) x6 (rowsAt3 x1 o ho) x5 (rowsAt (Hb x0 x2) o ho) (gateAt x3 1536 inb_S1024x3584_S1024x1024_0_1536) (rowsAt (Hb x0 x2) o ho) (gateAt x3 2560 inb_S1024x3584_S1024x1024_0_2560)
      = rowsAt (Mb x0 x1 x2 x3 x4 x5 x6 tl) o ho := by
  funext j
  idx_vars j
  pointwise [k0_pay40, Mb, mergeRow, rowsAt, rowsAt3, colsAt, gateAt, tapAt]

/-- The merged branches that the body stores for the third group. -/
theorem m_group2 (o : ℕ) (ho : o + 256 ≤ 1024) :
    k0_pay44 (F := Ideal) (k0_pay41 (rowsAt (Cb x0 x2 x3 x4 tl) o ho) x6) (k0_pay42 (rowsAt3 x1 o ho)) (k0_pay43 x5) (constant S256x1024 .f32 0#32) (rowsAt (Hb x0 x2) o ho) (gateAt x3 1536 inb_S1024x3584_S1024x1024_0_1536) (rowsAt (Hb x0 x2) o ho) (gateAt x3 2560 inb_S1024x3584_S1024x1024_0_2560)
      = rowsAt (Mb x0 x1 x2 x3 x4 x5 x6 tl) o ho := by
  funext j
  idx_vars j
  pointwise [k0_pay44, k0_pay41, k0_pay42, k0_pay43, Mb, mergeRow, rowsAt, rowsAt3, colsAt, gateAt, tapAt]

/-- The merged branches that the body stores for the last group. -/
theorem m_group3 (o : ℕ) (ho : o + 256 ≤ 1024) :
    k0_pay47 (F := Ideal) (k0_pay45 (rowsAt (Cb x0 x2 x3 x4 tl) o ho) x6) (k0_pay46 (rowsAt3 x1 o ho) x5 (rowsAt (Hb x0 x2) o ho) (gateAt x3 1536 inb_S1024x3584_S1024x1024_0_1536)) (rowsAt (Hb x0 x2) o ho) (gateAt x3 2560 inb_S1024x3584_S1024x1024_0_2560)
      = rowsAt (Mb x0 x1 x2 x3 x4 x5 x6 tl) o ho := by
  funext j
  idx_vars j
  pointwise [k0_pay47, k0_pay45, k0_pay46, Mb, mergeRow, rowsAt, rowsAt3, colsAt, gateAt, tapAt]

/-- The state that the body stores for the first group after the branches are added. -/
theorem x_group0 (o : ℕ) (ho : o + 256 ≤ 1024) :
    k0_pay49 (F := Ideal) (rowsAt3 x0 o ho) (rowsAt (Mb x0 x1 x2 x3 x4 x5 x6 tl) o ho) x7
      = rowsAt3 (Xb x0 x1 x2 x3 x4 x5 x6 x7 tl) o ho := by
  funext j
  idx_vars j
  pointwise [k0_pay49, k0_pay48, Xb, addMat, rowsAt, rowsAt3, colsAt, gateAt, tapAt]

/-- The state that the body stores for the second group after the branches are added. -/
theorem x_group1 (o : ℕ) (ho : o + 256 ≤ 1024) :
    k0_pay53 (F := Ideal) (rowsAt3 x0 o ho) (rowsAt (Mb x0 x1 x2 x3 x4 x5 x6 tl) o ho) x7
      = rowsAt3 (Xb x0 x1 x2 x3 x4 x5 x6 x7 tl) o ho := by
  funext j
  idx_vars j
  pointwise [k0_pay53, k0_pay52, Xb, addMat, rowsAt, rowsAt3, colsAt, gateAt, tapAt]

/-- The state that the body stores for the third group after the branches are added. -/
theorem x_group2 (o : ℕ) (ho : o + 256 ≤ 1024) :
    k0_pay57 (F := Ideal) (k0_pay55 (rowsAt3 x0 o ho)) (rowsAt (Mb x0 x1 x2 x3 x4 x5 x6 tl) o ho) x7
      = rowsAt3 (Xb x0 x1 x2 x3 x4 x5 x6 x7 tl) o ho := by
  funext j
  idx_vars j
  pointwise [k0_pay57, k0_pay56, k0_pay55, Xb, addMat, rowsAt, rowsAt3, colsAt, gateAt, tapAt]

/-- The state that the body stores for the last group after the branches are added. -/
theorem x_group3 (o : ℕ) (ho : o + 256 ≤ 1024) :
    k0_pay60 (F := Ideal) (k0_pay59 (rowsAt3 x0 o ho) (rowsAt (Mb x0 x1 x2 x3 x4 x5 x6 tl) o ho) x7)
      = rowsAt3 (Xb x0 x1 x2 x3 x4 x5 x6 x7 tl) o ho := by
  funext j
  idx_vars j
  pointwise [k0_pay60, k0_pay59, Xb, addMat, rowsAt, rowsAt3, colsAt, gateAt, tapAt]

/-- The rows of the second norm that the body stores for the first group. -/
theorem n_group0 (o : ℕ) (ho : o + 256 ≤ 1024) :
    k0_pay51 (F := Ideal) (k0_pay50 (rowsAt3 x0 o ho) (rowsAt (Mb x0 x1 x2 x3 x4 x5 x6 tl) o ho) x7 x8)
      = rowsAt (Nb x0 x1 x2 x3 x4 x5 x6 x7 x8 tl) o ho := by
  funext j
  idx_vars j
  pointwise [k0_pay51, k0_pay50, k0_pay48, Nb, rmsRow, Xb, addMat, rowsAt, rowsAt3, colsAt, gateAt, tapAt]

/-- The rows of the second norm that the body stores for the second group. -/
theorem n_group1 (o : ℕ) (ho : o + 256 ≤ 1024) :
    k0_pay54 (F := Ideal) (rowsAt3 x0 o ho) (rowsAt (Mb x0 x1 x2 x3 x4 x5 x6 tl) o ho) x7 x8
      = rowsAt (Nb x0 x1 x2 x3 x4 x5 x6 x7 x8 tl) o ho := by
  funext j
  idx_vars j
  pointwise [k0_pay54, k0_pay52, Nb, rmsRow, Xb, addMat, rowsAt, rowsAt3, colsAt, gateAt, tapAt]

/-- The rows of the second norm that the body stores for the third group. -/
theorem n_group2 (o : ℕ) (ho : o + 256 ≤ 1024) :
    k0_pay58 (F := Ideal) (k0_pay55 (rowsAt3 x0 o ho)) (rowsAt (Mb x0 x1 x2 x3 x4 x5 x6 tl) o ho) x7 x8
      = rowsAt (Nb x0 x1 x2 x3 x4 x5 x6 x7 x8 tl) o ho := by
  funext j
  idx_vars j
  pointwise [k0_pay58, k0_pay56, k0_pay55, Nb, rmsRow, Xb, addMat, rowsAt, rowsAt3, colsAt, gateAt, tapAt]

/-- The rows of the second norm that the body stores for the last group. -/
theorem n_group3 (o : ℕ) (ho : o + 256 ≤ 1024) :
    k0_pay61 (F := Ideal) (k0_pay59 (rowsAt3 x0 o ho) (rowsAt (Mb x0 x1 x2 x3 x4 x5 x6 tl) o ho) x7) x8
      = rowsAt (Nb x0 x1 x2 x3 x4 x5 x6 x7 x8 tl) o ho := by
  funext j
  idx_vars j
  pointwise [k0_pay61, k0_pay59, Nb, rmsRow, Xb, addMat, rowsAt, rowsAt3, colsAt, gateAt, tapAt]

/-- The hidden rows that the body stores for a group and 256 columns from column `n` on. -/
theorem a_group (o n : ℕ) (ho : o + 256 ≤ 1024) (inb : ∀ a, ![0, n] a + S1024x256.size a ≤ S1024x2816.size a)
    (inb' : ∀ a, ![o, n] a + S256x256.size a ≤ S1024x2816.size a) :
    k0_pay62 (F := Ideal) (rowsAt (Nb x0 x1 x2 x3 x4 x5 x6 x7 x8 tl) o ho) (View.ld x9 (Rect.unit ![0, n] S1024x256.size inb)) (rowsAt (Nb x0 x1 x2 x3 x4 x5 x6 x7 x8 tl) o ho) (View.ld x10 (Rect.unit ![0, n] S1024x256.size inb))
      = View.ld (Ab x0 x1 x2 x3 x4 x5 x6 x7 x8 x9 x10 tl) (Rect.unit ![o, n] S256x256.size inb') := by
  funext j
  idx_vars j
  pointwise [k0_pay62, Ab, actRow, rowsAt, rowsAt3, colsAt, gateAt, tapAt]

/-- The result that the body stores for the first group. -/
theorem o_group0 (o : ℕ) (ho : o + 256 ≤ 1024) :
    k0_pay124 (F := Ideal) (rowsAt3 (Xb x0 x1 x2 x3 x4 x5 x6 x7 tl) o ho) (rowsAt (Ab x0 x1 x2 x3 x4 x5 x6 x7 x8 x9 x10 tl) o ho) x11 x12
      = rowsAt3 (Ob x0 x1 x2 x3 x4 x5 x6 x7 x8 x9 x10 x11 x12 tl) o ho := by
  funext j
  idx_vars j
  pointwise [k0_pay124, Ob, rmsRow, halfStep, rowsAt, rowsAt3, colsAt, gateAt, tapAt]

/-- The result that the body stores for the second group. -/
theorem o_group1 (o : ℕ) (ho : o + 256 ≤ 1024) :
    k0_pay127 (F := Ideal) (k0_pay125 (rowsAt3 (Xb x0 x1 x2 x3 x4 x5 x6 x7 tl) o ho)) (k0_pay126 (rowsAt (Ab x0 x1 x2 x3 x4 x5 x6 x7 x8 x9 x10 tl) o ho) x11) x12
      = rowsAt3 (Ob x0 x1 x2 x3 x4 x5 x6 x7 x8 x9 x10 x11 x12 tl) o ho := by
  funext j
  idx_vars j
  pointwise [k0_pay127, k0_pay125, k0_pay126, Ob, rmsRow, halfStep, rowsAt, rowsAt3, colsAt, gateAt, tapAt]

/-- The result that the body stores for the third group. -/
theorem o_group2 (o : ℕ) (ho : o + 256 ≤ 1024) :
    k0_pay131 (F := Ideal) (k0_pay128 (rowsAt3 (Xb x0 x1 x2 x3 x4 x5 x6 x7 tl) o ho) (rowsAt (Ab x0 x1 x2 x3 x4 x5 x6 x7 x8 x9 x10 tl) o ho) x11) (k0_pay129 x12) (k0_pay130 (rowsAt3 (Xb x0 x1 x2 x3 x4 x5 x6 x7 tl) o ho) (rowsAt (Ab x0 x1 x2 x3 x4 x5 x6 x7 x8 x9 x10 tl) o ho) x11) (Scalar.ofBits .f32 897988541#32)
      = rowsAt3 (Ob x0 x1 x2 x3 x4 x5 x6 x7 x8 x9 x10 x11 x12 tl) o ho := by
  funext j
  idx_vars j
  pointwise [k0_pay131, k0_pay128, k0_pay129, k0_pay130, Ob, rmsRow, halfStep, rowsAt, rowsAt3, colsAt, gateAt, tapAt]

/-- The result that the body stores for the last group. -/
theorem o_group3 (o : ℕ) (ho : o + 256 ≤ 1024) :
    k0_pay1 (F := Ideal) (k0_pay132 (rowsAt3 (Xb x0 x1 x2 x3 x4 x5 x6 x7 tl) o ho)) (rowsAt (Ab x0 x1 x2 x3 x4 x5 x6 x7 x8 x9 x10 tl) o ho) x11 x12
      = rowsAt3 (Ob x0 x1 x2 x3 x4 x5 x6 x7 x8 x9 x10 x11 x12 tl) o ho := by
  funext j
  idx_vars j
  pointwise [k0_pay1, k0_pay132, Ob, rmsRow, halfStep, rowsAt, rowsAt3, colsAt, gateAt, tapAt]

end Cert.Mix

end
-- ==== Proof.Mix.Run.lean ====
module
public import proofs.«01_k».proof.Proof.Gen.KernelIdeal.Frame
public import proofs.«01_k».proof.Proof.Mix.Block

/-!
What one run of the kernel's body leaves in its output block and in the two rows it keeps for the next block, in terms of the stages of
`Proof.Mix.Block`.
-/

@[expose] public section

set_option maxRecDepth 16384
set_option maxHeartbeats 4000000

noncomputable section

namespace Cert.Mix

open Cert.KernelIdeal Cert.KernelIdeal.Gen Idealize.ShloMosaic

section Reading

variable {sig' : RefSig} {κ : Kind} {sp : Space} {s : Shape} {e : EltTy} {Val : EltTy → Type}

/-- Pieces of which the first `n` write one array and cover an index hold that array there. -/
theorem canon_take [∀ e, Nonempty (Val e)] (G : s.Idx → Val e) (n : ℕ) (L : List (View.Piece Val s e)) (h : View.PiecesOf G (L.take n)) (y : s.Idx)
    (hc : ∃ p ∈ L.take n, y ∈ p.1.set) : View.canon L y = G y := by
  conv_lhs => rw [← List.take_append_drop n L]
  exact View.canon_append_of_piecesOf G _ _ h y hc

end Reading

variable (c : Dev nD) (i : grid0.Coords) (arg2 : Memref sig .tc .vmem S1x1024x1024 .f32) (harg2 : arg2.IsWhole) (arg3 : Memref sig .tc .vmem S1x1024x512 .bf16) (harg3 : arg3.IsWhole) (arg4 : Memref sig .tc .vmem S1x1024 .f32) (harg4 : arg4.IsWhole) (arg5 : Memref sig .tc .vmem S1024x3584 .bf16) (harg5 : arg5.IsWhole) (arg6 : Memref sig .tc .vmem S3x512 .f32) (harg6 : arg6.IsWhole) (arg7 : Memref sig .tc .vmem S512x1024 .bf16) (harg7 : arg7.IsWhole) (arg8 : Memref sig .tc .vmem S512x1024 .bf16) (harg8 : arg8.IsWhole) (arg9 : Memref sig .tc .vmem S1024x1024 .bf16) (harg9 : arg9.IsWhole) (arg10 : Memref sig .tc .vmem S1x1024 .f32) (harg10 : arg10.IsWhole) (arg11 : Memref sig .tc .vmem S1024x2816 .bf16) (harg11 : arg11.IsWhole) (arg12 : Memref sig .tc .vmem S1024x2816 .bf16) (harg12 : arg12.IsWhole) (arg13 : Memref sig .tc .vmem S2816x1024 .bf16) (harg13 : arg13.IsWhole) (arg14 : Memref sig .tc .vmem S1x1024 .f32) (harg14 : arg14.IsWhole) (arg15 : Memref sig .tc .vmem S1x1024x1024 .f32) (harg15 : arg15.IsWhole) (arg16 : Memref sig .tc .vmem S1024x1024 .bf16) (harg16 : arg16.IsWhole) (arg17 : Memref sig .tc .vmem S1024x2816 .bf16) (harg17 : arg17.IsWhole) (arg18 : Memref sig .tc .vmem S2x512 .f32) (harg18 : arg18.IsWhole)
  (x0 : Vec Ideal S1x1024x1024 .f32) (x1 : Vec Ideal S1x1024x512 .bf16) (x2 : Vec Ideal S1x1024 .f32) (x3 : Vec Ideal S1024x3584 .bf16)
  (x4 : Vec Ideal S3x512 .f32) (x5 : Vec Ideal S512x1024 .bf16) (x6 : Vec Ideal S512x1024 .bf16) (x7 : Vec Ideal S1024x1024 .bf16)
  (x8 : Vec Ideal S1x1024 .f32) (x9 : Vec Ideal S1024x2816 .bf16) (x10 : Vec Ideal S1024x2816 .bf16) (x11 : Vec Ideal S2816x1024 .bf16)
  (x12 : Vec Ideal S1x1024 .f32) (tl : Vec Ideal S2x512 .f32)

/-- The two rows in front of the block are the two rows kept for it. -/
theorem sh_zero (T : Vec Ideal S2x512 .f32) (i : Fin 2) (l : Fin 512) : T (ix2 i l) = Sh x0 x2 x3 T (0 + i) l := by
  simp only [Sh, shifted]
  rw [dif_pos (by omega)]
  congr 2
  ext
  simp

/-- The hidden rows as the body reads them back, of a block that continues a sequence, with `tl` the two rows kept from the block before. -/
theorem acts_B (o : ℕ) (ho : o + 256 ≤ 1024) (inb : ∀ a, ![o, 0] a + S256x2816.size a ≤ S1024x2816.size a) :
    arg17.view.readCov (kernelRun0_B.sl.HS1_48 (F := Ideal) c arg2 harg2 arg3 harg3 arg4 harg4 arg5 harg5 arg6 harg6 arg7 harg7 arg8 harg8 arg9 harg9 arg10 harg10 arg11 harg11 arg12 harg12 arg16 arg17 arg18 harg18 x0 x1 x2 x3 x4 x5 x6 x7 x8 x9 x10 tl)
        (Rect.unit (s := S1024x2816) ![o, 0] S256x2816.size inb).toLoadRect
      = rowsAt (Ab x0 x1 x2 x3 x4 x5 x6 x7 x8 x9 x10 tl) o ho := by
  have c0 := c_group0 x0 x2 x3 x4 tl tl 0 (by decide) (sh_zero x0 x2 x3 tl)
  have c1 := c_group1 x0 x2 x3 x4 tl _ 256 (by decide) (t_group0 x0 x2 x3 tl 0 (by decide))
  have c2 := c_group2 x0 x2 x3 x4 tl _ 512 (by decide) (t_group1 x0 x2 x3 tl 256 (by decide))
  have c3 := c_group3 x0 x2 x3 x4 tl _ 768 (by decide) (t_group2 x0 x2 x3 tl 512 (by decide))
  have key : ∀ y, View.canon (kernelRun0_B.sl.HS1_48 (F := Ideal) c arg2 harg2 arg3 harg3 arg4 harg4 arg5 harg5 arg6 harg6 arg7 harg7 arg8 harg8 arg9 harg9 arg10 harg10 arg11 harg11 arg12 harg12 arg16 arg17 arg18 harg18 x0 x1 x2 x3 x4 x5 x6 x7 x8 x9 x10 tl) y
      = Ab x0 x1 x2 x3 x4 x5 x6 x7 x8 x9 x10 tl y := by
    intro y
    frame_open
    simp (disch := decide) only [↓ View.readCov_skip, ↓ View.readCov_cons_toLoadRect, ↓ View.readCov_fill]
    frame_out
    simp (disch := decide) only [h_group0, h_group1, h_group2, h_group3, c0, c1, c2, c3, m_group0, m_group1, m_group2, m_group3, n_group0, n_group1, n_group2, n_group3]
    refine canon_take _ 44 _ ?_ y ?_
    case' refine_2 => exact View.cover_of_tiledL (s := S1024x2816) _ S256x256.size (by sl_kernel_rfl) y
    dsimp only [List.take, View.PiecesOf]
    and_intros
    all_goals first
      | exact trivial
      | exact fun x => congrFun (a_group x0 x1 x2 x3 x4 x5 x6 x7 x8 x9 x10 tl _ _ (by decide) (by decide) (by decide)) x
  rw [View.readCov_eq_canon']
  exact funext fun j => key _

/-- What the body leaves in its output block, of a block that continues a sequence, with `tl` the two rows kept from the block before. -/
theorem out_B (hc : ¬cond0_0 i) : out0_B_13 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc x0 x1 x2 x3 x4 x5 x6 x7 x8 x9 x10 x11 x12 tl = Ob x0 x1 x2 x3 x4 x5 x6 x7 x8 x9 x10 x11 x12 tl := by
  have c0 := c_group0 x0 x2 x3 x4 tl tl 0 (by decide) (sh_zero x0 x2 x3 tl)
  have c1 := c_group1 x0 x2 x3 x4 tl _ 256 (by decide) (t_group0 x0 x2 x3 tl 0 (by decide))
  have c2 := c_group2 x0 x2 x3 x4 tl _ 512 (by decide) (t_group1 x0 x2 x3 tl 256 (by decide))
  have c3 := c_group3 x0 x2 x3 x4 tl _ 768 (by decide) (t_group2 x0 x2 x3 tl 512 (by decide))
  have acts := acts_B c arg2 harg2 arg3 harg3 arg4 harg4 arg5 harg5 arg6 harg6 arg7 harg7 arg8 harg8 arg9 harg9 arg10 harg10 arg11 harg11 arg12 harg12 arg16 arg17 arg18 harg18 x0 x1 x2 x3 x4 x5 x6 x7 x8 x9 x10 tl
  have a0 := acts 0 (by decide) inb_S1024x2816_S256x2816_0_0
  have a1 := acts 256 (by decide) inb_S1024x2816_S256x2816_256_0
  have a2 := acts 512 (by decide) inb_S1024x2816_S256x2816_512_0
  have a3 := acts 768 (by decide) inb_S1024x2816_S256x2816_768_0
  clear acts
  frame_open at a0 a1 a2 a3
  funext y
  frame_open
  simp (disch := decide) only [↓ a0, ↓ a1, ↓ a2, ↓ a3, ↓ View.readCov_skip, ↓ View.readCov_cons_toLoadRect, ↓ View.readCov_fill]
  clear a0 a1 a2 a3
  frame_out
  simp (disch := decide) only [h_group0, h_group1, h_group2, h_group3, c0, c1, c2, c3, m_group0, m_group1, m_group2, m_group3, x_group0, x_group1, x_group2, x_group3,
    o_group0, o_group1, o_group2, o_group3]
  refine canon_take _ 4 _ ?_ y ?_
  · exact ⟨fun _ => rfl, fun _ => rfl, fun _ => rfl, fun _ => rfl, trivial⟩
  exact View.cover_of_tiledL (s := S1x1024x1024) _ S1x256x1024.size (by sl_kernel_rfl) y

/-- What the body keeps for the next block, of a block that continues a sequence, with `tl` the two rows kept from the block before. -/
theorem kept_B (hc : ¬cond0_0 i) (r : Fin 2) (l : Fin 512) :
    sout0_B_2 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc x0 x1 x2 x3 x4 x5 x6 x7 x8 x9 x10 x11 x12 tl (ix2 r l) = Sh x0 x2 x3 tl (1024 + r) l := by
  frame_open
  simp (disch := decide) only [↓ View.readCov_skip, ↓ View.readCov_cons_toLoadRect, ↓ View.readCov_fill]
  frame_out
  simp (disch := decide) only [h_group3]
  exact t_group3 x0 x2 x3 tl 768 (by decide) r l

/-- The hidden rows as the body reads them back, of a block that starts a sequence, with zeros in front. -/
theorem acts_A (o : ℕ) (ho : o + 256 ≤ 1024) (inb : ∀ a, ![o, 0] a + S256x2816.size a ≤ S1024x2816.size a) :
    arg17.view.readCov (kernelRun0_A.sl.HS1_48 (F := Ideal) c arg2 harg2 arg3 harg3 arg4 harg4 arg5 harg5 arg6 harg6 arg7 harg7 arg8 harg8 arg9 harg9 arg10 harg10 arg11 harg11 arg12 harg12 arg16 arg17 arg18 x0 x1 x2 x3 x4 x5 x6 x7 x8 x9 x10)
        (Rect.unit (s := S1024x2816) ![o, 0] S256x2816.size inb).toLoadRect
      = rowsAt (Ab x0 x1 x2 x3 x4 x5 x6 x7 x8 x9 x10 (k0_pay2 (F := Ideal))) o ho := by
  have c0 := c_group0 x0 x2 x3 x4 (k0_pay2 (F := Ideal)) (k0_pay2 (F := Ideal)) 0 (by decide) (sh_zero x0 x2 x3 (k0_pay2 (F := Ideal)))
  have c1 := c_group1 x0 x2 x3 x4 (k0_pay2 (F := Ideal)) _ 256 (by decide) (t_group0 x0 x2 x3 (k0_pay2 (F := Ideal)) 0 (by decide))
  have c2 := c_group2 x0 x2 x3 x4 (k0_pay2 (F := Ideal)) _ 512 (by decide) (t_group1 x0 x2 x3 (k0_pay2 (F := Ideal)) 256 (by decide))
  have c3 := c_group3 x0 x2 x3 x4 (k0_pay2 (F := Ideal)) _ 768 (by decide) (t_group2 x0 x2 x3 (k0_pay2 (F := Ideal)) 512 (by decide))
  have key : ∀ y, View.canon (kernelRun0_A.sl.HS1_48 (F := Ideal) c arg2 harg2 arg3 harg3 arg4 harg4 arg5 harg5 arg6 harg6 arg7 harg7 arg8 harg8 arg9 harg9 arg10 harg10 arg11 harg11 arg12 harg12 arg16 arg17 arg18 x0 x1 x2 x3 x4 x5 x6 x7 x8 x9 x10) y
      = Ab x0 x1 x2 x3 x4 x5 x6 x7 x8 x9 x10 (k0_pay2 (F := Ideal)) y := by
    intro y
    frame_open
    simp (disch := decide) only [↓ View.readCov_skip, ↓ View.readCov_cons_toLoadRect, ↓ View.readCov_fill]
    frame_out
    simp (disch := decide) only [h_group0, h_group1, h_group2, h_group3, c0, c1, c2, c3, m_group0, m_group1, m_group2, m_group3, n_group0, n_group1, n_group2, n_group3]
    refine canon_take _ 44 _ ?_ y ?_
    case' refine_2 => exact View.cover_of_tiledL (s := S1024x2816) _ S256x256.size (by sl_kernel_rfl) y
    dsimp only [List.take, View.PiecesOf]
    and_intros
    all_goals first
      | exact trivial
      | exact fun x => congrFun (a_group x0 x1 x2 x3 x4 x5 x6 x7 x8 x9 x10 (k0_pay2 (F := Ideal)) _ _ (by decide) (by decide) (by decide)) x
  rw [View.readCov_eq_canon']
  exact funext fun j => key _

/-- What the body leaves in its output block, of a block that starts a sequence, with zeros in front. -/
theorem out_A (hc : cond0_0 i) : out0_A_13 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc x0 x1 x2 x3 x4 x5 x6 x7 x8 x9 x10 x11 x12 = Ob x0 x1 x2 x3 x4 x5 x6 x7 x8 x9 x10 x11 x12 (k0_pay2 (F := Ideal)) := by
  have c0 := c_group0 x0 x2 x3 x4 (k0_pay2 (F := Ideal)) (k0_pay2 (F := Ideal)) 0 (by decide) (sh_zero x0 x2 x3 (k0_pay2 (F := Ideal)))
  have c1 := c_group1 x0 x2 x3 x4 (k0_pay2 (F := Ideal)) _ 256 (by decide) (t_group0 x0 x2 x3 (k0_pay2 (F := Ideal)) 0 (by decide))
  have c2 := c_group2 x0 x2 x3 x4 (k0_pay2 (F := Ideal)) _ 512 (by decide) (t_group1 x0 x2 x3 (k0_pay2 (F := Ideal)) 256 (by decide))
  have c3 := c_group3 x0 x2 x3 x4 (k0_pay2 (F := Ideal)) _ 768 (by decide) (t_group2 x0 x2 x3 (k0_pay2 (F := Ideal)) 512 (by decide))
  have acts := acts_A c arg2 harg2 arg3 harg3 arg4 harg4 arg5 harg5 arg6 harg6 arg7 harg7 arg8 harg8 arg9 harg9 arg10 harg10 arg11 harg11 arg12 harg12 arg16 arg17 arg18 x0 x1 x2 x3 x4 x5 x6 x7 x8 x9 x10
  have a0 := acts 0 (by decide) inb_S1024x2816_S256x2816_0_0
  have a1 := acts 256 (by decide) inb_S1024x2816_S256x2816_256_0
  have a2 := acts 512 (by decide) inb_S1024x2816_S256x2816_512_0
  have a3 := acts 768 (by decide) inb_S1024x2816_S256x2816_768_0
  clear acts
  frame_open at a0 a1 a2 a3
  funext y
  frame_open
  simp (disch := decide) only [↓ a0, ↓ a1, ↓ a2, ↓ a3, ↓ View.readCov_skip, ↓ View.readCov_cons_toLoadRect, ↓ View.readCov_fill]
  clear a0 a1 a2 a3
  frame_out
  simp (disch := decide) only [h_group0, h_group1, h_group2, h_group3, c0, c1, c2, c3, m_group0, m_group1, m_group2, m_group3, x_group0, x_group1, x_group2, x_group3,
    o_group0, o_group1, o_group2, o_group3]
  refine canon_take _ 4 _ ?_ y ?_
  · exact ⟨fun _ => rfl, fun _ => rfl, fun _ => rfl, fun _ => rfl, trivial⟩
  exact View.cover_of_tiledL (s := S1x1024x1024) _ S1x256x1024.size (by sl_kernel_rfl) y

/-- What the body keeps for the next block, of a block that starts a sequence, with zeros in front. -/
theorem kept_A (hc : cond0_0 i) (r : Fin 2) (l : Fin 512) :
    sout0_A_2 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc x0 x1 x2 x3 x4 x5 x6 x7 x8 x9 x10 x11 x12 (ix2 r l) = Sh x0 x2 x3 (k0_pay2 (F := Ideal)) (1024 + r) l := by
  frame_open
  simp (disch := decide) only [↓ View.readCov_skip, ↓ View.readCov_cons_toLoadRect, ↓ View.readCov_fill]
  frame_out
  simp (disch := decide) only [h_group3]
  exact t_group3 x0 x2 x3 (k0_pay2 (F := Ideal)) 768 (by decide) r l

end Cert.Mix

end
-- ==== Proof.Mix.Array.lean ====
module
public import proofs.«01_k».proof.Proof.Gen.KernelIdeal.Value
public import proofs.«01_k».proof.Proof.Mix.Run

/-!
What the kernel's result array holds after its run: `layer` of the arrays it was launched on.
-/

@[expose] public section

set_option maxRecDepth 16384

noncomputable section

namespace Cert.Mix

open Cert.KernelIdeal Cert.KernelIdeal.Gen Idealize.ShloMosaic Idealize.ShloMosaic.TcCoe Idealize.SL.Sem

variable (m : (ℓ : Loc nD τ sig) → Buf (Elt Ideal) ℓ) (c : Dev nD)

/-- The weights the kernel was launched on. -/
def wt : Wt where
  mg k := m ((c : Thread nD τ).loc main_arg2) (ix1 k)
  w k n := m ((c : Thread nD τ).loc main_arg3) (ix2 k ⟨1544 + n, by omega⟩)
  cw k n := m ((c : Thread nD τ).loc main_arg4) (ix2 k n)
  wa k n := m ((c : Thread nD τ).loc main_arg5) (ix2 k n)
  wc k n := m ((c : Thread nD τ).loc main_arg6) (ix2 k n)
  wo k n := m ((c : Thread nD τ).loc main_arg7) (ix2 k n)
  fg k := m ((c : Thread nD τ).loc main_arg8) (ix1 k)
  g k n := m ((c : Thread nD τ).loc main_arg9) (ix2 k n)
  u k n := m ((c : Thread nD τ).loc main_arg10) (ix2 k n)
  d k n := m ((c : Thread nD τ).loc main_arg11) (ix2 k n)
  ng k := m ((c : Thread nD τ).loc main_arg12) (ix1 k)

/-- The running state the kernel was launched on. -/
def xs (b : Fin 16) (t : Fin 2048) (k : Fin 1024) : EReal := m ((c : Thread nD τ).loc main_arg0) (ix3 b t k)

/-- The attention's output the kernel was launched on. -/
def ys (b : Fin 16) (t : Fin 2048) (k : Fin 512) : EReal := m ((c : Thread nD τ).loc main_arg1) (ix3 b t k)

theorem idx0 : ∀ t : Fin grid0.N, win0_0.index t = ![t.val / 2, t.val % 2, 0] := by decide +kernel
theorem idx1 : ∀ t : Fin grid0.N, win0_1.index t = ![t.val / 2, t.val % 2, 0] := by decide +kernel
theorem idx2 : ∀ t : Fin grid0.N, win0_2.index t = ![0, 0] := by decide +kernel
theorem idx3 : ∀ t : Fin grid0.N, win0_3.index t = ![0, 0] := by decide +kernel
theorem idx4 : ∀ t : Fin grid0.N, win0_4.index t = ![0, 0] := by decide +kernel
theorem idx5 : ∀ t : Fin grid0.N, win0_5.index t = ![0, 0] := by decide +kernel
theorem idx6 : ∀ t : Fin grid0.N, win0_6.index t = ![0, 0] := by decide +kernel
theorem idx7 : ∀ t : Fin grid0.N, win0_7.index t = ![0, 0] := by decide +kernel
theorem idx8 : ∀ t : Fin grid0.N, win0_8.index t = ![0, 0] := by decide +kernel
theorem idx9 : ∀ t : Fin grid0.N, win0_9.index t = ![0, 0] := by decide +kernel
theorem idx10 : ∀ t : Fin grid0.N, win0_10.index t = ![0, 0] := by decide +kernel
theorem idx11 : ∀ t : Fin grid0.N, win0_11.index t = ![0, 0] := by decide +kernel
theorem idx12 : ∀ t : Fin grid0.N, win0_12.index t = ![0, 0] := by decide +kernel
theorem idx13 : ∀ t : Fin grid0.N, win0_13.index t = ![t.val / 2, t.val % 2, 0] := by decide +kernel

/-- The sequence whose block grid point `t` computes. -/
def sq (t : Fin cfg0.N) : Fin 16 := ⟨t.val / 2, by have := lt_of_lt_of_eq t.isLt N_0; omega⟩

/-- The token that is row `r` of the block of grid point `t`. -/
def tk (t : Fin cfg0.N) (r : Fin 1024) : Fin 2048 := ⟨1024 * (t.val % 2) + r, by omega⟩

theorem blk0 (t : Fin cfg0.N) (r k : Fin 1024) :
    iblk m c 0 t (ix3 0 r k) = xs m c (sq t) (tk t r) k := by
  unfold xs sq tk
  blk_ext [iblk, V, idx0 t]

theorem blk1 (t : Fin cfg0.N) (r : Fin 1024) (k : Fin 512) :
    iblk m c 1 t (ix3 0 r k) = ys m c (sq t) (tk t r) k := by
  unfold ys sq tk
  blk_ext [iblk, V, idx1 t]

theorem blk2 (t : Fin cfg0.N) (k : Fin 1024) : iblk m c 2 t (ix2 0 k) = (wt m c).mg k := by
  dsimp only [wt]
  blk_ext! [iblk, V, idx2 t]

theorem blk3 (t : Fin cfg0.N) (k : Fin 1024) (n : Fin 3584) : iblk m c 3 t (ix2 k n) = (wt m c).w k n := by
  dsimp only [wt]
  blk_ext! [iblk, V, idx3 t]

theorem blk4 (t : Fin cfg0.N) (k : Fin 3) (n : Fin 512) : iblk m c 4 t (ix2 k n) = (wt m c).cw k n := by
  dsimp only [wt]
  blk_ext! [iblk, V, idx4 t]

theorem blk5 (t : Fin cfg0.N) (k : Fin 512) (n : Fin 1024) : iblk m c 5 t (ix2 k n) = (wt m c).wa k n := by
  dsimp only [wt]
  blk_ext! [iblk, V, idx5 t]

theorem blk6 (t : Fin cfg0.N) (k : Fin 512) (n : Fin 1024) : iblk m c 6 t (ix2 k n) = (wt m c).wc k n := by
  dsimp only [wt]
  blk_ext! [iblk, V, idx6 t]

theorem blk7 (t : Fin cfg0.N) (k : Fin 1024) (n : Fin 1024) : iblk m c 7 t (ix2 k n) = (wt m c).wo k n := by
  dsimp only [wt]
  blk_ext! [iblk, V, idx7 t]

theorem blk8 (t : Fin cfg0.N) (k : Fin 1024) : iblk m c 8 t (ix2 0 k) = (wt m c).fg k := by
  dsimp only [wt]
  blk_ext! [iblk, V, idx8 t]

theorem blk9 (t : Fin cfg0.N) (k : Fin 1024) (n : Fin 2816) : iblk m c 9 t (ix2 k n) = (wt m c).g k n := by
  dsimp only [wt]
  blk_ext! [iblk, V, idx9 t]

theorem blk10 (t : Fin cfg0.N) (k : Fin 1024) (n : Fin 2816) : iblk m c 10 t (ix2 k n) = (wt m c).u k n := by
  dsimp only [wt]
  blk_ext! [iblk, V, idx10 t]

theorem blk11 (t : Fin cfg0.N) (k : Fin 2816) (n : Fin 1024) : iblk m c 11 t (ix2 k n) = (wt m c).d k n := by
  dsimp only [wt]
  blk_ext! [iblk, V, idx11 t]

theorem blk12 (t : Fin cfg0.N) (k : Fin 1024) : iblk m c 12 t (ix2 0 k) = (wt m c).ng k := by
  dsimp only [wt]
  blk_ext! [iblk, V, idx12 t]

/-- The gated rows of the block of point `t` are those of its tokens. -/
theorem bx_point (t : Fin cfg0.N) (r : Fin 1024) :
    Bx (iblk m c 0 t) (iblk m c 2 t) (iblk m c 3 t) r = bxRow (rmsRow (xs m c (sq t) (tk t r)) (wt m c).mg) (wt m c).w := by
  simp only [Bx]
  congr 1
  · funext k
    exact congrFun (congrArg₂ rmsRow (funext fun k => blk0 m c t r k) (funext fun k => blk2 m c t k)) k
  · funext k n
    exact blk3 m c t k n

/-- The gated rows of the block of point `t` with two in front are those of its sequence, if the two in front are. -/
theorem sh_point (t : Fin cfg0.N) (tl : Vec Ideal S2x512 .f32)
    (htl : ∀ i l, tl (ix2 i l) = backRow (wt m c) (xs m c (sq t)) (1024 * (t.val % 2) + i) l) (n : ℕ) (hn : n < 1026) :
    Sh (iblk m c 0 t) (iblk m c 2 t) (iblk m c 3 t) tl n = backRow (wt m c) (xs m c (sq t)) (1024 * (t.val % 2) + n) := by
  funext l
  by_cases h : n < 2
  · simp only [Sh, shifted]
    rw [dif_pos h]
    exact htl _ _
  · simp only [Sh, shifted, backRow]
    rw [dif_neg h, dif_pos (by omega), dif_neg (by omega), dif_pos (by omega), bx_point]
    congr 4
    ext
    simp only [tk]
    omega

/-- What the body computes for row `r` of the block of point `t`, if the two rows in front are those of the sequence. -/
theorem o_point (t : Fin cfg0.N) (tl : Vec Ideal S2x512 .f32)
    (htl : ∀ i l, tl (ix2 i l) = backRow (wt m c) (xs m c (sq t)) (1024 * (t.val % 2) + i) l) (r k : Fin 1024) :
    Ob (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) tl (ix3 0 r k) = layer (wt m c) (xs m c) (ys m c) (sq t) (tk t r) k := by
  have e0 : (fun k => iblk m c 0 t (ix3 0 r k)) = xs m c (sq t) (tk t r) := funext fun k => blk0 m c t r k
  have e1 : (fun k => iblk m c 1 t (ix3 0 r k)) = ys m c (sq t) (tk t r) := funext fun k => blk1 m c t r k
  have e2 : (fun k => iblk m c 2 t (ix2 0 k)) = (wt m c).mg := funext fun k => blk2 m c t k
  have e3 : (fun k n => iblk m c 3 t (ix2 k n)) = (wt m c).w := funext fun k => funext fun n => blk3 m c t k n
  have e4 : (fun k n => iblk m c 4 t (ix2 k n)) = (wt m c).cw := funext fun k => funext fun n => blk4 m c t k n
  have e5 : (fun k n => iblk m c 5 t (ix2 k n)) = (wt m c).wa := funext fun k => funext fun n => blk5 m c t k n
  have e6 : (fun k n => iblk m c 6 t (ix2 k n)) = (wt m c).wc := funext fun k => funext fun n => blk6 m c t k n
  have e7 : (fun k n => iblk m c 7 t (ix2 k n)) = (wt m c).wo := funext fun k => funext fun n => blk7 m c t k n
  have e8 : (fun k => iblk m c 8 t (ix2 0 k)) = (wt m c).fg := funext fun k => blk8 m c t k
  have e9 : (fun k n => iblk m c 9 t (ix2 k n)) = (wt m c).g := funext fun k => funext fun n => blk9 m c t k n
  have e10 : (fun k n => iblk m c 10 t (ix2 k n)) = (wt m c).u := funext fun k => funext fun n => blk10 m c t k n
  have e11 : (fun k n => iblk m c 11 t (ix2 k n)) = (wt m c).d := funext fun k => funext fun n => blk11 m c t k n
  have e12 : (fun k => iblk m c 12 t (ix2 0 k)) = (wt m c).ng := funext fun k => blk12 m c t k
  have s0 := sh_point m c t tl htl r (by omega)
  have s1 := sh_point m c t tl htl (r + 1) (by omega)
  show rmsRow (halfStep (addMat (fun k => iblk m c 0 t (ix3 0 r k)) (mergeRow (rmsRow (fun k => iblk m c 0 t (ix3 0 r k)) (fun k => iblk m c 2 t (ix2 0 k)))
    (fun k n => iblk m c 3 t (ix2 k n)) (fun k n => iblk m c 5 t (ix2 k n)) (fun k n => iblk m c 6 t (ix2 k n)) (fun k => iblk m c 1 t (ix3 0 r k))
    (convRow (rmsRow (fun k => iblk m c 0 t (ix3 0 r k)) (fun k => iblk m c 2 t (ix2 0 k))) (fun k n => iblk m c 3 t (ix2 k n)) (fun k n => iblk m c 4 t (ix2 k n))
      (Sh (iblk m c 0 t) (iblk m c 2 t) (iblk m c 3 t) tl r) (Sh (iblk m c 0 t) (iblk m c 2 t) (iblk m c 3 t) tl (r + 1))
      (Bx (iblk m c 0 t) (iblk m c 2 t) (iblk m c 3 t) r))) (fun k n => iblk m c 7 t (ix2 k n)))
    (actRow (rmsRow (addMat (fun k => iblk m c 0 t (ix3 0 r k)) (mergeRow (rmsRow (fun k => iblk m c 0 t (ix3 0 r k)) (fun k => iblk m c 2 t (ix2 0 k)))
    (fun k n => iblk m c 3 t (ix2 k n)) (fun k n => iblk m c 5 t (ix2 k n)) (fun k n => iblk m c 6 t (ix2 k n)) (fun k => iblk m c 1 t (ix3 0 r k))
    (convRow (rmsRow (fun k => iblk m c 0 t (ix3 0 r k)) (fun k => iblk m c 2 t (ix2 0 k))) (fun k n => iblk m c 3 t (ix2 k n)) (fun k n => iblk m c 4 t (ix2 k n))
      (Sh (iblk m c 0 t) (iblk m c 2 t) (iblk m c 3 t) tl r) (Sh (iblk m c 0 t) (iblk m c 2 t) (iblk m c 3 t) tl (r + 1))
      (Bx (iblk m c 0 t) (iblk m c 2 t) (iblk m c 3 t) r))) (fun k n => iblk m c 7 t (ix2 k n))) (fun k => iblk m c 8 t (ix2 0 k)))
      (fun k n => iblk m c 9 t (ix2 k n)) (fun k n => iblk m c 10 t (ix2 k n))) (fun k n => iblk m c 11 t (ix2 k n))) (fun k => iblk m c 12 t (ix2 0 k)) k = _
  rw [e0, e1, e2, e3, e4, e5, e6, e7, e8, e9, e10, e11, e12, s0, s1, bx_point]
  rfl

/-- The two rows in front of a sequence are zeros. -/
theorem zero_tail (i : Fin 2) (l : Fin 512) : k0_pay2 (F := Ideal) (ix2 i l) = 0 := by
  pointwise [k0_pay2]

/-- What the body keeps at an even point is the last two gated rows of its block. -/
theorem tail_even (t : Fin cfg0.N) (h : t.val % 2 = 0) (i : Fin 2) (l : Fin 512) :
    (outsAt0 (F := Ideal) m c t.val t.isLt).2 (ix2 i l) = backRow (wt m c) (xs m c (sq t)) (1024 + i) l := by
  rw [outsAt0_A m c t h]
  dsimp only
  rw [kept_A]
  have := congrFun (sh_point m c t (k0_pay2 (F := Ideal)) (fun i l => ?_) (1024 + i) (by omega)) l
  · rw [this, h, Nat.mul_zero, Nat.zero_add]
  · exact (zero_tail i l).trans (by simp only [h, backRow, shifted]; rw [dif_pos (by omega)])

/-- The block the body puts out at point `t` holds the layer at its tokens. -/
theorem out_point (t : Fin cfg0.N) (r k : Fin 1024) :
    (outsAt0 (F := Ideal) m c t.val t.isLt).1 (ix3 0 r k) = layer (wt m c) (xs m c) (ys m c) (sq t) (tk t r) k := by
  by_cases h : t.val % 2 = 0
  · rw [outsAt0_A m c t h]
    dsimp only
    rw [out_A]
    refine o_point m c t _ (fun i l => ?_) r k
    exact (zero_tail i l).trans (by simp only [h, backRow, shifted]; rw [dif_pos (by omega)])
  · rw [outsAt0_B m c t h]
    dsimp only
    rw [out_B]
    refine o_point m c t _ (fun i l => ?_) r k
    have e := tail_even m c ⟨t.val - 1, by omega⟩ (by dsimp only; omega) i l
    have hs : sq ⟨t.val - 1, by omega⟩ = sq t := Fin.ext (by simp only [sq]; omega)
    rw [hs] at e
    rw [show t.val % 2 = 1 by omega]
    exact e

/-- What the kernel's result array holds after its run. -/
theorem array_eq : (dats m 0 c).arrAt 13 cfg0.N = fun i => layer (wt m c) (xs m c) (ys m c) (i 0 : Fin 16) (i 1 : Fin 2048) (i 2 : Fin 1024) := by
  refine (dats m 0 c).arrAt_eq_of_covers 13 _ (by decide +kernel) fun t hf y => ?_
  blk_simp
  rw [after0_13]
  have hy0 : y (0 : Fin 3) = (0 : Fin 1) := Subsingleton.elim (α := Fin 1) _ _
  have hy : y = ix3 (0 : Fin 1) (y (1 : Fin 3) : Fin 1024) (y (2 : Fin 3) : Fin 1024) := by
    funext a
    fin_cases a
    · exact hy0
    · rfl
    · rfl
  have h0 : ((win0_13.blk t).view.emb y 0 : Fin 16) = sq t := Fin.ext (by blk_simp [idx13 t]; simp [sq, hy0])
  have h1 : ((win0_13.blk t).view.emb y 1 : Fin 2048) = tk t (y (1 : Fin 3)) := Fin.ext (by blk_simp [idx13 t]; simp [tk, Nat.mul_comm])
  have h2 : ((win0_13.blk t).view.emb y 2 : Fin 1024) = y (2 : Fin 3) := Fin.ext (by blk_simp [idx13 t])
  rw [h0, h1, h2]
  exact (congrArg _ hy).trans (out_point m c t _ _)

end Cert.Mix

end
-- ==== Proof.Mix.Ref.lean ====
module
public import proofs.«01_k».proof.Proof.Gen.ReferenceIdeal.Run
public import proofs.«01_k».proof.Proof.Mix.Rows
public import Idealize.ShloMosaic.Lib.Pipeline.ValueKit
public import Idealize.ShloMosaic.Lib.Pipeline.ReadBack
public import Idealize.ShloMosaic.Lib.Pointwise
public import Idealize.ShloMosaic.Lib.Tactic.CleanTypes

/-!
What the reference computes: the named terms of its run, read at an index, are the functions of `Rows.lean`.
-/

@[expose] public section

set_option maxRecDepth 16384

noncomputable section

namespace Cert.Mix.Ref

open Cert.ReferenceIdeal Cert.ReferenceIdeal.Gen Cert.ReferenceIdeal.Value Idealize.ShloMosaic Idealize.ShloMosaic.StableHlo

variable (V : Valuation τ sig (Elt Ideal))

/-- The weights the reference was given. -/
def wt : Wt where
  mg k := V (Proc.devRef .tc main_arg2) (ix1 k)
  w k n := V (Proc.devRef .tc main_arg3) (ix2 k ⟨1544 + n, by omega⟩)
  cw k n := V (Proc.devRef .tc main_arg4) (ix2 k n)
  wa k n := V (Proc.devRef .tc main_arg5) (ix2 k n)
  wc k n := V (Proc.devRef .tc main_arg6) (ix2 k n)
  wo k n := V (Proc.devRef .tc main_arg7) (ix2 k n)
  fg k := V (Proc.devRef .tc main_arg8) (ix1 k)
  g k n := V (Proc.devRef .tc main_arg9) (ix2 k n)
  u k n := V (Proc.devRef .tc main_arg10) (ix2 k n)
  d k n := V (Proc.devRef .tc main_arg11) (ix2 k n)
  ng k := V (Proc.devRef .tc main_arg12) (ix1 k)

/-- The running state the reference was given. -/
def xs (b : Fin 16) (t : Fin 2048) (k : Fin 1024) : EReal := V (Proc.devRef .tc main_arg0) (ix3 b t k)

/-- The attention's output the reference was given. -/
def ys (b : Fin 16) (t : Fin 2048) (k : Fin 512) : EReal := V (Proc.devRef .tc main_arg1) (ix3 b t k)

/-- The projections of a token. -/
theorem proj_eq (b : Fin 16) (t : Fin 2048) (l : Fin 3584) :
    res_main_v14 (F := Ideal) V (ix3 b t l) = ∑ k, rmsRow (xs V b t) (wt V).mg k * (wt V).w k l := by
  unfold res_main_v14
  clean_types
  pointwise
  rfl

/-- The gated rows of a sequence with two rows of zeros in front. -/
theorem back_eq (b : Fin 16) (t : Fin 2050) (l : Fin 512) :
    res_main_v22 (F := Ideal) V (ix3 b t l) = backRow (wt V) (xs V b) t l := by
  unfold res_main_v22
  clean_types
  pointwise
  simp only [backRow, shifted]
  by_cases h : t.val < 2
  · rw [dif_neg (by omega), dif_pos h]
    show (((0#32 : BitVec 32).toInt : ℝ) : EReal) = 0
    simp
  · rw [dif_pos (by omega), dif_neg h, dif_pos (by omega), proj_eq, proj_eq]
    rfl

/-- The state after the merged branches are added. -/
theorem mid_eq (b : Fin 16) (t : Fin 2048) (l : Fin 1024) :
    res_main_v61 (F := Ideal) V (ix3 b t l)
      = midRow (wt V) (xs V b t) (ys V b t) (backRow (wt V) (xs V b) t) (backRow (wt V) (xs V b) (t + 1)) l := by
  have own : backRow (wt V) (xs V b) (2 + t) = bxRow (rmsRow (xs V b t) (wt V).mg) (wt V).w := by
    funext l
    simp only [backRow, shifted]
    rw [dif_neg (by omega), dif_pos (by omega)]
    rw [show (⟨2 + t.val - 2, by omega⟩ : Fin 2048) = t from Fin.ext (by simp)]
  unfold res_main_v61
  clean_types
  pointwise
  simp only [proj_eq, back_eq, own, Nat.add_comm 1]
  rfl

/-- The hidden row's norm. -/
theorem norm_eq (b : Fin 16) (t : Fin 2048) (l : Fin 1024) :
    res_main_v74 (F := Ideal) V (ix3 b t l) = rmsRow (fun k => res_main_v61 (F := Ideal) V (ix3 b t k)) (wt V).fg l := by
  unfold res_main_v74
  clean_types
  pointwise
  rfl

/-- The hidden row's norm, as a row. -/
def hid (b : Fin 16) (t : Fin 2048) (k : Fin 1024) : EReal := res_main_v74 (F := Ideal) V (ix3 b t k)

/-- The feed-forward's gate. -/
theorem gate_eq (b : Fin 16) (t : Fin 2048) (l : Fin 2816) :
    res_main_v75 (F := Ideal) V (ix3 b t l) = ∑ k, hid V b t k * (wt V).g k l := by
  unfold res_main_v75
  clean_types
  pointwise
  rfl

/-- The state after the second half-step. -/
theorem half_eq (b : Fin 16) (t : Fin 2048) (l : Fin 1024) :
    res_main_v82 (F := Ideal) V (ix3 b t l)
      = halfStep (fun k => res_main_v61 (F := Ideal) V (ix3 b t k))
          (actRow (fun k => res_main_v74 (F := Ideal) V (ix3 b t k)) (wt V).g (wt V).u) (wt V).d l := by
  unfold res_main_v82
  clean_types
  pointwise
  simp only [gate_eq]
  rfl

/-- The reference's result. -/
theorem result_eq : val2 (F := Ideal) V (Proc.devRef .tc main_v95)
    = fun i => layer (wt V) (xs V) (ys V) (i 0 : Fin 16) (i 1 : Fin 2048) (i 2 : Fin 1024) := by
  have e : ∀ b t l, val2 (F := Ideal) V (Proc.devRef .tc main_v95) (ix3 b t l)
      = rmsRow (fun k => res_main_v82 (F := Ideal) V (ix3 b t k)) (wt V).ng l := by
    intro b t l
    rw [val2_main_v95]
    clean_types
    pointwise
    rfl
  funext i
  idx_vars i
  refine (e i0 i1 i2).trans ?_
  have h1 : (fun k => res_main_v82 (F := Ideal) V (ix3 i0 i1 k)) = _ := funext fun k => half_eq V i0 i1 k
  have h2 : (fun k => res_main_v74 (F := Ideal) V (ix3 i0 i1 k)) = _ := funext fun k => norm_eq V i0 i1 k
  have h3 : (fun k => res_main_v61 (F := Ideal) V (ix3 i0 i1 k)) = _ := funext fun k => mid_eq V i0 i1 k
  rw [h1, h2, h3]
  rfl

end Cert.Mix.Ref

end
-- ==== Proof.Mix.Claim.lean ====
module
public import proofs.«01_k».proof.Defs
public import proofs.«01_k».proof.Proof.Mix.Array
public import proofs.«01_k».proof.Proof.Mix.Ref

/-!
The equation of the second half of the layer: on memories that agree on the arguments, the kernel's result array and the reference's are one array.
-/

@[expose] public section

noncomputable section

namespace Cert.Mix

open Idealize.ShloMosaic Idealize.SL.Sem

/-- The kernel's result is the reference's, on all arguments. -/
theorem algebraic : algebraic_KernelIdeal_ReferenceIdeal := by
  intro m ρ m' ρ' _ hagree
  refine ⟨_, Cert.KernelIdeal.Value.run_blocks (F := Ideal) m ρ, ?_⟩
  refine (θ_run Cert.ReferenceIdeal.defs _ _).mono (fun _ h c => ⟨?_, (h c).2⟩) (Cert.ReferenceIdeal.Value.run (F := Ideal) m' ρ')
  obtain ⟨a0, a1, a2, a3, a4, a5, a6, a7, a8, a9, a10, a11, a12⟩ := hagree c
  refine (h c).1.trans ((Cert.ReferenceIdeal.Value.val2_main_v95 _).symm.trans ((Ref.result_eq _).trans ?_))
  refine Eq.trans ?_ (array_eq m c).symm
  have hx : Ref.xs (StableHlo.launchContents m' c) = xs m c := funext fun b => funext fun t => funext fun k => congrFun a0 (ix3 b t k)
  have hy : Ref.ys (StableHlo.launchContents m' c) = ys m c := funext fun b => funext fun t => funext fun k => congrFun a1 (ix3 b t k)
  have hw : Ref.wt (StableHlo.launchContents m' c) = wt m c := by
    simp only [Ref.wt, wt, Wt.mk.injEq]
    exact ⟨funext fun k => congrFun a2 (ix1 k), funext fun k => funext fun n => congrFun a3 (ix2 k ⟨1544 + n, by omega⟩),
      funext fun k => funext fun n => congrFun a4 (ix2 k n), funext fun k => funext fun n => congrFun a5 (ix2 k n),
      funext fun k => funext fun n => congrFun a6 (ix2 k n), funext fun k => funext fun n => congrFun a7 (ix2 k n),
      funext fun k => congrFun a8 (ix1 k), funext fun k => funext fun n => congrFun a9 (ix2 k n),
      funext fun k => funext fun n => congrFun a10 (ix2 k n), funext fun k => funext fun n => congrFun a11 (ix2 k n),
      funext fun k => congrFun a12 (ix1 k)⟩
  rw [hx, hy, hw]
  rfl

end Cert.Mix

end
-- ==== Proof.Ffn.Rows.lean ====
module
public import Idealize.ShloMosaic.Lib.Pointwise
public import proofs.«01_k».proof.Proof.Mix.Rows

/-!
The mathematics of one token of the first half of the layer, as functions on rows of extended reals: the state after the first feed-forward half-step, the
projections of its norm, and the running sum of the log forget gates.
-/

@[expose] public section

noncomputable section

namespace Cert.Ffn

open Idealize.ShloMosaic Cert.Mix

/-- The weights, as functions of their coordinates. -/
structure Wt where
  /-- the scale of the norm before the feed-forward half-step -/
  fg : Fin 1024 → EReal
  /-- the feed-forward gate -/
  g : Fin 1024 → Fin 2816 → EReal
  /-- the feed-forward up projection -/
  u : Fin 1024 → Fin 2816 → EReal
  /-- the feed-forward down projection -/
  d : Fin 2816 → Fin 1024 → EReal
  /-- the scale of the norm before the projections -/
  mg : Fin 1024 → EReal
  /-- the projections to queries, keys, values and forget gates, side by side -/
  w : Fin 1024 → Fin 1544 → EReal
  /-- the bias of the forget gates -/
  b : Fin 8 → EReal

/-- A token's state after the first half-step. -/
def stateRow (W : Wt) (x : Fin 1024 → EReal) : Fin 1024 → EReal := halfStep x (actRow (rmsRow x W.fg) W.g W.u) W.d

/-- A token's projections. -/
def projRow (W : Wt) (x : Fin 1024 → EReal) (n : Fin 1544) : EReal := ∑ k, rmsRow (stateRow W x) W.mg k * W.w k n

/-- The logarithm of the logistic function. -/
def logSig (z : EReal) : EReal := min z 0 - Ideal.log1p (Ideal.exp (0 - max z (-z)))

/-- A token's log forget gates. -/
def gateRow (W : Wt) (x : Fin 1024 → EReal) (l : Fin 8) : EReal := logSig (projRow W x ⟨1536 + l, by omega⟩ + W.b l)

/-- The sum of the log forget gates of the first `n` tokens of a sequence. -/
def cumRow (W : Wt) (x : Fin 2048 → Fin 1024 → EReal) (n : ℕ) (l : Fin 8) : EReal :=
  ∑ i ∈ Finset.range n, if h : i < 2048 then gateRow W (x ⟨i, h⟩) l else 0

/-- The logarithm of two's inverse, as the word that both programs multiply by. -/
def log2e : EReal := Ideal.ofBits FTy.f32 0x3FB8AA3B#32

/-- A token's queries, in units of the logarithm of two over the root of the head width, beside its keys. -/
def qkRow (W : Wt) (x : Fin 1024 → EReal) (n : Fin 1024) : EReal :=
  if n.val < 512 then projRow W x ⟨n, by omega⟩ * Ideal.ofBits FTy.f32 0x3E38AA3B#32 else projRow W x ⟨n, by omega⟩

/-- A token's values, head by head, with sixteen ones after each head. -/
def vRow (W : Wt) (x : Fin 1024 → EReal) (n : Fin 640) : EReal :=
  if h : n.val % 80 < 64 then projRow W x ⟨1024 + (64 * (n.val / 80) + n.val % 80), by omega⟩ else 1

/-- The sum of the `d` values of `f` that end at `r`, as many as there are. -/
def window (f : ℕ → EReal) (d r : ℕ) : EReal := ∑ i ∈ Finset.range d, if i ≤ r then f (r - i) else 0

theorem window_one (f : ℕ → EReal) (r : ℕ) : window f 1 r = f r := by simp [window]

/-- Two windows side by side are one of twice the length. -/
theorem window_double (f : ℕ → EReal) (d r : ℕ) : window f d r + (if d ≤ r then window f d (r - d) else 0) = window f (d + d) r := by
  simp only [window]
  rw [Finset.sum_range_add]
  congr 1
  by_cases h : d ≤ r
  · rw [if_pos h]
    refine Finset.sum_congr rfl fun i _ => ?_
    by_cases h' : i ≤ r - d
    · rw [if_pos h', if_pos (by omega)]
      congr 1
      omega
    · rw [if_neg h', if_neg (by omega)]
  · rw [if_neg h]
    refine (Finset.sum_eq_zero fun i _ => ?_).symm
    rw [if_neg (by omega)]

/-- A window that reaches the start is the sum of all values so far. -/
theorem window_all (f : ℕ → EReal) (d r : ℕ) (h : r < d) : window f d r = ∑ i ∈ Finset.range (r + 1), f i := by
  simp only [window]
  rw [← Finset.sum_range_reflect (fun i => f i) (r + 1), ← Finset.sum_subset (Finset.range_subset_range.2 h) fun i _ hi => ?_]
  · refine Finset.sum_congr rfl fun i hi => ?_
    have := Finset.mem_range.1 hi
    rw [if_pos (by omega)]
    congr 1
  · rw [Finset.mem_range] at hi
    rw [if_neg (by omega)]

end Cert.Ffn

end
-- ==== Proof.Ffn.Block.lean ====
module
public import proofs.«01_k».proof.Proof.Gen.Kernel2Ideal.Skeleton
public import proofs.«01_k».proof.Proof.Ffn.Rows
public import Idealize.ShloMosaic.Lib.Pipeline.ValueKit
public import Idealize.ShloMosaic.Lib.Pipeline.ReadBack
public import Idealize.ShloMosaic.Lib.Pointwise
public import Idealize.ShloMosaic.Lib.WordCmp
public import Idealize.ShloMosaic.Lib.KernelVsHost

/-!
What the kernel's body computes at one grid point, stage by stage, over arrays of the whole block of 1024 tokens. Each stage of the body works on two
groups of 512 tokens; each theorem here says that what the body stores for a group is the group's rows of the stage's array.
-/

@[expose] public section

set_option maxRecDepth 16384

noncomputable section

namespace Cert.Ffn

open Cert.Kernel2Ideal Cert.Kernel2Ideal.Gen Idealize.ShloMosaic Cert.Mix

variable (x0 : Vec Ideal S1x1024x1024 .f32) (x1 : Vec Ideal S1x1024 .f32) (x2 : Vec Ideal S1024x2816 .bf16) (x3 : Vec Ideal S1024x2816 .bf16)
  (x4 : Vec Ideal S2816x1024 .bf16) (x5 : Vec Ideal S1x1024 .f32) (x6 : Vec Ideal S1024x1664 .bf16) (x7 : Vec Ideal S1x128 .f32)
  (tl : Vec Ideal S1x128 .f32)

/-- The block's tokens after the first norm. -/
def Hb : Vec Ideal S1024x1024 .bf16 := fun i => rmsRow (fun k => x0 (ix3 0 (i 0 : Fin 1024) k)) (fun k => x1 (ix2 0 k)) (i 1 : Fin 1024)

/-- The block's hidden rows of the feed-forward. -/
def Ab : Vec Ideal S1024x2816 .bf16 := fun i =>
  actRow (fun k => Hb x0 x1 (ix2 (i 0 : Fin 1024) k)) (fun k n => x2 (ix2 k n)) (fun k n => x3 (ix2 k n)) (i 1 : Fin 2816)

/-- The block's state after the half-step. -/
def Xb : Vec Ideal S1x1024x1024 .f32 := fun i =>
  halfStep (fun k => x0 (ix3 0 (i 1 : Fin 1024) k)) (fun k => Ab x0 x1 x2 x3 (ix2 (i 1 : Fin 1024) k)) (fun k n => x4 (ix2 k n)) (i 2 : Fin 1024)

/-- The block's tokens after the second norm. -/
def Nb : Vec Ideal S1024x1024 .bf16 := fun i =>
  rmsRow (fun k => Xb x0 x1 x2 x3 x4 (ix3 0 (i 0 : Fin 1024) k)) (fun k => x5 (ix2 0 k)) (i 1 : Fin 1024)

/-- The block's projections. -/
def Pb (r : Fin 1024) (n : Fin 1664) : EReal := ∑ k, Nb x0 x1 x2 x3 x4 x5 (ix2 r k) * x6 (ix2 k n)

/-- The queries beside the keys, from a token's projections. -/
def qCol (P : Fin 1664 → EReal) (n : Fin 1024) : EReal := if n.val < 512 then P ⟨n, by omega⟩ * Ideal.ofBits FTy.f32 0x3E38AA3B#32 else P ⟨n, by omega⟩

/-- The values with sixteen ones after each head, from a token's projections. -/
def vCol (P : Fin 1664 → EReal) (n : Fin 640) : EReal := if h : n.val % 80 < 64 then P ⟨1024 + (64 * (n.val / 80) + n.val % 80), by omega⟩ else 1

/-- The block's queries beside its keys. -/
def Qb : Vec Ideal S1x1024x1024 .bf16 := fun i => qCol (Pb x0 x1 x2 x3 x4 x5 x6 (i 1 : Fin 1024)) (i 2 : Fin 1024)

/-- The block's values, the tokens last, with sixteen rows of ones after each head. -/
def Vb : Vec Ideal S1x640x1024 .bf16 := fun i => vCol (Pb x0 x1 x2 x3 x4 x5 x6 (i 2 : Fin 1024)) (i 1 : Fin 640)

/-- The block's log forget gates. -/
def Lb (l : Fin 128) (n : ℕ) : EReal :=
  if h : n < 1024 then logSig (Pb x0 x1 x2 x3 x4 x5 x6 ⟨n, h⟩ ⟨1536 + l, by omega⟩ + x7 (ix2 0 l)) else 0

/-- The sum of the log forget gates of the block's first `n` tokens and of the tokens before the block, whose sum is `tl`. -/
def Cs (n : ℕ) (l : Fin 128) : EReal := tl (ix2 0 l) + ∑ i ∈ Finset.range n, Lb x0 x1 x2 x3 x4 x5 x6 x7 l i

/-- The block's running sums, in units of the logarithm of two. -/
def Cb : Vec Ideal S1x1024x128 .f32 := fun i => Cs x0 x1 x2 x3 x4 x5 x6 x7 tl ((i 1 : Fin 1024) + 1) (i 2 : Fin 128) * log2e

/-- `o` is a row at which a group of 512 tokens starts. -/
theorem rows_inb {o n w : ℕ} (ho : o + 512 ≤ n) : ∀ a : Fin 2, ![o, 0] a + (⟨2, ![512, w]⟩ : Shape).size a ≤ (⟨2, ![n, w]⟩ : Shape).size a := by
  intro a; fin_cases a
  · exact ho
  · simp

/-- The same, of a block that carries a leading axis of one. -/
theorem rows_inb3 {o n w : ℕ} (ho : o + 512 ≤ n) :
    ∀ a : Fin 3, ![0, o, 0] a + (⟨3, ![1, 512, w]⟩ : Shape).size a ≤ (⟨3, ![1, n, w]⟩ : Shape).size a := by
  intro a; fin_cases a
  · simp
  · exact ho
  · simp

/-- The rows of a group that starts at row `o`, of an array of the block. -/
abbrev rowsAt {w : ℕ} {t : EltTy} (x : Vec Ideal ⟨2, ![1024, w]⟩ t) (o : ℕ) (ho : o + 512 ≤ 1024) : Vec Ideal ⟨2, ![512, w]⟩ t :=
  View.ld x (Rect.unit ![o, 0] (⟨2, ![512, w]⟩ : Shape).size (rows_inb ho))

/-- The same, of an array that carries a leading axis of one. -/
abbrev rowsAt3 {w : ℕ} {t : EltTy} (x : Vec Ideal ⟨3, ![1, 1024, w]⟩ t) (o : ℕ) (ho : o + 512 ≤ 1024) : Vec Ideal ⟨3, ![1, 512, w]⟩ t :=
  View.ld x (Rect.unit ![0, o, 0] (⟨3, ![1, 512, w]⟩ : Shape).size (rows_inb3 ho))

/-- The rows of the norm that the body stores for a group. -/
theorem h_group (o : ℕ) (ho : o + 512 ≤ 1024) :
    k0_pay1 (F := Ideal) (rowsAt3 x0 o ho) x1
      = rowsAt (Hb x0 x1) o ho := by
  funext j
  idx_vars j
  pointwise [k0_pay1, Hb, rmsRow, rowsAt, rowsAt3]

/-- The same, of the body's text for the second group. -/
theorem h_group1 (o : ℕ) (ho : o + 512 ≤ 1024) : k0_pay3 (F := Ideal) (rowsAt3 x0 o ho) x1 = rowsAt (Hb x0 x1) o ho :=
  h_group x0 x1 o ho

/-- The hidden rows that the body stores for a group and 256 columns from column `n` on. -/
theorem a_group (o n : ℕ) (ho : o + 512 ≤ 1024) (inb : ∀ a, ![0, n] a + S1024x256.size a ≤ S1024x2816.size a)
    (inb' : ∀ a, ![o, n] a + S512x256.size a ≤ S1024x2816.size a) :
    k0_pay2 (F := Ideal) (rowsAt (Hb x0 x1) o ho) (View.ld x2 (Rect.unit ![0, n] S1024x256.size inb)) (rowsAt (Hb x0 x1) o ho) (View.ld x3 (Rect.unit ![0, n] S1024x256.size inb))
      = View.ld (Ab x0 x1 x2 x3) (Rect.unit ![o, n] S512x256.size inb') := by
  funext j
  idx_vars j
  pointwise [k0_pay2, Ab, actRow, rowsAt, rowsAt3]

/-- The state that the body stores for the first group. -/
theorem x_group0 (o : ℕ) (ho : o + 512 ≤ 1024) :
    k0_pay34 (F := Ideal) (rowsAt3 x0 o ho) (rowsAt (Ab x0 x1 x2 x3) o ho) x4
      = rowsAt3 (Xb x0 x1 x2 x3 x4) o ho := by
  funext j
  idx_vars j
  pointwise [k0_pay34, k0_pay33, Xb, halfStep, rowsAt, rowsAt3]

/-- The state that the body stores for the second group. -/
theorem x_group1 (o : ℕ) (ho : o + 512 ≤ 1024) :
    k0_pay39 (F := Ideal) (rowsAt3 x0 o ho) (rowsAt (Ab x0 x1 x2 x3) o ho) x4
      = rowsAt3 (Xb x0 x1 x2 x3 x4) o ho := by
  funext j
  idx_vars j
  pointwise [k0_pay39, k0_pay38, Xb, halfStep, rowsAt, rowsAt3]

/-- The rows of the second norm that the body stores for the first group. -/
theorem n_group0 (o : ℕ) (ho : o + 512 ≤ 1024) :
    k0_pay37 (F := Ideal) (k0_pay33 (rowsAt3 x0 o ho) (rowsAt (Ab x0 x1 x2 x3) o ho) x4) (k0_pay35 x5) (k0_pay36 (rowsAt3 x0 o ho) (rowsAt (Ab x0 x1 x2 x3) o ho) x4)
      = rowsAt (Nb x0 x1 x2 x3 x4 x5) o ho := by
  funext j
  idx_vars j
  pointwise [k0_pay37, k0_pay33, k0_pay35, k0_pay36, Nb, rmsRow, Xb, halfStep, rowsAt, rowsAt3]

/-- The rows of the second norm that the body stores for the second group. -/
theorem n_group1 (o : ℕ) (ho : o + 512 ≤ 1024) :
    k0_pay41 (F := Ideal) (k0_pay40 (rowsAt3 x0 o ho) (rowsAt (Ab x0 x1 x2 x3) o ho) x4 x5)
      = rowsAt (Nb x0 x1 x2 x3 x4 x5) o ho := by
  funext j
  idx_vars j
  pointwise [k0_pay41, k0_pay40, k0_pay38, Nb, rmsRow, Xb, halfStep, rowsAt, rowsAt3]

/-- The queries that the body stores for a group. -/
theorem q_group (o : ℕ) (ho : o + 512 ≤ 1024) (inb : ∀ a, ![0, o, 0] a + S1x512x512.size a ≤ S1x1024x1024.size a) :
    k0_pay44 (F := Ideal) (rowsAt (Nb x0 x1 x2 x3 x4 x5) o ho) x6 = View.ld (Qb x0 x1 x2 x3 x4 x5 x6) (Rect.unit ![0, o, 0] S1x512x512.size inb) := by
  funext j
  idx_vars j
  pointwise [k0_pay44, k0_pay43, Qb, qCol, Pb, rowsAt, rowsAt3]

/-- The keys that the body stores for a group. -/
theorem k_group (o : ℕ) (ho : o + 512 ≤ 1024) (inb : ∀ a, ![0, o, 512] a + S1x512x512.size a ≤ S1x1024x1024.size a) :
    k0_pay45 (F := Ideal) (rowsAt (Nb x0 x1 x2 x3 x4 x5) o ho) x6 = View.ld (Qb x0 x1 x2 x3 x4 x5 x6) (Rect.unit ![0, o, 512] S1x512x512.size inb) := by
  funext j
  idx_vars j
  pointwise [k0_pay45, k0_pay43, Qb, qCol, Pb, rowsAt, rowsAt3]

/-- The values of one head that the body stores for a group. -/
theorem v_group (d e o : ℕ) (hd : d = 64 * (d / 64)) (he : e = 80 * (d / 64)) (ho : o + 512 ≤ 1024) (sl : S512x512.Slices ![d, 0] S64x512)
    (inb : ∀ a, ![0, e, o] a + S1x64x512.size a ≤ S1x640x1024.size a) :
    shapeCast S1x64x512 (extractStridedSlice S64x512 ![d, 0] (k0_pay46 (F := Ideal) (rowsAt (Nb x0 x1 x2 x3 x4 x5) o ho) x6) sl) shapeCasts_S64x512_S1x64x512
      = View.ld (Vb x0 x1 x2 x3 x4 x5 x6) (Rect.unit ![0, e, o] S1x64x512.size inb) := by
  funext j
  idx_vars j
  pointwise [k0_pay46, k0_pay43, Vb, vCol, Pb, rowsAt, rowsAt3]
  rw [dif_pos (by omega)]
  congr! 5
  omega

/-- The rows of ones that the body stores after a head of a group. -/
theorem one_group (e o : ℕ) (he : e = 80 * (e / 80) + 64) (inb : ∀ a, ![0, e, o] a + S1x16x512.size a ≤ S1x640x1024.size a) :
    k0_pay48 (F := Ideal) = View.ld (Vb x0 x1 x2 x3 x4 x5 x6) (Rect.unit ![0, e, o] S1x16x512.size inb) := by
  funext j
  idx_vars j
  pointwise [k0_pay48, Vb, vCol, rowsAt, rowsAt3]
  rw [dif_neg (by omega)]

/-- One doubling of the windows: each row has the row `d` before it added, if there is one. -/
def doubled (d : ℕ) (X : FVec Ideal S512x128 .f32) : FVec Ideal S512x128 .f32 :=
  addf X (select (cmpi .sge (iota Kind.tc S512x128 32 [0] iota_S512x128_d0_w32) (broadcast S512x128 (BitVec.ofNat 32 d)))
    (dynamicRotate 0 (BitVec.ofNat 32 d) none X rotates_S512x128_d0) (broadcast S512x128 (Scalar.ofBits .f32 0x00000000#32)))

/-- A doubling doubles the windows' length. -/
theorem doubled_window (d : ℕ) (hd : d < 512) (X : FVec Ideal S512x128 .f32) (f : Fin 128 → ℕ → EReal) (hX : ∀ r l, X (ix2 r l) = window (f l) d r)
    (r : Fin 512) (l : Fin 128) : doubled d X (ix2 r l) = window (f l) (d + d) r := by
  rw [← window_double, ← hX]
  pointwise [doubled]
  rw [WordCmp.cmpi_sge_ofNat (by omega) (by omega), WordCmp.select_ofBool]
  by_cases h : d ≤ r.val
  · simp only [h, decide_true, if_true]
    refine congrArg₂ _ rfl ((hX _ _).trans ?_)
    congr 1
    rw [BitVec.toNat_ofNat, Nat.mod_eq_of_lt (show d < 2 ^ 32 by omega)]
    show (r.val + 512 - d % 512) % 512 = _
    omega
  · simp [h]

/-- The running sums of a group's rows, with the sum `T` of the rows before them added. -/
def sums (T : Vec Ideal S1x128 .f32) (L : FVec Ideal S512x128 .f32) : FVec Ideal S512x128 .f32 :=
  addf (doubled 256 (doubled 128 (doubled 64 (doubled 32 (doubled 16 (doubled 8 (doubled 4 (doubled 2 (doubled 1 L)))))))))
    (broadcastTo S512x128 T broadcasts_S1x128_S512x128)

/-- Nine doublings of windows of one row are the running sums of 512 rows. -/
theorem sums_eq (T : Vec Ideal S1x128 .f32) (L : FVec Ideal S512x128 .f32) (f : Fin 128 → ℕ → EReal) (hL : ∀ r l, L (ix2 r l) = f l r)
    (r : Fin 512) (l : Fin 128) : sums T L (ix2 r l) = (∑ i ∈ Finset.range (r + 1), f l i) + T (ix2 0 l) := by
  rw [← window_all (f l) 512 r r.isLt]
  have h0 : ∀ r l, L (ix2 r l) = window (f l) 1 r := fun r l => (hL r l).trans (window_one _ _).symm
  have h1 := doubled_window 1 (by decide) _ f h0
  have h2 := doubled_window 2 (by decide) _ f h1
  have h3 := doubled_window 4 (by decide) _ f h2
  have h4 := doubled_window 8 (by decide) _ f h3
  have h5 := doubled_window 16 (by decide) _ f h4
  have h6 := doubled_window 32 (by decide) _ f h5
  have h7 := doubled_window 64 (by decide) _ f h6
  have h8 := doubled_window 128 (by decide) _ f h7
  rw [← doubled_window 256 (by decide) _ f h8]
  pointwise [sums]

/-- The first group's running sums, as the body computes them. -/
theorem sums_group0 (T : Vec Ideal S1x128 .f32) (P : FVec Ideal S512x1664 .f32) :
    k0_pay66 (F := Ideal) T (iota Kind.tc S512x128 32 [0] iota_S512x128_d0_w32) (k0_pay63 P x7) k0_pay64 (k0_pay65 P x7) (FloatOps.ofBits FTy.f32 0#32)
      = sums T (k0_pay92 P x7) := rfl

/-- The second group's running sums, as the body computes them. -/
theorem sums_group1 (T : Vec Ideal S1x128 .f32) (L : FVec Ideal S512x128 .f32) :
    k0_pay97 (F := Ideal) T (iota Kind.tc S512x128 32 [0] iota_S512x128_d0_w32) (k0_pay93 L (iota Kind.tc S512x128 32 [0] iota_S512x128_d0_w32) 1#32)
        (k0_pay94 (iota Kind.tc S512x128 32 [0] iota_S512x128_d0_w32)) (k0_pay95 L (iota Kind.tc S512x128 32 [0] iota_S512x128_d0_w32) 1#32) k0_pay96
      = sums T L := rfl

/-- A group's log forget gates. -/
theorem l_group (o : ℕ) (ho : o + 512 ≤ 1024) (r : Fin 512) (l : Fin 128) :
    k0_pay92 (F := Ideal) (k0_pay43 (rowsAt (Nb x0 x1 x2 x3 x4 x5) o ho) x6) x7 (ix2 r l) = Lb x0 x1 x2 x3 x4 x5 x6 x7 l (o + r) := by
  rw [Lb, dif_pos (by omega)]
  pointwise [k0_pay92, k0_pay43, logSig, Pb, rowsAt, rowsAt3]
  rfl

/-- A group's running sums, if `T` is the sum of what comes before it. -/
theorem s_group (T : Vec Ideal S1x128 .f32) (o : ℕ) (ho : o + 512 ≤ 1024) (hT : ∀ l, T (ix2 0 l) = Cs x0 x1 x2 x3 x4 x5 x6 x7 tl o l)
    (r : Fin 512) (l : Fin 128) :
    sums T (k0_pay92 (F := Ideal) (k0_pay43 (rowsAt (Nb x0 x1 x2 x3 x4 x5) o ho) x6) x7) (ix2 r l) = Cs x0 x1 x2 x3 x4 x5 x6 x7 tl (o + r + 1) l := by
  rw [sums_eq T _ (fun l n => Lb x0 x1 x2 x3 x4 x5 x6 x7 l (o + n)) (fun r l => l_group x0 x1 x2 x3 x4 x5 x6 x7 o ho r l), hT]
  simp only [Cs]
  rw [show o + r.val + 1 = o + (r.val + 1) by omega, Finset.sum_range_add _ o]
  ac_rfl

/-- The running sums that the body stores for the first group. -/
theorem c_group0 (T : Vec Ideal S1x128 .f32) (o : ℕ) (ho : o + 512 ≤ 1024) (hT : ∀ l, T (ix2 0 l) = Cs x0 x1 x2 x3 x4 x5 x6 x7 tl o l) :
    k0_pay68 (F := Ideal) T (iota Kind.tc S512x128 32 [0] iota_S512x128_d0_w32) (k0_pay63 (k0_pay43 (rowsAt (Nb x0 x1 x2 x3 x4 x5) o ho) x6) x7) k0_pay64
        (k0_pay65 (k0_pay43 (rowsAt (Nb x0 x1 x2 x3 x4 x5) o ho) x6) x7) (FloatOps.ofBits FTy.f32 0#32)
      = rowsAt3 (Cb x0 x1 x2 x3 x4 x5 x6 x7 tl) o ho := by
  funext j
  idx_vars j
  unfold k0_pay68
  rw [sums_group0]
  pointwise [Cb, log2e, rowsAt3]
  exact congrArg (· * _) (s_group x0 x1 x2 x3 x4 x5 x6 x7 tl T o ho hT _ _)

/-- The running sums that the body stores for the second group. -/
theorem c_group1 (T : Vec Ideal S1x128 .f32) (o : ℕ) (ho : o + 512 ≤ 1024) (hT : ∀ l, T (ix2 0 l) = Cs x0 x1 x2 x3 x4 x5 x6 x7 tl o l) :
    k0_pay98 (F := Ideal) T (iota Kind.tc S512x128 32 [0] iota_S512x128_d0_w32)
        (k0_pay93 (k0_pay92 (k0_pay70 (rowsAt (Nb x0 x1 x2 x3 x4 x5) o ho) (k0_pay69 x6) (constant S512x1664 FTy.f32 0#32)) x7) (iota Kind.tc S512x128 32 [0] iota_S512x128_d0_w32) 1#32)
        (k0_pay94 (iota Kind.tc S512x128 32 [0] iota_S512x128_d0_w32))
        (k0_pay95 (k0_pay92 (k0_pay70 (rowsAt (Nb x0 x1 x2 x3 x4 x5) o ho) (k0_pay69 x6) (constant S512x1664 FTy.f32 0#32)) x7) (iota Kind.tc S512x128 32 [0] iota_S512x128_d0_w32) 1#32)
        k0_pay96
      = rowsAt3 (Cb x0 x1 x2 x3 x4 x5 x6 x7 tl) o ho := by
  funext j
  idx_vars j
  pointwise [k0_pay98, Cb, log2e, rowsAt, rowsAt3]
  rw [sums_group1]
  exact congrArg (· * _) (s_group x0 x1 x2 x3 x4 x5 x6 x7 tl T o ho hT _ _)

/-- The sum that the body takes from the first group to the second. -/
theorem t_group0 (T : Vec Ideal S1x128 .f32) (o : ℕ) (ho : o + 512 ≤ 1024) (hT : ∀ l, T (ix2 0 l) = Cs x0 x1 x2 x3 x4 x5 x6 x7 tl o l) (l : Fin 128) :
    k0_pay67 (F := Ideal) T (iota Kind.tc S512x128 32 [0] iota_S512x128_d0_w32) (k0_pay63 (k0_pay43 (rowsAt (Nb x0 x1 x2 x3 x4 x5) o ho) x6) x7) k0_pay64
        (k0_pay65 (k0_pay43 (rowsAt (Nb x0 x1 x2 x3 x4 x5) o ho) x6) x7) (FloatOps.ofBits FTy.f32 0#32) (ix2 0 l)
      = Cs x0 x1 x2 x3 x4 x5 x6 x7 tl (o + 512) l := by
  unfold k0_pay67
  rw [sums_group0]
  pointwise []
  exact s_group x0 x1 x2 x3 x4 x5 x6 x7 tl T o ho hT ⟨511, by decide⟩ l

/-- The sum that the body keeps for the next block. -/
theorem t_group1 (T : Vec Ideal S1x128 .f32) (o : ℕ) (ho : o + 512 ≤ 1024) (hT : ∀ l, T (ix2 0 l) = Cs x0 x1 x2 x3 x4 x5 x6 x7 tl o l) (l : Fin 128) :
    k0_pay99 (F := Ideal) T (iota Kind.tc S512x128 32 [0] iota_S512x128_d0_w32)
        (k0_pay93 (k0_pay92 (k0_pay70 (rowsAt (Nb x0 x1 x2 x3 x4 x5) o ho) (k0_pay69 x6) (constant S512x1664 FTy.f32 0#32)) x7) (iota Kind.tc S512x128 32 [0] iota_S512x128_d0_w32) 1#32)
        (k0_pay94 (iota Kind.tc S512x128 32 [0] iota_S512x128_d0_w32))
        (k0_pay95 (k0_pay92 (k0_pay70 (rowsAt (Nb x0 x1 x2 x3 x4 x5) o ho) (k0_pay69 x6) (constant S512x1664 FTy.f32 0#32)) x7) (iota Kind.tc S512x128 32 [0] iota_S512x128_d0_w32) 1#32)
        k0_pay96 (ix2 0 l)
      = Cs x0 x1 x2 x3 x4 x5 x6 x7 tl (o + 512) l := by
  pointwise [k0_pay99]
  rw [sums_group1]
  exact s_group x0 x1 x2 x3 x4 x5 x6 x7 tl T o ho hT ⟨511, by decide⟩ l

end Cert.Ffn

end
-- ==== Proof.Ffn.Run.lean ====
module
public import proofs.«01_k».proof.Proof.Gen.Kernel2Ideal.Frame
public import proofs.«01_k».proof.Proof.Ffn.Block
public import proofs.«01_k».proof.Proof.Mix.Run

/-!
What one run of the kernel's body leaves in its four output blocks and in the row of sums it keeps for the next block, in terms of the stages of
`Proof.Ffn.Block`.
-/

@[expose] public section

set_option maxRecDepth 16384
set_option maxHeartbeats 4000000

noncomputable section

namespace Cert.Ffn

open Cert.Kernel2Ideal Cert.Kernel2Ideal.Gen Idealize.ShloMosaic Cert.Mix

variable (c : Dev nD) (i : grid0.Coords) (arg2 : Memref sig .tc .vmem S1x1024x1024 .f32) (harg2 : arg2.IsWhole) (arg3 : Memref sig .tc .vmem S1x1024 .f32) (harg3 : arg3.IsWhole) (arg4 : Memref sig .tc .vmem S1024x2816 .bf16) (harg4 : arg4.IsWhole) (arg5 : Memref sig .tc .vmem S1024x2816 .bf16) (harg5 : arg5.IsWhole) (arg6 : Memref sig .tc .vmem S2816x1024 .bf16) (harg6 : arg6.IsWhole) (arg7 : Memref sig .tc .vmem S1x1024 .f32) (harg7 : arg7.IsWhole) (arg8 : Memref sig .tc .vmem S1024x1664 .bf16) (harg8 : arg8.IsWhole) (arg9 : Memref sig .tc .vmem S1x128 .f32) (harg9 : arg9.IsWhole) (arg10 : Memref sig .tc .vmem S1x1024x1024 .f32) (harg10 : arg10.IsWhole) (arg11 : Memref sig .tc .vmem S1x1024x1024 .bf16) (harg11 : arg11.IsWhole) (arg12 : Memref sig .tc .vmem S1x640x1024 .bf16) (harg12 : arg12.IsWhole) (arg13 : Memref sig .tc .vmem S1x1024x128 .f32) (harg13 : arg13.IsWhole) (arg14 : Memref sig .tc .vmem S1024x1024 .bf16) (harg14 : arg14.IsWhole) (arg15 : Memref sig .tc .vmem S1024x2816 .bf16) (harg15 : arg15.IsWhole) (arg16 : Memref sig .tc .vmem S1x128 .f32) (harg16 : arg16.IsWhole)
  (x0 : Vec Ideal S1x1024x1024 .f32) (x1 : Vec Ideal S1x1024 .f32) (x2 : Vec Ideal S1024x2816 .bf16) (x3 : Vec Ideal S1024x2816 .bf16)
  (x4 : Vec Ideal S2816x1024 .bf16) (x5 : Vec Ideal S1x1024 .f32) (x6 : Vec Ideal S1024x1664 .bf16) (x7 : Vec Ideal S1x128 .f32)
  (tl : Vec Ideal S1x128 .f32)

/-- The sum in front of the block is the sum kept for it. -/
theorem cs_zero (T : Vec Ideal S1x128 .f32) (l : Fin 128) : T (ix2 0 l) = Cs x0 x1 x2 x3 x4 x5 x6 x7 T 0 l := by
  simp [Cs]

/-- The hidden rows as the body reads them back, of a block that starts a sequence. -/
theorem acts_A (o : ℕ) (ho : o + 512 ≤ 1024) (inb : ∀ a, ![o, 0] a + S512x2816.size a ≤ S1024x2816.size a) :
    arg15.view.readCov (kernelRun0_A.sl.HS1_22 (F := Ideal) c arg2 harg2 arg3 harg3 arg4 harg4 arg5 harg5 arg14 x0 x1 x2 x3)
        (Rect.unit (s := S1024x2816) ![o, 0] S512x2816.size inb).toLoadRect
      = rowsAt (Ab x0 x1 x2 x3) o ho := by
  have key : ∀ y, View.canon (kernelRun0_A.sl.HS1_22 (F := Ideal) c arg2 harg2 arg3 harg3 arg4 harg4 arg5 harg5 arg14 x0 x1 x2 x3) y = Ab x0 x1 x2 x3 y := by
    intro y
    frame_open
    simp (disch := decide) only [↓ View.readCov_skip, ↓ View.readCov_cons_toLoadRect, ↓ View.readCov_fill]
    frame_out
    simp (disch := decide) only [h_group, h_group1]
    refine canon_take _ 22 _ ?_ y ?_
    case' refine_2 => exact View.cover_of_tiledL (s := S1024x2816) _ S512x256.size (by sl_kernel_rfl) y
    dsimp only [List.take, View.PiecesOf]
    and_intros
    all_goals first
      | exact trivial
      | exact fun x => congrFun (a_group x0 x1 x2 x3 _ _ (by decide) (by decide) (by decide)) x
  rw [View.readCov_eq_canon']
  exact funext fun j => key _

/-- The state that the body leaves, of a block that starts a sequence. -/
theorem x_A (hc : cond0_0 i) : out0_A_8 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc x0 x1 x2 x3 x4 x5 x6 x7 = Xb x0 x1 x2 x3 x4 := by
  have acts := acts_A c arg2 harg2 arg3 harg3 arg4 harg4 arg5 harg5 arg14 arg15 x0 x1 x2 x3
  have a0 := acts 0 (by decide) inb_S1024x2816_S512x2816_0_0
  have a1 := acts 512 (by decide) inb_S1024x2816_S512x2816_512_0
  clear acts
  frame_open at a0 a1
  funext y
  frame_open
  simp (disch := decide) only [↓ a0, ↓ a1, ↓ View.readCov_skip, ↓ View.readCov_cons_toLoadRect, ↓ View.readCov_fill]
  clear a0 a1
  frame_out
  simp (disch := decide) only [x_group0, x_group1]
  refine canon_take _ 2 _ ?_ y ?_
  · exact ⟨fun _ => rfl, fun _ => rfl, trivial⟩
  exact View.cover_of_tiledL (s := S1x1024x1024) _ S1x512x1024.size (by sl_kernel_rfl) y

/-- The queries and keys that the body leaves, of a block that starts a sequence. -/
theorem q_A (hc : cond0_0 i) : out0_A_9 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc x0 x1 x2 x3 x4 x5 x6 x7 = Qb x0 x1 x2 x3 x4 x5 x6 := by
  have acts := acts_A c arg2 harg2 arg3 harg3 arg4 harg4 arg5 harg5 arg14 arg15 x0 x1 x2 x3
  have a0 := acts 0 (by decide) inb_S1024x2816_S512x2816_0_0
  have a1 := acts 512 (by decide) inb_S1024x2816_S512x2816_512_0
  clear acts
  frame_open at a0 a1
  funext y
  frame_open
  simp (disch := decide) only [↓ a0, ↓ a1, ↓ View.readCov_skip, ↓ View.readCov_cons_toLoadRect, ↓ View.readCov_fill]
  clear a0 a1
  frame_out
  simp (disch := decide) only [n_group0, n_group1]
  refine canon_take _ 4 _ ?_ y ?_
  case' refine_2 => exact View.cover_of_tiledL (s := S1x1024x1024) _ S1x512x512.size (by sl_kernel_rfl) y
  dsimp only [List.take, View.PiecesOf]
  exact ⟨fun x => congrFun (k_group x0 x1 x2 x3 x4 x5 x6 512 (by decide) _) x, fun x => congrFun (q_group x0 x1 x2 x3 x4 x5 x6 512 (by decide) _) x,
    fun x => congrFun (k_group x0 x1 x2 x3 x4 x5 x6 0 (by decide) _) x, fun x => congrFun (q_group x0 x1 x2 x3 x4 x5 x6 0 (by decide) _) x, trivial⟩

/-- The values that the body leaves, of a block that starts a sequence. -/
theorem v_A (hc : cond0_0 i) : out0_A_10 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc x0 x1 x2 x3 x4 x5 x6 x7 = Vb x0 x1 x2 x3 x4 x5 x6 := by
  have acts := acts_A c arg2 harg2 arg3 harg3 arg4 harg4 arg5 harg5 arg14 arg15 x0 x1 x2 x3
  have a0 := acts 0 (by decide) inb_S1024x2816_S512x2816_0_0
  have a1 := acts 512 (by decide) inb_S1024x2816_S512x2816_512_0
  clear acts
  frame_open at a0 a1
  funext y
  frame_open
  simp (disch := decide) only [↓ a0, ↓ a1, ↓ View.readCov_skip, ↓ View.readCov_cons_toLoadRect, ↓ View.readCov_fill]
  clear a0 a1
  frame_out
  simp (disch := decide) only [n_group0, n_group1]
  refine canon_take _ 32 _ ?_ y ?_
  case' refine_2 => exact View.cover_of_tiledBy (s := S1x640x1024) _ ![1, 16, 512] (by sl_kernel_rfl) y
  dsimp only [List.take, View.PiecesOf]
  and_intros
  all_goals first
    | exact trivial
    | exact fun x => congrFun (one_group x0 x1 x2 x3 x4 x5 x6 _ _ (by decide) (by decide)) x
    | exact fun x => congrFun (v_group x0 x1 x2 x3 x4 x5 x6 _ _ _ (by decide) (by decide) (by decide) (by decide) (by decide)) x

/-- The running sums that the body leaves, of a block that starts a sequence, with zeros in front. -/
theorem c_A (hc : cond0_0 i) : out0_A_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc x0 x1 x2 x3 x4 x5 x6 x7 = Cb x0 x1 x2 x3 x4 x5 x6 x7 (k0_pay42 (F := Ideal)) := by
  have c0 := c_group0 x0 x1 x2 x3 x4 x5 x6 x7 (k0_pay42 (F := Ideal)) (k0_pay42 (F := Ideal)) 0 (by decide) (cs_zero x0 x1 x2 x3 x4 x5 x6 x7 (k0_pay42 (F := Ideal)))
  have c1 := c_group1 x0 x1 x2 x3 x4 x5 x6 x7 (k0_pay42 (F := Ideal)) _ 512 (by decide) (t_group0 x0 x1 x2 x3 x4 x5 x6 x7 (k0_pay42 (F := Ideal)) _ 0 (by decide) (cs_zero x0 x1 x2 x3 x4 x5 x6 x7 (k0_pay42 (F := Ideal))))
  have acts := acts_A c arg2 harg2 arg3 harg3 arg4 harg4 arg5 harg5 arg14 arg15 x0 x1 x2 x3
  have a0 := acts 0 (by decide) inb_S1024x2816_S512x2816_0_0
  have a1 := acts 512 (by decide) inb_S1024x2816_S512x2816_512_0
  clear acts
  frame_open at a0 a1
  funext y
  frame_open
  simp (disch := decide) only [↓ a0, ↓ a1, ↓ View.readCov_skip, ↓ View.readCov_cons_toLoadRect, ↓ View.readCov_fill]
  clear a0 a1
  frame_out
  simp (disch := decide) only [n_group0, n_group1, c0, c1]
  refine canon_take _ 2 _ ?_ y ?_
  · exact ⟨fun _ => rfl, fun _ => rfl, trivial⟩
  exact View.cover_of_tiledL (s := S1x1024x128) _ S1x512x128.size (by sl_kernel_rfl) y

/-- What the body keeps for the next block, of a block that starts a sequence, with zeros in front. -/
theorem kept_A (hc : cond0_0 i) (l : Fin 128) :
    sout0_A_2 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc x0 x1 x2 x3 x4 x5 x6 x7 (ix2 0 l) = Cs x0 x1 x2 x3 x4 x5 x6 x7 (k0_pay42 (F := Ideal)) 1024 l := by
  have c1 := t_group1 x0 x1 x2 x3 x4 x5 x6 x7 (k0_pay42 (F := Ideal)) _ 512 (by decide) (t_group0 x0 x1 x2 x3 x4 x5 x6 x7 (k0_pay42 (F := Ideal)) _ 0 (by decide) (cs_zero x0 x1 x2 x3 x4 x5 x6 x7 (k0_pay42 (F := Ideal)))) l
  have acts := acts_A c arg2 harg2 arg3 harg3 arg4 harg4 arg5 harg5 arg14 arg15 x0 x1 x2 x3
  have a0 := acts 0 (by decide) inb_S1024x2816_S512x2816_0_0
  have a1 := acts 512 (by decide) inb_S1024x2816_S512x2816_512_0
  clear acts
  frame_open at a0 a1
  frame_open
  simp (disch := decide) only [↓ a0, ↓ a1, ↓ View.readCov_skip, ↓ View.readCov_cons_toLoadRect, ↓ View.readCov_fill]
  clear a0 a1
  frame_out
  simp (disch := decide) only [n_group0, n_group1]
  exact c1

/-- The hidden rows as the body reads them back, of a block that continues a sequence. -/
theorem acts_B (o : ℕ) (ho : o + 512 ≤ 1024) (inb : ∀ a, ![o, 0] a + S512x2816.size a ≤ S1024x2816.size a) :
    arg15.view.readCov (kernelRun0_B.sl.HS1_22 (F := Ideal) c arg2 harg2 arg3 harg3 arg4 harg4 arg5 harg5 arg14 x0 x1 x2 x3)
        (Rect.unit (s := S1024x2816) ![o, 0] S512x2816.size inb).toLoadRect
      = rowsAt (Ab x0 x1 x2 x3) o ho := by
  have key : ∀ y, View.canon (kernelRun0_B.sl.HS1_22 (F := Ideal) c arg2 harg2 arg3 harg3 arg4 harg4 arg5 harg5 arg14 x0 x1 x2 x3) y = Ab x0 x1 x2 x3 y := by
    intro y
    frame_open
    simp (disch := decide) only [↓ View.readCov_skip, ↓ View.readCov_cons_toLoadRect, ↓ View.readCov_fill]
    frame_out
    simp (disch := decide) only [h_group, h_group1]
    refine canon_take _ 22 _ ?_ y ?_
    case' refine_2 => exact View.cover_of_tiledL (s := S1024x2816) _ S512x256.size (by sl_kernel_rfl) y
    dsimp only [List.take, View.PiecesOf]
    and_intros
    all_goals first
      | exact trivial
      | exact fun x => congrFun (a_group x0 x1 x2 x3 _ _ (by decide) (by decide) (by decide)) x
  rw [View.readCov_eq_canon']
  exact funext fun j => key _

/-- The state that the body leaves, of a block that continues a sequence. -/
theorem x_B (hc : ¬cond0_0 i) : out0_B_8 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc x0 x1 x2 x3 x4 x5 x6 x7 tl = Xb x0 x1 x2 x3 x4 := by
  have acts := acts_B c arg2 harg2 arg3 harg3 arg4 harg4 arg5 harg5 arg14 arg15 x0 x1 x2 x3
  have a0 := acts 0 (by decide) inb_S1024x2816_S512x2816_0_0
  have a1 := acts 512 (by decide) inb_S1024x2816_S512x2816_512_0
  clear acts
  frame_open at a0 a1
  funext y
  frame_open
  simp (disch := decide) only [↓ a0, ↓ a1, ↓ View.readCov_skip, ↓ View.readCov_cons_toLoadRect, ↓ View.readCov_fill]
  clear a0 a1
  frame_out
  simp (disch := decide) only [x_group0, x_group1]
  refine canon_take _ 2 _ ?_ y ?_
  · exact ⟨fun _ => rfl, fun _ => rfl, trivial⟩
  exact View.cover_of_tiledL (s := S1x1024x1024) _ S1x512x1024.size (by sl_kernel_rfl) y

/-- The queries and keys that the body leaves, of a block that continues a sequence. -/
theorem q_B (hc : ¬cond0_0 i) : out0_B_9 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc x0 x1 x2 x3 x4 x5 x6 x7 tl = Qb x0 x1 x2 x3 x4 x5 x6 := by
  have acts := acts_B c arg2 harg2 arg3 harg3 arg4 harg4 arg5 harg5 arg14 arg15 x0 x1 x2 x3
  have a0 := acts 0 (by decide) inb_S1024x2816_S512x2816_0_0
  have a1 := acts 512 (by decide) inb_S1024x2816_S512x2816_512_0
  clear acts
  frame_open at a0 a1
  funext y
  frame_open
  simp (disch := decide) only [↓ a0, ↓ a1, ↓ View.readCov_skip, ↓ View.readCov_cons_toLoadRect, ↓ View.readCov_fill]
  clear a0 a1
  frame_out
  simp (disch := decide) only [n_group0, n_group1]
  refine canon_take _ 4 _ ?_ y ?_
  case' refine_2 => exact View.cover_of_tiledL (s := S1x1024x1024) _ S1x512x512.size (by sl_kernel_rfl) y
  dsimp only [List.take, View.PiecesOf]
  exact ⟨fun x => congrFun (k_group x0 x1 x2 x3 x4 x5 x6 512 (by decide) _) x, fun x => congrFun (q_group x0 x1 x2 x3 x4 x5 x6 512 (by decide) _) x,
    fun x => congrFun (k_group x0 x1 x2 x3 x4 x5 x6 0 (by decide) _) x, fun x => congrFun (q_group x0 x1 x2 x3 x4 x5 x6 0 (by decide) _) x, trivial⟩

/-- The values that the body leaves, of a block that continues a sequence. -/
theorem v_B (hc : ¬cond0_0 i) : out0_B_10 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc x0 x1 x2 x3 x4 x5 x6 x7 tl = Vb x0 x1 x2 x3 x4 x5 x6 := by
  have acts := acts_B c arg2 harg2 arg3 harg3 arg4 harg4 arg5 harg5 arg14 arg15 x0 x1 x2 x3
  have a0 := acts 0 (by decide) inb_S1024x2816_S512x2816_0_0
  have a1 := acts 512 (by decide) inb_S1024x2816_S512x2816_512_0
  clear acts
  frame_open at a0 a1
  funext y
  frame_open
  simp (disch := decide) only [↓ a0, ↓ a1, ↓ View.readCov_skip, ↓ View.readCov_cons_toLoadRect, ↓ View.readCov_fill]
  clear a0 a1
  frame_out
  simp (disch := decide) only [n_group0, n_group1]
  refine canon_take _ 32 _ ?_ y ?_
  case' refine_2 => exact View.cover_of_tiledBy (s := S1x640x1024) _ ![1, 16, 512] (by sl_kernel_rfl) y
  dsimp only [List.take, View.PiecesOf]
  and_intros
  all_goals first
    | exact trivial
    | exact fun x => congrFun (one_group x0 x1 x2 x3 x4 x5 x6 _ _ (by decide) (by decide)) x
    | exact fun x => congrFun (v_group x0 x1 x2 x3 x4 x5 x6 _ _ _ (by decide) (by decide) (by decide) (by decide) (by decide)) x

/-- The running sums that the body leaves, of a block that continues a sequence, with `tl` the sums kept from the block before. -/
theorem c_B (hc : ¬cond0_0 i) : out0_B_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc x0 x1 x2 x3 x4 x5 x6 x7 tl = Cb x0 x1 x2 x3 x4 x5 x6 x7 tl := by
  have c0 := c_group0 x0 x1 x2 x3 x4 x5 x6 x7 tl tl 0 (by decide) (cs_zero x0 x1 x2 x3 x4 x5 x6 x7 tl)
  have c1 := c_group1 x0 x1 x2 x3 x4 x5 x6 x7 tl _ 512 (by decide) (t_group0 x0 x1 x2 x3 x4 x5 x6 x7 tl _ 0 (by decide) (cs_zero x0 x1 x2 x3 x4 x5 x6 x7 tl))
  have acts := acts_B c arg2 harg2 arg3 harg3 arg4 harg4 arg5 harg5 arg14 arg15 x0 x1 x2 x3
  have a0 := acts 0 (by decide) inb_S1024x2816_S512x2816_0_0
  have a1 := acts 512 (by decide) inb_S1024x2816_S512x2816_512_0
  clear acts
  frame_open at a0 a1
  funext y
  frame_open
  simp (disch := decide) only [↓ a0, ↓ a1, ↓ View.readCov_skip, ↓ View.readCov_cons_toLoadRect, ↓ View.readCov_fill]
  clear a0 a1
  frame_out
  simp (disch := decide) only [n_group0, n_group1, c0, c1]
  refine canon_take _ 2 _ ?_ y ?_
  · exact ⟨fun _ => rfl, fun _ => rfl, trivial⟩
  exact View.cover_of_tiledL (s := S1x1024x128) _ S1x512x128.size (by sl_kernel_rfl) y

/-- What the body keeps for the next block, of a block that continues a sequence, with `tl` the sums kept from the block before. -/
theorem kept_B (hc : ¬cond0_0 i) (l : Fin 128) :
    sout0_B_2 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc x0 x1 x2 x3 x4 x5 x6 x7 tl (ix2 0 l) = Cs x0 x1 x2 x3 x4 x5 x6 x7 tl 1024 l := by
  have c1 := t_group1 x0 x1 x2 x3 x4 x5 x6 x7 tl _ 512 (by decide) (t_group0 x0 x1 x2 x3 x4 x5 x6 x7 tl _ 0 (by decide) (cs_zero x0 x1 x2 x3 x4 x5 x6 x7 tl)) l
  have acts := acts_B c arg2 harg2 arg3 harg3 arg4 harg4 arg5 harg5 arg14 arg15 x0 x1 x2 x3
  have a0 := acts 0 (by decide) inb_S1024x2816_S512x2816_0_0
  have a1 := acts 512 (by decide) inb_S1024x2816_S512x2816_512_0
  clear acts
  frame_open at a0 a1
  frame_open
  simp (disch := decide) only [↓ a0, ↓ a1, ↓ View.readCov_skip, ↓ View.readCov_cons_toLoadRect, ↓ View.readCov_fill]
  clear a0 a1
  frame_out
  simp (disch := decide) only [n_group0, n_group1]
  exact c1

end Cert.Ffn

end
-- ==== Proof.Ffn.Array.lean ====
module
public import proofs.«01_k».proof.Proof.Gen.Kernel2Ideal.Value
public import proofs.«01_k».proof.Proof.Ffn.Run

/-!
What the kernel's four result arrays hold after its run, in terms of the arrays it was launched on: the state, the queries beside the keys, the values, and
on the lanes of the heads the running sums of the log forget gates.
-/

@[expose] public section

set_option maxRecDepth 16384

noncomputable section

namespace Cert.Ffn

open Cert.Kernel2Ideal Cert.Kernel2Ideal.Gen Idealize.ShloMosaic Idealize.ShloMosaic.TcCoe Idealize.SL.Sem Cert.Mix

variable (m : (ℓ : Loc nD τ sig) → Buf (Elt Ideal) ℓ) (c : Dev nD)

/-- The weights the kernel was launched on. -/
def wt : Wt where
  fg k := m ((c : Thread nD τ).loc main_arg1) (ix1 k)
  g k n := m ((c : Thread nD τ).loc main_arg2) (ix2 k n)
  u k n := m ((c : Thread nD τ).loc main_arg3) (ix2 k n)
  d k n := m ((c : Thread nD τ).loc main_arg4) (ix2 k n)
  mg k := m ((c : Thread nD τ).loc main_arg5) (ix1 k)
  w k n := m ((c : Thread nD τ).loc main_arg6) (ix2 k ⟨n, by omega⟩)
  b l := m ((c : Thread nD τ).loc main_arg7) (ix1 l)

/-- The tokens the kernel was launched on. -/
def xs (b : Fin 16) (t : Fin 2048) (k : Fin 1024) : EReal := m ((c : Thread nD τ).loc main_arg0) (ix3 b t k)

/-! The block of each window that a grid point works on. -/

theorem idx0 : ∀ t : Fin grid0.N, win0_0.index t = ![t.val / 2, t.val % 2, 0] := by decide +kernel
theorem idx1 : ∀ t : Fin grid0.N, win0_1.index t = ![0, 0] := by decide +kernel
theorem idx2 : ∀ t : Fin grid0.N, win0_2.index t = ![0, 0] := by decide +kernel
theorem idx3 : ∀ t : Fin grid0.N, win0_3.index t = ![0, 0] := by decide +kernel
theorem idx4 : ∀ t : Fin grid0.N, win0_4.index t = ![0, 0] := by decide +kernel
theorem idx5 : ∀ t : Fin grid0.N, win0_5.index t = ![0, 0] := by decide +kernel
theorem idx6 : ∀ t : Fin grid0.N, win0_6.index t = ![0, 0] := by decide +kernel
theorem idx7 : ∀ t : Fin grid0.N, win0_7.index t = ![0, 0] := by decide +kernel
theorem idx8 : ∀ t : Fin grid0.N, win0_8.index t = ![t.val / 2, t.val % 2, 0] := by decide +kernel
theorem idx9 : ∀ t : Fin grid0.N, win0_9.index t = ![t.val / 2, t.val % 2, 0] := by decide +kernel
theorem idx10 : ∀ t : Fin grid0.N, win0_10.index t = ![t.val / 2, 0, t.val % 2] := by decide +kernel
theorem idx11 : ∀ t : Fin grid0.N, win0_11.index t = ![t.val / 2, t.val % 2, 0] := by decide +kernel

/-- The sequence whose block grid point `t` computes. -/
def sq (t : Fin cfg0.N) : Fin 16 := ⟨t.val / 2, by have := lt_of_lt_of_eq t.isLt N_0; omega⟩

/-- The token that is row `r` of the block of grid point `t`. -/
def tk (t : Fin cfg0.N) (r : Fin 1024) : Fin 2048 := ⟨1024 * (t.val % 2) + r, by omega⟩

/-- The grid point that computes token `t` of sequence `b`. -/
def pt (b : Fin 16) (t : Fin 2048) : Fin cfg0.N := ⟨2 * b.val + t.val / 1024, by rw [show cfg0.N = 32 from N_0]; omega⟩

/-- The row of token `t` in its block. -/
def rowOf (t : Fin 2048) : Fin 1024 := ⟨t.val % 1024, by omega⟩

theorem sq_pt (b : Fin 16) (t : Fin 2048) : sq (pt b t) = b := Fin.ext (by simp only [sq, pt]; omega)

theorem tk_pt (b : Fin 16) (t : Fin 2048) : tk (pt b t) (rowOf t) = t := Fin.ext (by simp only [tk, pt, rowOf]; omega)

theorem pt_tk (t : Fin cfg0.N) (r : Fin 1024) : pt (sq t) (tk t r) = t := Fin.ext (by simp only [sq, tk, pt]; omega)

theorem rowOf_tk (t : Fin cfg0.N) (r : Fin 1024) : rowOf (tk t r) = r := Fin.ext (by simp only [tk, rowOf]; omega)

/-! What the blocks of the arguments hold. -/

theorem blk0 (t : Fin cfg0.N) (r k : Fin 1024) : iblk m c 0 t (ix3 0 r k) = xs m c (sq t) (tk t r) k := by
  unfold xs sq tk
  blk_ext [iblk, V, idx0 t]

theorem blk1 (t : Fin cfg0.N) (k : Fin 1024) : iblk m c 1 t (ix2 0 k) = (wt m c).fg k := by
  dsimp only [wt]
  blk_simp [iblk, idx1 t]
  simp only [V, hostOps0, hostOps0_1, hostOps0_2, hostOps0_3, hostOps0_4, List.flatten_cons, List.flatten_nil, List.cons_append, List.nil_append]
  entry_read
  pointwise
  blk_ext [iblk, V, idx1 t]

theorem blk2 (t : Fin cfg0.N) (k : Fin 1024) (n : Fin 2816) : iblk m c 2 t (ix2 k n) = (wt m c).g k n := by
  dsimp only [wt]
  blk_ext! [iblk, V, idx2 t]

theorem blk3 (t : Fin cfg0.N) (k : Fin 1024) (n : Fin 2816) : iblk m c 3 t (ix2 k n) = (wt m c).u k n := by
  dsimp only [wt]
  blk_ext! [iblk, V, idx3 t]

theorem blk4 (t : Fin cfg0.N) (k : Fin 2816) (n : Fin 1024) : iblk m c 4 t (ix2 k n) = (wt m c).d k n := by
  dsimp only [wt]
  blk_ext! [iblk, V, idx4 t]

theorem blk5 (t : Fin cfg0.N) (k : Fin 1024) : iblk m c 5 t (ix2 0 k) = (wt m c).mg k := by
  dsimp only [wt]
  blk_simp [iblk, idx5 t]
  simp only [V, hostOps0, hostOps0_1, hostOps0_2, hostOps0_3, hostOps0_4, List.flatten_cons, List.flatten_nil, List.cons_append, List.nil_append]
  entry_read
  pointwise
  blk_ext [iblk, V, idx5 t]

/-- The projections' weights as the kernel is called with them: the columns of the queries, keys, values and forget gates, then columns of padding. -/
def padW : FVec Ideal S1024x1664 .f32 :=
  pad S1024x1664 ![0, 0] ![0, 120] ![0, 0]
    (extractStridedSlice S1024x1544 ![0, 0] (m ((c : Thread nD τ).loc main_arg6) : FVec Ideal S1024x5128 .f32) slices_S1024x5128_S1024x1544_0_0)
    (sitofp (F := Ideal) .f32 (constantI S_ 32 0#32)) pads_S1024x1544_S1024x1664_000_01200 h_S_

/-- The forget gates' bias as the kernel is called with it: a lane for each head, then lanes of padding. -/
def padB : FVec Ideal S1x128 .f32 :=
  pad S1x128 ![0, 0] ![0, 120] ![0, 0] (shapeCast S1x8 (m ((c : Thread nD τ).loc main_arg7) : FVec Ideal S8 .f32) shapeCasts_S8_S1x8)
    (sitofp (F := Ideal) .f32 (constantI S_ 32 0#32)) pads_S1x8_S1x128_000_01200 h_S_

theorem padW_eq : (V m c main_v2 : FVec Ideal S1024x1664 .bf16) = truncf .bf16 (padW m c) bitsLt_bf16_f32 := by
  simp only [V, hostOps0, hostOps0_1, hostOps0_2, hostOps0_3, hostOps0_4, List.flatten_cons, List.flatten_nil, List.cons_append, List.nil_append]
  entry_read
  rfl

theorem padB_eq : (V m c main_v4 : FVec Ideal S1x128 .f32) = padB m c := by
  simp only [V, hostOps0, hostOps0_1, hostOps0_2, hostOps0_3, hostOps0_4, List.flatten_cons, List.flatten_nil, List.cons_append, List.nil_append]
  entry_read
  rfl

theorem padW_col (k : Fin 1024) (n : Fin 1664) (h : n.val < 1544) : padW m c (ix2 k n) = (wt m c).w k ⟨n, h⟩ := by
  unfold padW
  pointwise
  rw [dif_pos (by omega)]
  rfl

theorem padB_col (l : Fin 128) (h : l.val < 8) : padB m c (ix2 0 l) = (wt m c).b ⟨l, h⟩ := by
  unfold padB
  pointwise
  rw [dif_pos (by omega)]
  rfl

theorem blk6 (t : Fin cfg0.N) (k : Fin 1024) (n : Fin 1664) (h : n.val < 1544) : iblk m c 6 t (ix2 k n) = (wt m c).w k ⟨n, h⟩ := by
  have e : iblk m c 6 t (ix2 k n) = (V m c main_v2 : FVec Ideal S1024x1664 .bf16) (ix2 k n) := by
    blk_ext [iblk, idx6 t]
  rw [e, padW_eq]
  exact padW_col m c k n h

theorem blk7 (t : Fin cfg0.N) (l : Fin 128) (h : l.val < 8) : iblk m c 7 t (ix2 0 l) = (wt m c).b ⟨l, h⟩ := by
  have e : iblk m c 7 t (ix2 0 l) = (V m c main_v4 : FVec Ideal S1x128 .f32) (ix2 0 l) := by
    blk_ext [iblk, idx7 t]
  rw [e, padB_eq]
  exact padB_col m c l h

/-- The state that the body computes for row `r` of the block of point `t`. -/
theorem x_point (t : Fin cfg0.N) (r k : Fin 1024) :
    Xb (iblk m c 0 t) (iblk m c 1 t) (iblk m c 2 t) (iblk m c 3 t) (iblk m c 4 t) (ix3 0 r k) = stateRow (wt m c) (xs m c (sq t) (tk t r)) k := by
  have e0 : (fun k => iblk m c 0 t (ix3 0 r k)) = xs m c (sq t) (tk t r) := funext fun k => blk0 m c t r k
  have e1 : (fun k => iblk m c 1 t (ix2 0 k)) = (wt m c).fg := funext fun k => blk1 m c t k
  have e2 : (fun k n => iblk m c 2 t (ix2 k n)) = (wt m c).g := funext fun k => funext fun n => blk2 m c t k n
  have e3 : (fun k n => iblk m c 3 t (ix2 k n)) = (wt m c).u := funext fun k => funext fun n => blk3 m c t k n
  have e4 : (fun k n => iblk m c 4 t (ix2 k n)) = (wt m c).d := funext fun k => funext fun n => blk4 m c t k n
  show halfStep (fun k => iblk m c 0 t (ix3 0 r k)) (actRow (rmsRow (fun k => iblk m c 0 t (ix3 0 r k)) (fun k => iblk m c 1 t (ix2 0 k)))
    (fun k n => iblk m c 2 t (ix2 k n)) (fun k n => iblk m c 3 t (ix2 k n))) (fun k n => iblk m c 4 t (ix2 k n)) k = _
  rw [e0, e1, e2, e3, e4]
  rfl

/-- The projections that the body computes for row `r` of the block of point `t`. -/
theorem p_point (t : Fin cfg0.N) (r : Fin 1024) (n : Fin 1664) (h : n.val < 1544) :
    Pb (iblk m c 0 t) (iblk m c 1 t) (iblk m c 2 t) (iblk m c 3 t) (iblk m c 4 t) (iblk m c 5 t) (iblk m c 6 t) r n
      = projRow (wt m c) (xs m c (sq t) (tk t r)) ⟨n, h⟩ := by
  have e0 : (fun k => Xb (iblk m c 0 t) (iblk m c 1 t) (iblk m c 2 t) (iblk m c 3 t) (iblk m c 4 t) (ix3 0 r k)) = stateRow (wt m c) (xs m c (sq t) (tk t r)) :=
    funext fun k => x_point m c t r k
  have e1 : (fun k => iblk m c 5 t (ix2 0 k)) = (wt m c).mg := funext fun k => blk5 m c t k
  have e2 : (fun k => iblk m c 6 t (ix2 k n)) = fun k => (wt m c).w k ⟨n, h⟩ := funext fun k => blk6 m c t k n h
  show (∑ k, rmsRow (fun k => Xb (iblk m c 0 t) (iblk m c 1 t) (iblk m c 2 t) (iblk m c 3 t) (iblk m c 4 t) (ix3 0 r k)) (fun k => iblk m c 5 t (ix2 0 k)) k
    * (fun k => iblk m c 6 t (ix2 k n)) k) = _
  rw [e0, e1, e2]
  rfl

/-- The queries and keys that the body computes for row `r` of the block of point `t`. -/
theorem q_point (t : Fin cfg0.N) (r n : Fin 1024) :
    Qb (iblk m c 0 t) (iblk m c 1 t) (iblk m c 2 t) (iblk m c 3 t) (iblk m c 4 t) (iblk m c 5 t) (iblk m c 6 t) (ix3 0 r n)
      = qkRow (wt m c) (xs m c (sq t) (tk t r)) n := by
  show qCol (Pb (iblk m c 0 t) (iblk m c 1 t) (iblk m c 2 t) (iblk m c 3 t) (iblk m c 4 t) (iblk m c 5 t) (iblk m c 6 t) r) n = _
  unfold qCol qkRow
  rw [p_point m c t r ⟨n, by omega⟩ (by dsimp only; omega)]

/-- The values that the body computes for row `r` of the block of point `t`. -/
theorem v_point (t : Fin cfg0.N) (r : Fin 1024) (n : Fin 640) :
    Vb (iblk m c 0 t) (iblk m c 1 t) (iblk m c 2 t) (iblk m c 3 t) (iblk m c 4 t) (iblk m c 5 t) (iblk m c 6 t) (ix3 0 n r)
      = vRow (wt m c) (xs m c (sq t) (tk t r)) n := by
  show vCol (Pb (iblk m c 0 t) (iblk m c 1 t) (iblk m c 2 t) (iblk m c 3 t) (iblk m c 4 t) (iblk m c 5 t) (iblk m c 6 t) r) n = _
  unfold vCol vRow
  by_cases h : n.val % 80 < 64
  · rw [dif_pos h, dif_pos h, p_point m c t r _ (by dsimp only; omega)]
  · rw [dif_neg h, dif_neg h]

/-- The sums that the body computes over the first `n` tokens of the block of point `t`, if the sum in front is that of the tokens before the block. -/
theorem s_point (t : Fin cfg0.N) (tl : Vec Ideal S1x128 .f32) (l : Fin 128) (hl : l.val < 8)
    (htl : tl (ix2 0 l) = cumRow (wt m c) (xs m c (sq t)) (1024 * (t.val % 2)) ⟨l, hl⟩) (n : ℕ) (hn : n ≤ 1024) :
    Cs (iblk m c 0 t) (iblk m c 1 t) (iblk m c 2 t) (iblk m c 3 t) (iblk m c 4 t) (iblk m c 5 t) (iblk m c 6 t) (iblk m c 7 t) tl n l
      = cumRow (wt m c) (xs m c (sq t)) (1024 * (t.val % 2) + n) ⟨l, hl⟩ := by
  simp only [Cs, cumRow] at htl ⊢
  rw [htl, Finset.sum_range_add]
  refine congrArg _ (Finset.sum_congr rfl fun i hi => ?_)
  have hi := Finset.mem_range.mp hi
  rw [Lb, dif_pos (by omega), dif_pos (by omega), p_point m c t _ _ (by dsimp only; omega), blk7 m c t l hl]
  rfl

/-- The sum in front of a sequence is zero. -/
theorem zero_front (l : Fin 128) : k0_pay42 (F := Ideal) (ix2 0 l) = 0 := by
  pointwise [k0_pay42]

/-- The sum in front of a sequence is that of no tokens. -/
theorem front (t : Fin cfg0.N) (h : t.val % 2 = 0) (l : Fin 128) (hl : l.val < 8) :
    k0_pay42 (F := Ideal) (ix2 0 l) = cumRow (wt m c) (xs m c (sq t)) (1024 * (t.val % 2)) ⟨l, hl⟩ := by
  rw [zero_front, h]
  simp [cumRow]

/-- What the body keeps at an even point is the sum over the first half of the sequence. -/
theorem kept_even (t : Fin cfg0.N) (h : t.val % 2 = 0) (l : Fin 128) (hl : l.val < 8) :
    (outsAt0 (F := Ideal) m c t.val t.isLt).2.2.2.2 (ix2 0 l) = cumRow (wt m c) (xs m c (sq t)) 1024 ⟨l, hl⟩ := by
  rw [outsAt0_A m c t h]
  dsimp only
  rw [kept_A, s_point m c t _ l hl (front m c t h l hl) 1024 le_rfl, h]

/-- The state that the body puts out at point `t`. -/
theorem x_out (t : Fin cfg0.N) (r k : Fin 1024) :
    (outsAt0 (F := Ideal) m c t.val t.isLt).1 (ix3 0 r k) = stateRow (wt m c) (xs m c (sq t) (tk t r)) k := by
  by_cases h : t.val % 2 = 0
  · rw [outsAt0_A m c t h]
    dsimp only
    rw [x_A, x_point]
  · rw [outsAt0_B m c t h]
    dsimp only
    rw [x_B, x_point]

/-- The queries and keys that the body puts out at point `t`. -/
theorem q_out (t : Fin cfg0.N) (r k : Fin 1024) :
    (outsAt0 (F := Ideal) m c t.val t.isLt).2.1 (ix3 0 r k) = qkRow (wt m c) (xs m c (sq t) (tk t r)) k := by
  by_cases h : t.val % 2 = 0
  · rw [outsAt0_A m c t h]
    dsimp only
    rw [q_A, q_point]
  · rw [outsAt0_B m c t h]
    dsimp only
    rw [q_B, q_point]

/-- The values that the body puts out at point `t`. -/
theorem v_out (t : Fin cfg0.N) (n : Fin 640) (r : Fin 1024) :
    (outsAt0 (F := Ideal) m c t.val t.isLt).2.2.1 (ix3 0 n r) = vRow (wt m c) (xs m c (sq t) (tk t r)) n := by
  by_cases h : t.val % 2 = 0
  · rw [outsAt0_A m c t h]
    dsimp only
    rw [v_A, v_point]
  · rw [outsAt0_B m c t h]
    dsimp only
    rw [v_B, v_point]

/-- The running sums that the body puts out at point `t`, on the lanes of the heads. -/
theorem c_out (t : Fin cfg0.N) (r : Fin 1024) (l : Fin 128) (hl : l.val < 8) :
    (outsAt0 (F := Ideal) m c t.val t.isLt).2.2.2.1 (ix3 0 r l) = cumRow (wt m c) (xs m c (sq t)) (tk t r + 1) ⟨l, hl⟩ * log2e := by
  by_cases h : t.val % 2 = 0
  · rw [outsAt0_A m c t h]
    dsimp only
    rw [c_A]
    exact congrArg (· * log2e) (s_point m c t _ l hl (front m c t h l hl) (r + 1) (by omega))
  · rw [outsAt0_B m c t h]
    dsimp only
    rw [c_B]
    refine congrArg (· * log2e) (s_point m c t _ l hl ?_ (r + 1) (by omega))
    have e := kept_even m c ⟨t.val - 1, by omega⟩ (by dsimp only; omega) l hl
    have hs : sq ⟨t.val - 1, by omega⟩ = sq t := Fin.ext (by simp only [sq]; omega)
    rw [hs] at e
    rw [show t.val % 2 = 1 by omega]
    exact e

/-- The state after the kernel's run. -/
theorem x_array : (dats m 0 c).arrAt 8 cfg0.N = fun i => stateRow (wt m c) (xs m c (i 0 : Fin 16) (i 1 : Fin 2048)) (i 2 : Fin 1024) := by
  refine (dats m 0 c).arrAt_eq_of_covers 8 _ (by decide +kernel) fun t hf y => ?_
  blk_simp
  rw [after0_8]
  have hy0 : y (0 : Fin 3) = (0 : Fin 1) := Subsingleton.elim (α := Fin 1) _ _
  have hy : y = ix3 (0 : Fin 1) (y (1 : Fin 3) : Fin 1024) (y (2 : Fin 3) : Fin 1024) := by
    funext a
    fin_cases a
    · exact hy0
    · rfl
    · rfl
  have h0 : ((win0_8.blk t).view.emb y 0 : Fin 16) = sq t := Fin.ext (by blk_simp [idx8 t]; simp [sq, hy0])
  have h1 : ((win0_8.blk t).view.emb y 1 : Fin 2048) = tk t (y (1 : Fin 3)) := Fin.ext (by blk_simp [idx8 t]; simp [tk, Nat.mul_comm])
  have h2 : ((win0_8.blk t).view.emb y 2 : Fin 1024) = y (2 : Fin 3) := Fin.ext (by blk_simp [idx8 t])
  rw [h0, h1, h2]
  exact (congrArg _ hy).trans (x_out m c t _ _)

/-- The queries and keys after the kernel's run. -/
theorem q_array : (dats m 0 c).arrAt 9 cfg0.N = fun i => qkRow (wt m c) (xs m c (i 0 : Fin 16) (i 1 : Fin 2048)) (i 2 : Fin 1024) := by
  refine (dats m 0 c).arrAt_eq_of_covers 9 _ (by decide +kernel) fun t hf y => ?_
  blk_simp
  rw [after0_9]
  have hy0 : y (0 : Fin 3) = (0 : Fin 1) := Subsingleton.elim (α := Fin 1) _ _
  have hy : y = ix3 (0 : Fin 1) (y (1 : Fin 3) : Fin 1024) (y (2 : Fin 3) : Fin 1024) := by
    funext a
    fin_cases a
    · exact hy0
    · rfl
    · rfl
  have h0 : ((win0_9.blk t).view.emb y 0 : Fin 16) = sq t := Fin.ext (by blk_simp [idx9 t]; simp [sq, hy0])
  have h1 : ((win0_9.blk t).view.emb y 1 : Fin 2048) = tk t (y (1 : Fin 3)) := Fin.ext (by blk_simp [idx9 t]; simp [tk, Nat.mul_comm])
  have h2 : ((win0_9.blk t).view.emb y 2 : Fin 1024) = y (2 : Fin 3) := Fin.ext (by blk_simp [idx9 t])
  rw [h0, h1, h2]
  exact (congrArg _ hy).trans (q_out m c t _ _)

/-- The values after the kernel's run. -/
theorem v_array : (dats m 0 c).arrAt 10 cfg0.N = fun i => vRow (wt m c) (xs m c (i 0 : Fin 16) (i 2 : Fin 2048)) (i 1 : Fin 640) := by
  refine (dats m 0 c).arrAt_eq_of_covers 10 _ (by decide +kernel) fun t hf y => ?_
  blk_simp
  rw [after0_10]
  have hy0 : y (0 : Fin 3) = (0 : Fin 1) := Subsingleton.elim (α := Fin 1) _ _
  have hy : y = ix3 (0 : Fin 1) (y (1 : Fin 3) : Fin 640) (y (2 : Fin 3) : Fin 1024) := by
    funext a
    fin_cases a
    · exact hy0
    · rfl
    · rfl
  have h0 : ((win0_10.blk t).view.emb y 0 : Fin 16) = sq t := Fin.ext (by blk_simp [idx10 t]; simp [sq, hy0])
  have h1 : ((win0_10.blk t).view.emb y 1 : Fin 640) = y (1 : Fin 3) := Fin.ext (by blk_simp [idx10 t])
  have h2 : ((win0_10.blk t).view.emb y 2 : Fin 2048) = tk t (y (2 : Fin 3)) := Fin.ext (by blk_simp [idx10 t]; simp [tk, Nat.mul_comm])
  rw [h0, h1, h2]
  exact (congrArg _ hy).trans (v_out m c t _ _)

/-- Token, sequence and row give back the grid point they come from. -/
theorem c_back (t : Fin cfg0.N) (r : Fin 1024) (l : Fin 128) :
    (outsAt0 (F := Ideal) m c t.val t.isLt).2.2.2.1 (ix3 0 r l)
      = (outsAt0 (F := Ideal) m c (pt (sq t) (tk t r)).val (pt (sq t) (tk t r)).isLt).2.2.2.1 (ix3 0 (rowOf (tk t r)) l) := by
  rw [pt_tk, rowOf_tk]

/-- The running sums after the kernel's run, as the body put them out. -/
theorem c_array : (dats m 0 c).arrAt 11 cfg0.N
    = fun i => (outsAt0 (F := Ideal) m c (pt (i 0 : Fin 16) (i 1 : Fin 2048)).val (pt (i 0 : Fin 16) (i 1 : Fin 2048)).isLt).2.2.2.1
        (ix3 0 (rowOf (i 1 : Fin 2048)) (i 2 : Fin 128)) := by
  refine (dats m 0 c).arrAt_eq_of_covers 11 _ (by decide +kernel) fun t hf y => ?_
  blk_simp
  rw [after0_11]
  have hy0 : y (0 : Fin 3) = (0 : Fin 1) := Subsingleton.elim (α := Fin 1) _ _
  have hy : y = ix3 (0 : Fin 1) (y (1 : Fin 3) : Fin 1024) (y (2 : Fin 3) : Fin 128) := by
    funext a
    fin_cases a
    · exact hy0
    · rfl
    · rfl
  have h0 : ((win0_11.blk t).view.emb y 0 : Fin 16) = sq t := Fin.ext (by blk_simp [idx11 t]; simp [sq, hy0])
  have h1 : ((win0_11.blk t).view.emb y 1 : Fin 2048) = tk t (y (1 : Fin 3)) := Fin.ext (by blk_simp [idx11 t]; simp [tk, Nat.mul_comm])
  have h2 : ((win0_11.blk t).view.emb y 2 : Fin 128) = y (2 : Fin 3) := Fin.ext (by blk_simp [idx11 t])
  rw [h0, h1, h2]
  exact (congrArg _ hy).trans (c_back m c t _ _)

/-- The running sums after the kernel's run, on the lanes of the heads. -/
theorem c_heads (b : Fin 16) (t : Fin 2048) (l : Fin 128) (hl : l.val < 8) :
    (dats m 0 c).arrAt 11 cfg0.N (ix3 b t l) = cumRow (wt m c) (xs m c b) (t + 1) ⟨l, hl⟩ * log2e := by
  rw [c_array]
  refine (c_out m c (pt b t) (rowOf t) l hl).trans ?_
  rw [sq_pt, tk_pt]

end Cert.Ffn

end
-- ==== Proof.Ffn.Scalar.lean ====
module
public import proofs.«01_k».proof.Proof.Ffn.Rows
public import Idealize.ShloMosaic.Lib.IdealHost

/-!
Two equations of single values: the two texts of the logarithm of the logistic function, and the two texts of the queries' scale.
-/

@[expose] public section

noncomputable section

namespace Cert.Ffn

open Idealize.ShloMosaic

/-- Zero minus a value is the value negated. -/
theorem zero_sub_eq (a : EReal) : 0 - a = -a := zero_sub a

/-- The reference's logarithm of the logistic function is the kernel's. -/
theorem logSig_eq (z : EReal) : -(max (-z) 0 + Ideal.log1p (Ideal.exp (-(max (-z - 0) (-(-z - 0)))))) = logSig z := by
  simp only [logSig, sub_zero, zero_sub, neg_neg]
  rw [max_comm (-z) z]
  have hL : Ideal.log1p (Ideal.exp (-(max z (-z)))) ≠ ⊥ := by
    have one : ∀ r : ℝ, 0 ≤ r → Ideal.log (1 + (r : EReal)) ≠ ⊥ := fun r hr => by
      have h : (1 : EReal) + (r : EReal) = ((1 + r : ℝ) : EReal) := by norm_cast
      have hp : ¬ (1 + r ≤ 0) := by linarith
      rw [h]
      show (if 1 + r ≤ 0 then (⊥ : EReal) else ((Real.log (1 + r) : ℝ) : EReal)) ≠ ⊥
      rw [if_neg hp]
      exact EReal.coe_ne_bot _
    generalize -(max z (-z)) = y
    induction y using EReal.rec with
    | bot => exact one 0 le_rfl
    | top =>
      show Ideal.log (1 + (⊤ : EReal)) ≠ ⊥
      rw [EReal.add_top_of_ne_bot (by exact EReal.coe_ne_bot 1)]
      exact top_ne_bot
    | coe x => exact one (Real.exp x) (Real.exp_pos x).le
  have hm : max (-z) 0 ≠ (⊥ : EReal) := fun h => by
    have := le_max_right (-z) (0 : EReal)
    rw [h] at this
    exact absurd this (by simp)
  have hn : -(max (-z) 0) = min z 0 := by
    rcases le_total z 0 with h | h
    · rw [max_eq_left (by simpa using h), min_eq_left h, neg_neg]
    · rw [max_eq_right (by simpa using h), min_eq_right h, neg_zero]
  rw [EReal.neg_add (Or.inl hm) (Or.inr hL), hn]

/-- Scaling by the root of the head width and then to the logarithm of two is scaling by the product. -/
theorem scale_eq (a : EReal) : a * Ideal.ofBits FTy.f32 0x3E000000#32 * Ideal.ofBits FTy.f32 0x3FB8AA3B#32 = a * Ideal.ofBits FTy.f32 0x3E38AA3B#32 := by
  rw [mul_assoc]
  congr 1
  simp [Ideal.ofBits, Ideal.ieee, -EReal.coe_mul]
  simp only [← EReal.coe_mul]
  norm_num

end Cert.Ffn

end
-- ==== Proof.Ffn.Window.lean ====
module
public import proofs.«01_k».proof.Proof.Ffn.Rows
public import Idealize.ShloMosaic.Lib.Pointwise

/-!
A running sum written as a window sum: a window as long as the sequence, padded in front by one token less, sums the tokens up to the window's own.
-/

@[expose] public section

noncomputable section

namespace Cert.Ffn

open Idealize.ShloMosaic

/-- Folding by addition from a start is adding the fold from zero. -/
theorem foldl_add {A : Type} (g : A → EReal) (l : List A) (v : EReal) : l.foldl (fun r n => r + g n) v = v + (l.map g).sum := by
  induction l generalizing v with
  | nil => simp
  | cons a l ih => simp only [List.foldl_cons, List.map_cons, List.sum_cons, ih, add_assoc]

/-- A window's terms, of which those before the sequence's start are zero, sum to the tokens up to the window's own. -/
theorem window_sum (N : Nat) (f : Nat → EReal) (t : Nat) (ht : t < N + 1) :
    ∑ w : Fin (N + 1), (if N ≤ t + w.val then f (t + w.val - N) else 0) = ∑ i ∈ Finset.range (t + 1), f i := by
  rw [Fin.sum_univ_eq_sum_range (fun w => if N ≤ t + w then f (t + w - N) else 0) (N + 1), ← Finset.sum_filter]
  refine Finset.sum_nbij' (fun w => t + w - N) (fun i => N - t + i) ?_ ?_ ?_ ?_ ?_ <;>
    simp only [Finset.mem_filter, Finset.mem_range] <;> intro a ha <;> first | omega | trivial

/-- The window sum down the tokens of a batch of sequences. -/
theorem running_sum (B T L N : Nat) (hN : N + 1 = T) (x : (⟨3, ![B, T, L]⟩ : Shape).Idx → EReal)
    (h : (⟨3, ![B, T, L]⟩ : Shape).ReduceWindows (![1, T, 1] : Fin 3 → Nat) ![1, 1, 1] ![0, N, 0] ![0, 0, 0] ⟨3, ![B, T, L]⟩)
    (b : Fin B) (t : Fin T) (l : Fin L) :
    Ideal.hostReduceWindowAdd (![1, T, 1] : Fin 3 → Nat) ![1, 1, 1] ![0, N, 0] ![0, 0, 0] h x 0 (ix3 b t l)
      = ∑ i ∈ Finset.range (t.val + 1), if hi : i < T then x (ix3 b ⟨i, hi⟩ l) else 0 := by
  subst hN
  have ht := t.isLt
  show Host.reduceWindow (u := ⟨0, ![]⟩) (· + ·) _ _ _ _ x (fun _ => (0 : EReal)) h _ (ix3 b t l) = _
  unfold Host.reduceWindow
  refine (foldl_add _ _ _).trans ?_
  rw [zero_add, ← Fin.sum_univ_def]
  refine (Equiv.sum_comp (Shape.rowMajor ⟨3, ![1, N + 1, 1]⟩).symm (fun w => @dite EReal (∀ a : Fin (⟨3, ![B, N + 1, L]⟩ : Shape).rank, (![0, N, 0] : Fin 3 → Nat) a ≤ (ix3 b t l a).val * (![1, 1, 1] : Fin 3 → Nat) a + (w a).val
    ∧ (ix3 b t l a).val * (![1, 1, 1] : Fin 3 → Nat) a + (w a).val - (![0, N, 0] : Fin 3 → Nat) a < (⟨3, ![B, N + 1, L]⟩ : Shape).size a
      ) (Nat.decidableForallFin _) (fun hin => x (fun a => ⟨_, (hin a).2⟩)) (fun _ => 0))).trans ?_
  rw [sum_idx3, Fin.sum_univ_one]
  rw [← window_sum N (fun i => if hi : i < N + 1 then x (ix3 b ⟨i, hi⟩ l) else 0) t ht]
  refine Finset.sum_congr rfl fun w _ => ?_
  rw [Fin.sum_univ_one]
  have hw := w.isLt
  by_cases hc : N ≤ t.val + w.val
  · rw [if_pos hc, dif_pos (show t.val + w.val - N < N + 1 by omega), dif_pos]
    · refine congrArg x (funext fun a => Fin.ext ?_)
      match a with
      | ⟨0, _⟩ => show b.val * 1 + 0 - 0 = b.val; omega
      | ⟨1, _⟩ => show t.val * 1 + w.val - N = t.val + w.val - N; omega
      | ⟨2, _⟩ => show l.val * 1 + 0 - 0 = l.val; omega
    · intro a
      have hb := b.isLt
      have hl := l.isLt
      match a with
      | ⟨0, _⟩ => show 0 ≤ b.val * 1 + 0 ∧ b.val * 1 + 0 - 0 < B; omega
      | ⟨1, _⟩ => show N ≤ t.val * 1 + w.val ∧ t.val * 1 + w.val - N < N + 1; omega
      | ⟨2, _⟩ => show 0 ≤ l.val * 1 + 0 ∧ l.val * 1 + 0 - 0 < L; omega
  · rw [if_neg hc, dif_neg]
    intro ha
    have h1 : N ≤ t.val * 1 + w.val := (ha 1).1
    omega

end Cert.Ffn

end
-- ==== Proof.Ffn.Ref.lean ====
module
public import proofs.«01_k».proof.Proof.Gen.Reference2Ideal.Run
public import proofs.«01_k».proof.Proof.Ffn.Scalar
public import proofs.«01_k».proof.Proof.Ffn.Window
public import Idealize.ShloMosaic.Lib.Pipeline.ValueKit
public import Idealize.ShloMosaic.Lib.Pipeline.ReadBack
public import Idealize.ShloMosaic.Lib.Pointwise
public import Idealize.ShloMosaic.Lib.Tactic.CleanTypes

/-!
What the reference of the first half-step and the projections computes: its four results, read at an index, are the functions of `Rows.lean`.
-/

@[expose] public section

set_option maxRecDepth 16384

noncomputable section

namespace Cert.Ffn.Ref

open Cert.Reference2Ideal Cert.Reference2Ideal.Gen Cert.Reference2Ideal.Value Idealize.ShloMosaic Idealize.ShloMosaic.StableHlo

/-- The norm of each token, under a scale. -/
def normT (x : FVec Ideal S16x2048x1024 .f32) (g : FVec Ideal S1024 .f32) : FVec Ideal S16x2048x1024 .f32 :=
  mulf (mulf x (broadcastInDim S16x2048x1024 ![0, 1, 2] bcast_S16x2048x1_S16x2048x1024_0_1_2 (Host.rsqrt (addf (Host.divf (broadcastInDim S16x2048x1 ![0, 1] bcast_S16x2048_S16x2048x1_0_1 (Host.reduceAdd (mulf x x) (constant S_ .f32 0x00000000#32) reducesTo_S16x2048x1024_S16x2048_d2 h_S_)) (broadcastInDim S16x2048x1 ![] bcast_S_S16x2048x1 (constant S_ .f32 0x44800000#32))) (broadcastInDim S16x2048x1 ![] bcast_S_S16x2048x1 (constant S_ .f32 0x358637BD#32)))))) (broadcastInDim S16x2048x1024 ![0, 1, 2] bcast_S1x1x1024_S16x2048x1024_0_1_2 (broadcastInDim S1x1x1024 ![2] bcast_S1024_S1x1x1024_2 g))

theorem normT_apply (x : FVec Ideal S16x2048x1024 .f32) (g : FVec Ideal S1024 .f32) (b : Fin 16) (t : Fin 2048) (l : Fin 1024) :
    normT x g (ix3 b t l) = Mix.rmsRow (fun k => x (ix3 b t k)) (fun k => g (ix1 k)) l := by
  unfold normT
  pointwise
  rfl

/-- A projection of each token to the feed-forward's width. -/
def wideT (h : FVec Ideal S16x2048x1024 .f32) (w : FVec Ideal S1024x2816 .f32) : FVec Ideal S16x2048x2816 .f32 :=
  Host.dotGeneral dot_S16x2048x1024_S1024x2816_S16x2048x2816_2_0_01_1_n_n none h w

theorem wideT_apply (h : FVec Ideal S16x2048x1024 .f32) (w : FVec Ideal S1024x2816 .f32) (b : Fin 16) (t : Fin 2048) (l : Fin 2816) :
    wideT h w (ix3 b t l) = ∑ k : Fin 1024, h (ix3 b t k) * w (ix2 k l) := by
  unfold wideT
  pointwise

/-- The half-step from its gate and its up projection. -/
def stepT (x : FVec Ideal S16x2048x1024 .f32) (g u : FVec Ideal S16x2048x2816 .f32) (d : FVec Ideal S2816x1024 .f32) : FVec Ideal S16x2048x1024 .f32 :=
  addf x (mulf (broadcastInDim S16x2048x1024 ![] bcast_S_S16x2048x1024 (constant S_ .f32 0x3F000000#32)) (Host.dotGeneral dot_S16x2048x2816_S2816x1024_S16x2048x1024_2_0_01_1_n_n none (mulf (mulf g (Host.divf (broadcastInDim S16x2048x2816 ![] bcast_S_S16x2048x2816 (constant S_ .f32 0x3F800000#32)) (addf (broadcastInDim S16x2048x2816 ![] bcast_S_S16x2048x2816 (constant S_ .f32 0x3F800000#32)) (Host.exp (Host.negf g))))) u) d))

theorem stepT_apply (x : FVec Ideal S16x2048x1024 .f32) (h : FVec Ideal S16x2048x1024 .f32) (wg wu : FVec Ideal S1024x2816 .f32)
    (d : FVec Ideal S2816x1024 .f32) (b : Fin 16) (t : Fin 2048) (l : Fin 1024) :
    stepT x (wideT h wg) (wideT h wu) d (ix3 b t l)
      = Mix.halfStep (fun k => x (ix3 b t k)) (Mix.actRow (fun k => h (ix3 b t k)) (fun k n => wg (ix2 k n)) (fun k n => wu (ix2 k n)))
          (fun k n => d (ix2 k n)) l := by
  unfold stepT
  pointwise
  simp only [wideT_apply]
  rfl

/-- All the projections of each token that the weights hold. -/
def projT (h : FVec Ideal S16x2048x1024 .f32) (w : FVec Ideal S1024x5128 .f32) : FVec Ideal S16x2048x5128 .f32 :=
  Host.dotGeneral dot_S16x2048x1024_S1024x5128_S16x2048x5128_2_0_01_1_n_n none h w

theorem projT_apply (h : FVec Ideal S16x2048x1024 .f32) (w : FVec Ideal S1024x5128 .f32) (b : Fin 16) (t : Fin 2048) (l : Fin 5128) :
    projT h w (ix3 b t l) = ∑ k : Fin 1024, h (ix3 b t k) * w (ix2 k l) := by
  unfold projT
  pointwise

/-- The projections that this half of the layer takes. -/
def headT (p : FVec Ideal S16x2048x5128 .f32) : FVec Ideal S16x2048x1544 .f32 :=
  extractStridedSlice S16x2048x1544 ![0, 0, 0] p slices_S16x2048x5128_S16x2048x1544_0_0_0

theorem headT_apply (p : FVec Ideal S16x2048x5128 .f32) (b : Fin 16) (t : Fin 2048) (l : Fin 1544) :
    headT p (ix3 b t l) = p (ix3 b t ⟨l, by omega⟩) := by
  unfold headT
  pointwise

/-- Queries, scaled, beside keys. -/
def qkT (p : FVec Ideal S16x2048x1544 .f32) : FVec Ideal S16x2048x1024 .bf16 :=
  truncf .bf16 (concatenate S16x2048x1024 2 [⟨S16x2048x512, (mulf (mulf (extractStridedSlice S16x2048x512 ![0, 0, 0] p slices_S16x2048x1544_S16x2048x512_0_0_0) (broadcastInDim S16x2048x512 ![] bcast_S_S16x2048x512 (constant S_ .f32 0x3E000000#32))) (broadcastInDim S16x2048x512 ![] bcast_S_S16x2048x512 (constant S_ .f32 0x3FB8AA3B#32)))⟩, ⟨S16x2048x512, (extractStridedSlice S16x2048x512 ![0, 0, 512] p slices_S16x2048x1544_S16x2048x512_0_0_512)⟩] concatenates_S16x2048x512_S16x2048x512_S16x2048x1024_d2) bitsLt_bf16_f32

theorem qkT_apply (p : FVec Ideal S16x2048x1544 .f32) (b : Fin 16) (t : Fin 2048) (l : Fin 1024) :
    qkT p (ix3 b t l) = if l.val < 512 then (p (ix3 b t ⟨l, by omega⟩) : EReal) * Ideal.ofBits FTy.f32 0x3E38AA3B#32 else p (ix3 b t ⟨l, by omega⟩) := by
  unfold qkT
  pointwise
  split <;> rename_i hl
  · exact (scale_eq _).trans rfl
  · exact congrArg p (by congr 1; apply Fin.ext; show 512 + (l.val - 512) = l.val; omega)

/-- Values, head by head, with ones after each head. -/
def vT (p : FVec Ideal S16x2048x1544 .f32) : FVec Ideal S16x640x2048 .bf16 :=
  truncf .bf16 (shapeCast _ (pad S16x8x80x2048 ![0, 0, 0, 0] ![0, 0, 16, 0] ![0, 0, 0, 0] (transpose S16x8x64x2048 [0, 2, 3, 1] (shapeCast _ (extractStridedSlice S16x2048x512 ![0, 0, 1024] p slices_S16x2048x1544_S16x2048x512_0_0_1024) shapeCasts_S16x2048x512_S16x2048x8x64) transposes_S16x2048x8x64_S16x8x64x2048_0_2_3_1) (id (constant S_ .f32 0x3F800000#32)) pads_S16x8x64x2048_S16x8x80x2048_000_000_0160_000 h_S_) shapeCasts_S16x8x80x2048_S16x640x2048) bitsLt_bf16_f32

theorem vT_apply (p : FVec Ideal S16x2048x1544 .f32) (b : Fin 16) (l : Fin 640) (t : Fin 2048) :
    vT p (ix3 b l t) = if h : l.val % 80 < 64 then (p (ix3 b t ⟨1024 + (64 * (l.val / 80) + l.val % 80), by omega⟩) : EReal) else 1 := by
  unfold vT
  pointwise
  by_cases h : l.val % 80 < 64
  · have key : ∀ n n' : Fin 1544, n = n' → p (ix3 b t n) = p (ix3 b t n') := fun n n' h => by rw [h]
    have hq : l.val / 80 < 8 := by omega
    refine (dif_pos ⟨hq, h⟩).trans (Eq.trans ?_ (dif_pos h).symm)
    refine key _ _ ?_
    rw [Fin.mk.injEq, Nat.mul_comm]
  · refine (dif_neg fun hc => h hc.2).trans (Eq.trans ?_ (dif_neg h).symm)
    exact Ideal.ofBits_one_f32

/-- The gates' preactivation, negated. -/
def negT (p : FVec Ideal S16x2048x1544 .f32) (b : FVec Ideal S8 .f32) : FVec Ideal S16x2048x8 .f32 :=
  Host.negf (addf (extractStridedSlice S16x2048x8 ![0, 0, 1536] p slices_S16x2048x1544_S16x2048x8_0_0_1536) (broadcastInDim S16x2048x8 ![0, 1, 2] bcast_S1x1x8_S16x2048x8_0_1_2 (broadcastInDim S1x1x8 ![2] bcast_S8_S1x1x8_2 b)))

/-- The log forget gates. -/
def gateT (n : FVec Ideal S16x2048x8 .f32) : FVec Ideal S16x2048x8 .f32 :=
  Host.negf (select (cmpf .une (subf n (broadcastInDim S16x2048x8 ![] bcast_S_S16x2048x8 (constant S_ .f32 0x00000000#32))) (subf n (broadcastInDim S16x2048x8 ![] bcast_S_S16x2048x8 (constant S_ .f32 0x00000000#32)))) (addf n (broadcastInDim S16x2048x8 ![] bcast_S_S16x2048x8 (constant S_ .f32 0x00000000#32))) (addf (maximumf n (broadcastInDim S16x2048x8 ![] bcast_S_S16x2048x8 (constant S_ .f32 0x00000000#32))) (Host.log1p (Host.exp (Host.negf (Host.absf (subf n (broadcastInDim S16x2048x8 ![] bcast_S_S16x2048x8 (constant S_ .f32 0x00000000#32)))))))))

theorem gateT_apply (p : FVec Ideal S16x2048x1544 .f32) (w : FVec Ideal S8 .f32) (b : Fin 16) (t : Fin 2048) (l : Fin 8) :
    gateT (negT p w) (ix3 b t l) = logSig ((p (ix3 b t ⟨1536 + l, by omega⟩) : EReal) + w (ix1 l)) := by
  unfold gateT negT
  pointwise
  rw [if_neg fun h => h rfl]
  refine Eq.trans ?_ (logSig_eq _)
  simp only [sub_zero]
  rfl

/-- Their running sums, in units of the logarithm of two, beside zeros. -/
def cumT (g : FVec Ideal S16x2048x8 .f32) : FVec Ideal S16x2048x128 .f32 :=
  pad S16x2048x128 ![0, 0, 0] ![0, 0, 120] ![0, 0, 0] (mulf (Host.reduceWindowAdd ![1, 2048, 1] ![1, 1, 1] ![0, 2047, 0] ![0, 0, 0] g (broadcastInDim S_ ![] bcast_S_S_ (constant S_ .f32 0x00000000#32)) reduceWindows_S16x2048x8_S16x2048x8_w1s1p0_0_w2048s1p2047_0_w1s1p0_0 h_S_) (broadcastInDim S16x2048x8 ![] bcast_S_S16x2048x8 (constant S_ .f32 0x3FB8AA3B#32))) (sitofp .f32 (constantI S_ 32 0#32)) pads_S16x2048x8_S16x2048x128_000_000_01200 h_S_

/-- The running sum of the gates, at an index. -/
theorem sumT_apply (g : FVec Ideal S16x2048x8 .f32) (b : Fin 16) (t : Fin 2048) (l : Fin 8) :
    (Host.reduceWindowAdd ![1, 2048, 1] ![1, 1, 1] ![0, 2047, 0] ![0, 0, 0] g (broadcastInDim S_ ![] bcast_S_S_ (constant S_ .f32 0x00000000#32)) reduceWindows_S16x2048x8_S16x2048x8_w1s1p0_0_w2048s1p2047_0_w1s1p0_0 h_S_ : FVec Ideal S16x2048x8 .f32) (ix3 b t l)
      = ∑ i ∈ Finset.range (t.val + 1), if hi : i < 2048 then (g (ix3 b ⟨i, hi⟩ l) : EReal) else 0 := by
  refine Eq.trans ?_ (running_sum 16 2048 8 2047 rfl g reduceWindows_S16x2048x8_S16x2048x8_w1s1p0_0_w2048s1p2047_0_w1s1p0_0 b t l)
  have hz : (broadcastInDim S_ ![] bcast_S_S_ (constant S_ .f32 0x00000000#32 : FVec Ideal S_ .f32)) (Shape.Idx.first h_S_) = (0 : EReal) := Ideal.ofBits_zero_f32
  unfold Host.reduceWindowAdd
  rw [hz]
  exact congrFun (Ideal.hostReduceWindowAdd_def _ _ _ _ _ _ _ _) (ix3 b t l)

theorem cumT_apply (g : FVec Ideal S16x2048x8 .f32) (b : Fin 16) (t : Fin 2048) (l : Fin 128) (hl : l.val < 8) :
    cumT g (ix3 b t l) = (∑ i ∈ Finset.range (t.val + 1), if hi : i < 2048 then (g (ix3 b ⟨i, hi⟩ ⟨l, hl⟩) : EReal) else 0) * log2e := by
  unfold cumT
  pointwise
  rw [dif_pos hl]
  exact congrArg (fun v : EReal => v * log2e) (sumT_apply g b t ⟨l.val, hl⟩)

variable (m : (ℓ : Loc nD τ sig) → Buf (Elt Ideal) ℓ) (c : Dev nD)

/-- The weights the reference was given. -/
def wt : Wt where
  fg k := m ((c.tc : Thread nD τ).loc main_arg1) (ix1 k)
  g k n := m ((c.tc : Thread nD τ).loc main_arg2) (ix2 k n)
  u k n := m ((c.tc : Thread nD τ).loc main_arg3) (ix2 k n)
  d k n := m ((c.tc : Thread nD τ).loc main_arg4) (ix2 k n)
  mg k := m ((c.tc : Thread nD τ).loc main_arg5) (ix1 k)
  w k n := m ((c.tc : Thread nD τ).loc main_arg6) (ix2 k ⟨n, by omega⟩)
  b k := m ((c.tc : Thread nD τ).loc main_arg7) (ix1 k)

/-- The tokens the reference was given. -/
def xs (b : Fin 16) (t : Fin 2048) (k : Fin 1024) : EReal := m ((c.tc : Thread nD τ).loc main_arg0) (ix3 b t k)

/-- The state after the half-step, as the reference writes it. -/
def stateT : FVec Ideal S16x2048x1024 .f32 :=
  stepT (m ((c.tc : Thread nD τ).loc main_arg0))
    (wideT (normT (m ((c.tc : Thread nD τ).loc main_arg0)) (m ((c.tc : Thread nD τ).loc main_arg1))) (m ((c.tc : Thread nD τ).loc main_arg2)))
    (wideT (normT (m ((c.tc : Thread nD τ).loc main_arg0)) (m ((c.tc : Thread nD τ).loc main_arg1))) (m ((c.tc : Thread nD τ).loc main_arg3)))
    (m ((c.tc : Thread nD τ).loc main_arg4))

theorem stateT_apply (b : Fin 16) (t : Fin 2048) (l : Fin 1024) : stateT m c (ix3 b t l) = stateRow (wt m c) (xs m c b t) l := by
  refine (stepT_apply _ _ _ _ _ b t l).trans ?_
  simp only [normT_apply]
  rfl

/-- The projections, as the reference writes them. -/
def projs : FVec Ideal S16x2048x1544 .f32 :=
  headT (projT (normT (stateT m c) (m ((c.tc : Thread nD τ).loc main_arg5))) (m ((c.tc : Thread nD τ).loc main_arg6)))

theorem projs_apply (b : Fin 16) (t : Fin 2048) (l : Fin 1544) : projs m c (ix3 b t l) = projRow (wt m c) (xs m c b t) l := by
  refine (headT_apply _ b t l).trans ?_
  rw [projT_apply]
  simp only [normT_apply, stateT_apply]
  rfl

/-- The queries and keys of the reference. -/
theorem qk_eq : res_main_v56 (F := Ideal) m c = fun i => qkRow (wt m c) (xs m c (i 0 : Fin 16) (i 1 : Fin 2048)) (i 2 : Fin 1024) := by
  have e : res_main_v56 (F := Ideal) m c = qkT (projs m c) := rfl
  funext i
  idx_vars i
  rw [e]
  refine (qkT_apply _ i0 i1 i2).trans ?_
  simp only [projs_apply]
  rfl

/-- The values of the reference. -/
theorem v_eq : res_main_v58 (F := Ideal) m c = fun i => vRow (wt m c) (xs m c (i 0 : Fin 16) (i 2 : Fin 2048)) (i 1 : Fin 640) := by
  have e : res_main_v58 (F := Ideal) m c = vT (projs m c) := rfl
  funext i
  idx_vars i
  rw [e]
  refine (vT_apply _ i0 i1 i2).trans ?_
  simp only [projs_apply]
  rfl

/-- The running sums of the reference, in the lanes of the heads. -/
theorem c_eq (b : Fin 16) (t : Fin 2048) (l : Fin 128) (hl : l.val < 8) :
    res_main_v55 (F := Ideal) m c (ix3 b t l) = cumRow (wt m c) (xs m c b) (t + 1) ⟨l, hl⟩ * log2e := by
  have e : res_main_v55 (F := Ideal) m c = cumT (gateT (negT (projs m c) (m ((c.tc : Thread nD τ).loc main_arg7)))) := rfl
  rw [e]
  refine (cumT_apply _ b t l hl).trans ?_
  simp only [gateT_apply, projs_apply]
  rfl

/-- The state of the reference, from the term its run ends with. -/
theorem state_eq : stateT m c = fun i => stateRow (wt m c) (xs m c (i 0 : Fin 16) (i 1 : Fin 2048)) (i 2 : Fin 1024) := by
  funext i
  idx_vars i
  exact stateT_apply m c i0 i1 i2

end Cert.Ffn.Ref

end
-- ==== Proof.Ffn.Claim.lean ====
module
public import proofs.«01_k».proof.Defs
public import proofs.«01_k».proof.Proof.Ffn.Array
public import proofs.«01_k».proof.Proof.Ffn.Ref

/-!
The equation of the first half of the layer: on memories that agree on the arguments, the kernel's four result arrays and the reference's are the same; of the
last of them, in the lanes that hold a head.
-/

@[expose] public section

noncomputable section

namespace Cert.Ffn

open Idealize.ShloMosaic Idealize.SL.Sem

/-- The shape relations of the mask hold. -/
theorem maskFacts : Cert.On_heads_only.Facts :=
  ⟨by decide, by decide, by decide⟩

/-- The signed comparison of a lane's number with eight is set in the first eight lanes only. -/
theorem lane_lt (l : Fin 128) (h : IntOp.cmpi .slt (BitVec.ofNat 32 l.val) 8#32 = 1#1) : l.val < 8 := by
  revert h
  revert l
  decide

/-- The mask selects of the last result the lanes of the heads. -/
theorem mask_lane [Cert.On_heads_only.Facts] (x0 x1 x2 x3 x4 x5 x6 x7) (i : (⟨3, ![16, 2048, 128]⟩ : Shape).Idx)
    (h : (Cert.On_heads_only.fn (F := Ideal) x0 x1 x2 x3 x4 x5 x6 x7).2.2.2 i = 1#1) : ((i 2 : Fin 128)).val < 8 :=
  lane_lt _ h

/-- The kernel's results are the reference's, on all arguments. -/
theorem algebraic : algebraic_Kernel2Ideal_Reference2Ideal_on_heads_only (hOn_heads_only := maskFacts) := by
  intro m ρ m' ρ' _ hagree
  refine ⟨_, _, _, _, (θ_run Cert.Kernel2Ideal.defs _ _).mono (fun _ h c => ⟨fun i _ => congrFun (h c).1 i, fun i _ => congrFun (h c).2.1 i,
    fun i _ => congrFun (h c).2.2.1 i, fun i _ => congrFun (h c).2.2.2.1 i, (h c).2.2.2.2⟩) (Cert.Kernel2Ideal.Value.run_blocks (F := Ideal) m ρ), ?_⟩
  refine (θ_run Cert.Reference2Ideal.defs _ _).mono (fun _ h c => ?_) (Cert.Reference2Ideal.Value.run (F := Ideal) m' ρ')
  obtain ⟨a0, a1, a2, a3, a4, a5, a6, a7⟩ := hagree c
  have hx : Ref.xs m' c = xs m c := funext fun b => funext fun t => funext fun k => congrFun a0 (ix3 b t k)
  have hw : Ref.wt m' c = wt m c := by
    simp only [Ref.wt, wt, Wt.mk.injEq]
    exact ⟨funext fun k => congrFun a1 (ix1 k), funext fun k => funext fun n => congrFun a2 (ix2 k n),
      funext fun k => funext fun n => congrFun a3 (ix2 k n), funext fun k => funext fun n => congrFun a4 (ix2 k n),
      funext fun k => congrFun a5 (ix1 k), funext fun k => funext fun n => congrFun a6 (ix2 k ⟨n, by omega⟩), funext fun k => congrFun a7 (ix1 k)⟩
  obtain ⟨h0, h1, h2, h3, hk⟩ := h c
  refine ⟨fun i _ => congrFun (h0.trans ?_) i, fun i _ => congrFun (h1.trans ?_) i, fun i _ => congrFun (h2.trans ?_) i, fun i hi => ?_, hk⟩
  · refine Eq.trans (show _ = Ref.stateT m' c from rfl) ((Ref.state_eq m' c).trans (Eq.trans ?_ (x_array m c).symm))
    rw [hx, hw]
    rfl
  · refine (Ref.qk_eq m' c).trans (Eq.trans ?_ (q_array m c).symm)
    rw [hx, hw]
    rfl
  · refine (Ref.v_eq m' c).trans (Eq.trans ?_ (v_array m c).symm)
    rw [hx, hw]
    rfl
  · have hl := @mask_lane maskFacts _ _ _ _ _ _ _ _ i hi
    idx_vars i
    refine (congrFun h3 _).trans ((Ref.c_eq m' c i0 i1 i2 hl).trans (Eq.trans ?_ (c_heads m c i0 i1 i2 hl).symm))
    rw [hx, hw]

end Cert.Ffn

end
-- ==== Proof.Fox.Host.lean ====
module
public import proofs.«01_k».proof.Proof.Gen.Kernel3Ideal.Value
public import Idealize.ShloMosaic.Lib.Pointwise

/-!
The arrays the attention's kernel is called with, as the host computes them of the arguments: queries beside keys, values with rows of ones, scaled sums, and the
two tables that select the bias lanes.
-/

@[expose] public section

set_option maxRecDepth 16384

noncomputable section

namespace Cert.Fox

open Cert.Kernel3Ideal Cert.Kernel3Ideal.Gen Idealize.ShloMosaic Idealize.ShloMosaic.TcCoe Idealize.SL.Sem

variable (m : (ℓ : Loc nD τ sig) → Buf (Elt Ideal) ℓ) (c : Dev nD)

/-- One over the logarithm of two, as the host computes it. -/
def lamArr : FVec Ideal S_ .f32 := Host.divf (constant S_ .f32 0x3F800000#32) (Host.log (constant S_ .f32 0x40000000#32))

/-- Queries beside keys, as the kernel is called with them. -/
def qkArr (a0 a1 : FVec Ideal S16x2048x512 .f32) : FVec Ideal S16x2048x1024 .bf16 :=
  concatenate S16x2048x1024 2
    [⟨S16x2048x512, truncf .bf16 (mulf (mulf a0
      (broadcastInDim S16x2048x512 ![] bcast_S_S16x2048x512 (constant S_ .f32 0x3E000000#32)))
      (broadcastInDim S16x2048x512 ![] bcast_S_S16x2048x512 lamArr)) bitsLt_bf16_f32⟩,
     ⟨S16x2048x512, truncf .bf16 a1 bitsLt_bf16_f32⟩]
    concatenates_S16x2048x512_S16x2048x512_S16x2048x1024_d2

theorem qkArr_eq : (V m c main_v8 : FVec Ideal S16x2048x1024 .bf16) = qkArr (m ((c : Thread nD τ).loc main_arg0) : FVec Ideal S16x2048x512 .f32) (m ((c : Thread nD τ).loc main_arg1) : FVec Ideal S16x2048x512 .f32) := by
  simp only [V, hostOps0, hostOps0_1, hostOps0_2, List.flatten_cons, List.flatten_nil, List.cons_append, List.nil_append]
  entry_read
  rfl

/-- The values with rows of ones, as the kernel is called with them. -/
def vtArr (a2 : FVec Ideal S16x2048x512 .f32) : FVec Ideal S16x640x2048 .bf16 :=
  truncf .bf16 (shapeCast S16x640x2048 (concatenate S16x8x80x2048 2
    [⟨S16x8x64x2048, shapeCast S16x8x64x2048 (transpose S16x512x2048 [0, 2, 1] a2
      transposes_S16x2048x512_S16x512x2048_0_2_1) shapeCasts_S16x512x2048_S16x8x64x2048⟩,
     ⟨S16x8x16x2048, broadcastInDim S16x8x16x2048 ![] bcast_S_S16x8x16x2048 (constant (F := Ideal) S_ .f32 0x3F800000#32)⟩]
    concatenates_S16x8x64x2048_S16x8x16x2048_S16x8x80x2048_d2) shapeCasts_S16x8x80x2048_S16x640x2048) bitsLt_bf16_f32

theorem vtArr_eq : (V m c main_v14 : FVec Ideal S16x640x2048 .bf16) = vtArr (m ((c : Thread nD τ).loc main_arg2) : FVec Ideal S16x2048x512 .f32) := by
  simp only [V, hostOps0, hostOps0_1, hostOps0_2, List.flatten_cons, List.flatten_nil, List.cons_append, List.nil_append]
  entry_read
  rfl

/-- The scaled sums with lanes of padding, as the kernel is called with them. -/
def cumArr (a3 : FVec Ideal S16x2048x8 .f32) : FVec Ideal S16x2048x128 .f32 :=
  pad S16x2048x128 ![0, 0, 0] ![0, 0, 120] ![0, 0, 0]
    (mulf a3 (broadcastInDim S16x2048x8 ![] bcast_S_S16x2048x8 lamArr))
    (sitofp (F := Ideal) .f32 (constantI S_ 32 0#32)) pads_S16x2048x8_S16x2048x128_000_000_01200 h_S_

theorem cumArr_eq : (V m c main_v17 : FVec Ideal S16x2048x128 .f32) = cumArr (m ((c : Thread nD τ).loc main_arg3) : FVec Ideal S16x2048x8 .f32) := by
  simp only [V, hostOps0, hostOps0_1, hostOps0_2, List.flatten_cons, List.flatten_nil, List.cons_append, List.nil_append]
  entry_read
  rfl

/-! The tables, a column at a time. -/

/-- The head of column `n`. -/
def headW (n : BitVec 32) : BitVec 32 := IntOp.addi (IntOp.shli .host (IntOp.shrsi .host n 7#32) 1#32) (IntOp.andi (IntOp.shrsi .host n 3#32) 1#32)

/-- Whether column `n` selects anything. -/
def usedW (n : BitVec 32) : BitVec 1 := IntOp.cmpi .slt (IntOp.andi n 127#32) 16#32

/-- The row that column `n` of the queries' table selects. -/
def rowQW (n : BitVec 32) : BitVec 32 :=
  Scalar.select (IntOp.cmpi .slt (IntOp.andi n 7#32) 3#32) (IntOp.addi (IntOp.muli (IntOp.andi n 7#32) 128#32) (headW n))
    (Scalar.select (IntOp.cmpi .slt (IntOp.andi n 7#32) 6#32) (IntOp.addi (IntOp.muli (IntOp.andi n 7#32) 0#32) 8#32)
      (IntOp.subi (IntOp.muli (IntOp.andi n 7#32) 0#32) 1#32))

/-- The row that column `n` of the keys' table selects. -/
def rowKW (n : BitVec 32) : BitVec 32 :=
  Scalar.select (IntOp.cmpi .slt (IntOp.andi n 7#32) 3#32) (IntOp.addi (IntOp.muli (IntOp.andi n 7#32) 0#32) 8#32)
    (Scalar.select (IntOp.cmpi .slt (IntOp.andi n 7#32) 6#32) (IntOp.addi (IntOp.subi (IntOp.muli (IntOp.andi n 7#32) 128#32) 384#32) (headW n))
      (IntOp.subi (IntOp.muli (IntOp.andi n 7#32) 0#32) 1#32))

theorem tabQ_entry (j : Fin 384) (n : Fin 512) : (V m c main_v83 : FVec Ideal S384x512 .bf16) (ix2 j n)
    = (Scalar.select (IntOp.andi (usedW (BitVec.ofNat 32 n)) (IntOp.cmpi .eq (BitVec.ofNat 32 j) (rowQW (BitVec.ofNat 32 n)))) 1 0 : EReal) := by
  simp only [V, hostOps0, hostOps0_1, hostOps0_2, List.flatten_cons, List.flatten_nil, List.cons_append, List.nil_append]
  entry_read
  pointwise [usedW, rowQW, headW]
  all_goals rfl

theorem tabK_entry (j : Fin 384) (n : Fin 512) : (V m c main_v84 : FVec Ideal S384x512 .bf16) (ix2 j n)
    = (Scalar.select (IntOp.andi (usedW (BitVec.ofNat 32 n)) (IntOp.cmpi .eq (BitVec.ofNat 32 j) (rowKW (BitVec.ofNat 32 n))))
        (Scalar.select (IntOp.cmpi .slt (IntOp.andi (BitVec.ofNat 32 n) 7#32) 3#32) 1 (-1)) 0 : EReal) := by
  simp only [V, hostOps0, hostOps0_1, hostOps0_2, List.flatten_cons, List.flatten_nil, List.cons_append, List.nil_append]
  entry_read
  pointwise [usedW, rowKW, headW]
  all_goals rfl

end Cert.Fox

end
-- ==== Proof.Fox.Block.lean ====
module
public import proofs.«01_k».proof.Proof.Gen.Kernel3Ideal.Skeleton
public import Idealize.ShloMosaic.Lib.Pipeline.ValueKit
public import Idealize.ShloMosaic.Lib.Pipeline.ReadBack
public import Idealize.ShloMosaic.Lib.Pointwise
public import Idealize.ShloMosaic.Lib.WordCmp

/-!
What the attention's body computes for its first block of 256 queries, stage by stage: the keys and queries it gathers with their bias lanes, the scores,
and the sums over the keys that a head's rows keep.
-/

@[expose] public section

set_option maxRecDepth 16384

noncomputable section

namespace Cert.Fox

open Cert.Kernel3Ideal Cert.Kernel3Ideal.Gen Idealize.ShloMosaic

variable (x0 : Vec Ideal S1x2048x1024 .bf16) (x1 : Vec Ideal S1x640x2048 .bf16) (x2 : Vec Ideal S1x2048x128 .f32) (x3 x4 : Vec Ideal S384x512 .bf16)

/-- The sums of the first 256 tokens. -/
abbrev sums : Vec Ideal S1x256x128 .f32 := View.ld x2 (Rect.unit (s := S1x2048x128) ![0, 0, 0] S1x256x128.size inb_S1x2048x128_S1x256x128_0_0_0)

/-- The bias lanes of a token as selected by a table. -/
def lanes (t : Vec Ideal S384x512 .bf16) : Vec Ideal S256x512 .bf16 := k0_pay2 (F := Ideal) (sums x2) t

/-- Lane `l` of a pair's keys, the first head's in rows 0 to 255 and the second's from 256 on, the other head's lanes left out. -/
def keyAt (p : Fin 4) (r : Fin 512) (l : Fin 256) : EReal :=
  if h : l.val < 128 then
    if r.val / 256 * 64 ≤ l.val ∧ l.val < (r.val / 256 + 1) * 64 then x0 (ix3 0 ⟨r.val % 256, by omega⟩ ⟨512 + 128 * p.val + l.val, by omega⟩) else 0
  else
    if r.val / 256 * 8 ≤ l.val - 128 ∧ l.val - 128 < (r.val / 256 + 1) * 8 then lanes x2 x4 (ix2 ⟨r.val % 256, by omega⟩ ⟨128 * p.val + (l.val - 128), by omega⟩) else 0

/-- Lane `l` of a pair's queries. -/
def qryAt (p : Fin 4) (q : Fin 256) (l : Fin 256) : EReal :=
  if h : l.val < 128 then x0 (ix3 0 ⟨q.val, by omega⟩ ⟨128 * p.val + l.val, by omega⟩)
  else lanes x2 x3 (ix2 q ⟨128 * p.val + (l.val - 128), by omega⟩)

/-- A pair's scores, keys in rows. -/
def scoreAt (p : Fin 4) (r : Fin 512) (q : Fin 256) : EReal := ∑ l : Fin 256, keyAt x0 x2 x4 p r l * qryAt x0 x2 x3 p q l

/-- The first keys, as they are kept. -/
def keyArr : Vec Ideal S4x8x512x256 .bf16 := fun i => keyAt x0 x2 x4 (i 0 : Fin 4) (i 2 : Fin 512) (i 3 : Fin 256)

/-- The first queries, as they are kept. -/
def qryArr : Vec Ideal S8x4x256x256 .bf16 := fun i => qryAt x0 x2 x3 (i 1 : Fin 4) (i 2 : Fin 256) (i 3 : Fin 256)

/-- The scores as an array. -/
def scoreArr (p : Fin 4) : FVec Ideal S512x256 .f32 := fun i => scoreAt x0 x2 x3 x4 p (i 0 : Fin 512) (i 1 : Fin 256)

/-- The choice by two comparisons of a lane's number with constants. -/
theorem keep_lane (l : Fin 128) (lo hi : ℕ) (hlo : lo < 2 ^ 31) (hhi : hi < 2 ^ 31) (a b : EReal) :
    Scalar.select (IntOp.andi (IntOp.cmpi .sge (BitVec.ofNat 32 l) (BitVec.ofNat 32 lo)) (IntOp.cmpi .slt (BitVec.ofNat 32 l) (BitVec.ofNat 32 hi))) a b
      = if lo ≤ l.val ∧ l.val < hi then a else b := by
  rw [WordCmp.cmpi_sge_ofNat (by omega) (by omega), WordCmp.cmpi_slt_ofNat (by omega) (by omega)]
  by_cases h1 : lo ≤ l.val <;> by_cases h2 : l.val < hi <;> simp [h1, h2, Scalar.select, IntOp.andi]

/-- Lanes `lo` to `hi` of 128, the others zero. -/
def keep (lo hi : BitVec 32) (w : FVec Ideal S256x128 .bf16) : FVec Ideal S1x1x256x128 .bf16 :=
  shapeCast S1x1x256x128
    (select (andi (cmpi .sge (iota .tc S256x128 32 [1] iota_S256x128_d1_w32) (broadcast S256x128 lo))
      (cmpi .slt (iota .tc S256x128 32 [1] iota_S256x128_d1_w32) (broadcast S256x128 hi))) w
      (broadcast S256x128 (Scalar.ofBits .bf16 0x0000#16 : Ideal .bf16))) shapeCasts_S256x128_S1x1x256x128

theorem keep_apply (lo hi : ℕ) (hlo : lo < 2 ^ 31) (hhi : hi < 2 ^ 31) (w : FVec Ideal S256x128 .bf16) (a b : Fin 1) (k : Fin 256) (l : Fin 128) :
    keep (BitVec.ofNat 32 lo) (BitVec.ofNat 32 hi) w (ix4 a b k l) = if lo ≤ l.val ∧ l.val < hi then w (ix2 k l) else 0 := by
  pointwise [keep]
  exact keep_lane l lo hi hlo hhi _ _

/-- The scores are the product of the keys and the queries. -/
theorem scores_eq (p : Fin 4) (K : Vec Ideal S1x1x512x256 .bf16) (Q : Vec Ideal S1x1x256x256 .bf16) (hK : ∀ r l, K (ix4 0 0 r l) = keyAt x0 x2 x4 p r l)
    (hQ : ∀ q l, Q (ix4 0 0 q l) = qryAt x0 x2 x3 p q l) : k0_pay348 (F := Ideal) K Q = scoreArr x0 x2 x3 x4 p := by
  funext j
  idx_vars j
  pointwise [k0_pay348, scoreArr, scoreAt]
  simp [hK, hQ]

/-- A half of a head's scores under the causal mask. -/
def stT (o0 o1 : ℕ) (c : BitVec 32) (S : FVec Ideal S512x256 .f32) (h : S512x256.Slices ![o0, o1] S256x128) : FVec Ideal S256x128 .f32 :=
  select (cmpi .sge (addi (iota .tc S256x128 32 [1] iota_S256x128_d1_w32) (broadcast S256x128 c)) (iota .tc S256x128 32 [0] iota_S256x128_d0_w32))
    (extractStridedSlice S256x128 ![o0, o1] S h) (broadcast S256x128 (Named.named Cert.Kernel3Ideal.κ "mask" 0xF149F2CA#32 : Ideal .f32))

/-- The word of minus infinity. -/
theorem neg_inf : Ideal.ofBits .f32 0xFF800000#32 = ⊥ := by simp [Ideal.ofBits, Ideal.ieee]

/-- The running maximum. -/
def mxT (st : FVec Ideal S256x128 .f32) (mo : Vec Ideal S1x1x128 .f32) : FVec Ideal S1x128 .f32 :=
  maximumf (shapeCast S1x128 mo shapeCasts_S1x1x128_S1x128)
    (shapeCast S1x128 (multiReduction .maximumf [0] S128 st 0xFF800000#32 reduces_S256x128_S128 (.inl rfl) rfl) shapeCasts_S128_S1x128)

/-- The weights. -/
def pT (st : FVec Ideal S256x128 .f32) (mo : Vec Ideal S1x1x128 .f32) : FVec Ideal S256x128 .bf16 :=
  truncf .bf16 (exp2 (subf st (broadcastTo S256x128 (mxT st mo) broadcasts_S1x128_S256x128))) bitsLt_bf16_f32

/-- The sums a half of a head keeps. -/
def otT (c : ℕ) (h : S80x256.Slices ![0, c] S80x128) (al : FVec Ideal S1x128 .f32) (p0 p1 : FVec Ideal S256x128 .bf16) (vt : Vec Ideal S1x80x256 .bf16)
    (oo : Vec Ideal S1x80x128 .f32) : FVec Ideal S1x80x128 .f32 :=
  shapeCast S1x80x128
    (addf (mulf (broadcastTo S80x128 al broadcasts_S1x128_S80x128) (shapeCast S80x128 oo shapeCasts_S1x80x128_S80x128))
      (extractStridedSlice S80x128 ![0, c]
        (matmul dot_S80x256_S256x256_S80x256_1_0_0_1_n_n none (shapeCast S80x256 vt shapeCasts_S1x80x256_S80x256 : FVec Ideal S80x256 .bf16)
          (concatenate S256x256 1 [⟨S256x128, p0⟩, ⟨S256x128, p1⟩] concatenates_S256x128_S256x128_S256x256_d1) (constant S80x256 .f32 0x00000000#32)) h))
    shapeCasts_S80x128_S1x80x128

/-- Head `hh` of a pair: the scores of a query under the mask. -/
def maskAt (S : FVec Ideal S512x256 .f32) (hh : Fin 2) (q k : Fin 256) : EReal := if k.val ≤ q.val then S (ix2 ⟨256 * hh.val + k.val, by omega⟩ q) else ⊥

/-- Their maximum. -/
def topAt (S : FVec Ideal S512x256 .f32) (hh : Fin 2) (q : Fin 256) : EReal := max ⊥ ((Finset.univ : Finset (Fin 256)).fold max ⊥ fun k => maskAt S hh q k)

/-- The weighted sum a row of values keeps. -/
def sumAt (S : FVec Ideal S512x256 .f32) (hh : Fin 2) (v : Fin 256 → EReal) (q : Fin 256) : EReal :=
  ∑ k : Fin 256, v k * Ideal.exp2 (maskAt S hh q k - topAt S hh q)

theorem stT_apply (c : ℕ) (hc : c + 128 ≤ 256) (hh : Fin 2) (S : FVec Ideal S512x256 .f32) (h : S512x256.Slices ![256 * hh.val, c] S256x128) (k : Fin 256) (l : Fin 128) :
    stT (256 * hh.val) c (BitVec.ofNat 32 c) S h (ix2 k l) = maskAt S hh ⟨c + l.val, by omega⟩ k := by
  pointwise [stT, maskAt]
  rw [show IntOp.addi (BitVec.ofNat 32 l) (BitVec.ofNat 32 c) = BitVec.ofNat 32 (c + l.val) by
    show BitVec.ofNat 32 l + BitVec.ofNat 32 c = _
    rw [← BitVec.ofNat_add, Nat.add_comm], WordCmp.cmpi_sge_ofNat (by omega) (by omega), WordCmp.select_ofBool]
  simp only [decide_eq_true_eq]
  rfl

theorem pT_apply (S : FVec Ideal S512x256 .f32) (hh : Fin 2) (c : ℕ) (hc : c + 128 ≤ 256) (st : FVec Ideal S256x128 .f32) (mo : Vec Ideal S1x1x128 .f32)
    (hst : ∀ k l, st (ix2 k l) = maskAt S hh ⟨c + (l : Fin 128).val, by omega⟩ k) (hmo : ∀ l, mo (ix3 0 0 l) = ⊥) (k : Fin 256) (l : Fin 128) :
    pT st mo (ix2 k l) = Ideal.exp2 (maskAt S hh ⟨c + l.val, by omega⟩ k - topAt S hh ⟨c + l.val, by omega⟩) := by
  pointwise [pT, mxT, topAt]
  simp only [hst, hmo, neg_inf]
  rfl

theorem otT_lo (S : FVec Ideal S512x256 .f32) (hh : Fin 2) (al : FVec Ideal S1x128 .f32) (p0 p1 : FVec Ideal S256x128 .bf16) (vt : Vec Ideal S1x80x256 .bf16) (oo : Vec Ideal S1x80x128 .f32)
    (h : S80x256.Slices ![0, 0] S80x128)
    (hp : ∀ k l, p0 (ix2 k l) = Ideal.exp2 (maskAt S hh ⟨0 + (l : Fin 128).val, by omega⟩ k - topAt S hh ⟨0 + l.val, by omega⟩)) (ho : ∀ r l, oo (ix3 0 r l) = 0)
    (r : Fin 80) (l : Fin 128) : otT 0 h al p0 p1 vt oo (ix3 0 r l) = sumAt S hh (fun k => vt (ix3 0 r k)) ⟨l.val, by omega⟩ := by
  pointwise [otT, sumAt]
  simp [hp, ho]

theorem otT_hi (S : FVec Ideal S512x256 .f32) (hh : Fin 2) (al : FVec Ideal S1x128 .f32) (p0 p1 : FVec Ideal S256x128 .bf16) (vt : Vec Ideal S1x80x256 .bf16) (oo : Vec Ideal S1x80x128 .f32)
    (h : S80x256.Slices ![0, 128] S80x128)
    (hp : ∀ k l, p1 (ix2 k l) = Ideal.exp2 (maskAt S hh ⟨128 + (l : Fin 128).val, by omega⟩ k - topAt S hh ⟨128 + l.val, by omega⟩)) (ho : ∀ r l, oo (ix3 0 r l) = 0)
    (r : Fin 80) (l : Fin 128) : otT 128 h al p0 p1 vt oo (ix3 0 r l) = sumAt S hh (fun k => vt (ix3 0 r k)) ⟨128 + l.val, by omega⟩ := by
  pointwise [otT, sumAt]
  simp [hp, ho]

/-- A head's rows, divided. -/
theorem yt_apply (o : Vec Ideal S1x64x256 .f32) (l : Vec Ideal S1x1x256 .f32) (d : Fin 64) (q : Fin 256) :
    k0_pay472 (F := Ideal) o l (ix3 0 d q) = Ideal.div (o (ix3 0 d q)) (l (ix3 0 0 q)) := by
  pointwise [k0_pay472]

/-- The block's result is the transpose. -/
theorem y_apply (w : Vec Ideal S1x512x256 .f32) (q : Fin 256) (n : Fin 512) : k0_pay483 (F := Ideal) w (ix3 0 q n) = w (ix3 0 n q) := by
  pointwise [k0_pay483]

/-- The three pieces a token's sums are split in, with a one in lane 8 of the first. -/
def pieceAt (k : Fin 256) (j : Fin 384) : EReal :=
  if h : j.val < 128 then if j.val = 8 then 1 else sums x2 (ix3 0 k ⟨j.val, h⟩)
  else if h : j.val - 128 < 128 then sums x2 (ix3 0 k ⟨j.val - 128, h⟩) - sums x2 (ix3 0 k ⟨j.val - 128, h⟩)
  else sums x2 (ix3 0 k ⟨j.val - 128 - 128, by omega⟩) - sums x2 (ix3 0 k ⟨j.val - 128 - 128, by omega⟩) -
    (sums x2 (ix3 0 k ⟨j.val - 128 - 128, by omega⟩) - sums x2 (ix3 0 k ⟨j.val - 128 - 128, by omega⟩))

/-- A choice by comparing a lane's number with a constant. -/
theorem choose_lane (r c : ℕ) (hr : r < 2 ^ 32) (hc : c < 2 ^ 32) (a b : EReal) :
    Scalar.select (IntOp.cmpi .eq (BitVec.ofNat 32 r) (BitVec.ofNat 32 c)) a b = if r = c then a else b := by
  rw [WordCmp.cmpi_eq_ofNat hr hc, WordCmp.select_ofBool]
  simp

/-- Three arrays side by side. -/
theorem cat3 (a b c : FVec Ideal S256x128 .bf16) (k : Fin 256) (j : Fin 384) :
    concatenate S256x384 1 [⟨S256x128, a⟩, ⟨S256x128, b⟩, ⟨S256x128, c⟩] concatenates_S256x128_S256x128_S256x128_S256x384_d1 (ix2 k j)
      = if h : j.val < 128 then a (ix2 k ⟨j.val, h⟩) else if h : j.val - 128 < 128 then b (ix2 k ⟨j.val - 128, h⟩)
        else c (ix2 k ⟨j.val - 128 - 128, by omega⟩) := by
  pointwise []

theorem pieces_apply (k : Fin 256) (j : Fin 384) : k0_pay1 (F := Ideal) (sums x2) (ix2 k j) = pieceAt x2 k j := by
  refine (cat3 _ _ _ k j).trans ?_
  unfold pieceAt
  split
  · rw [← choose_lane _ 8 (by omega) (by omega)]
    pointwise []
  · split
    · pointwise []
    · pointwise []

/-- The lanes as a sum over a table's rows. -/
theorem lanes_apply (t : Vec Ideal S384x512 .bf16) (k : Fin 256) (n : Fin 512) : lanes x2 t (ix2 k n) = ∑ j, pieceAt x2 k j * t (ix2 j n) := by
  simp only [← pieces_apply]
  pointwise [lanes, k0_pay2]

/-- A column of a table with one entry selects its row's piece. -/
theorem lanes_single (t : Vec Ideal S384x512 .bf16) (k : Fin 256) (n : Fin 512) (r : Fin 384) (e : EReal) (ht : ∀ j, t (ix2 j n) = if j = r then e else 0) :
    lanes x2 t (ix2 k n) = pieceAt x2 k r * e := by
  rw [lanes_apply]
  simp [ht]

/-- The pieces of finite sums. -/
theorem pieceAt_real (k : Fin 256) (C : Fin 128 → ℝ) (hC : ∀ l, sums x2 (ix3 0 k l) = ((C l : ℝ) : EReal)) (j : Fin 384) :
    pieceAt x2 k j = if h : j.val < 128 then (((if j.val = 8 then 1 else C ⟨j.val, h⟩ : ℝ)) : EReal) else 0 := by
  have z : ∀ a : ℝ, (a : EReal) - (a : EReal) = 0 := fun a => by rw [← EReal.coe_sub, sub_self, EReal.coe_zero]
  unfold pieceAt
  simp only [hC, z, sub_zero]
  split_ifs <;> simp

end Cert.Fox

end
-- ==== Proof.Fox.Keys.lean ====
module
public import proofs.«01_k».proof.Proof.Fox.Block

/-!
The keys and queries the attention's body keeps for its first block, piece by piece: each piece is a block of one array.
-/

@[expose] public section

set_option maxRecDepth 16384

noncomputable section

namespace Cert.Fox

open Cert.Kernel3Ideal Cert.Kernel3Ideal.Gen Idealize.ShloMosaic

variable (x0 : Vec Ideal S1x2048x1024 .bf16) (x2 : Vec Ideal S1x2048x128 .f32) (x3 x4 : Vec Ideal S384x512 .bf16)

/-- The kept keys at an index of a piece. -/
theorem keyArr_emb (p : Fin 4) (p' r o : ℕ) (hp : p' = p.val) (hr : r + 256 ≤ 512) (ho : o + 128 ≤ 256)
    (inb : ∀ a, ![p', 0, r, o] a + S1x1x256x128.size a ≤ S4x8x512x256.size a) (a b : Fin 1) (k : Fin 256) (l : Fin 128) :
    keyArr x0 x2 x4 ((Rect.unit (s := S4x8x512x256) ![p', 0, r, o] S1x1x256x128.size inb).emb (ix4 a b k l))
      = keyAt x0 x2 x4 p ⟨r + k.val, by omega⟩ ⟨o + l.val, by omega⟩ := by
  unfold keyArr
  congr 1
  · exact Fin.ext ((Rect.emb_apply _ _ _).trans (show p' + 1 * (a : ℕ) = p by omega))
  · exact Fin.ext ((Rect.emb_apply _ _ _).trans (show r + 1 * (k : ℕ) = r + k by omega))
  · exact Fin.ext ((Rect.emb_apply _ _ _).trans (show o + 1 * (l : ℕ) = o + l by omega))

/-- The kept queries at an index of a piece. -/
theorem qryArr_emb (p : Fin 4) (p' o : ℕ) (hp : p' = p.val) (ho : o + 128 ≤ 256)
    (inb : ∀ a, ![0, p', 0, o] a + S1x1x256x128.size a ≤ S8x4x256x256.size a) (a b : Fin 1) (k : Fin 256) (l : Fin 128) :
    qryArr x0 x2 x3 ((Rect.unit (s := S8x4x256x256) ![0, p', 0, o] S1x1x256x128.size inb).emb (ix4 a b k l))
      = qryAt x0 x2 x3 p k ⟨o + l.val, by omega⟩ := by
  unfold qryArr
  congr 1
  · exact Fin.ext ((Rect.emb_apply _ _ _).trans (show p' + 1 * (b : ℕ) = p by omega))
  · exact Fin.ext ((Rect.emb_apply _ _ _).trans (show 0 + 1 * (k : ℕ) = k by omega))
  · exact Fin.ext ((Rect.emb_apply _ _ _).trans (show o + 1 * (l : ℕ) = o + l by omega))

/-- A leading axis of one left out. -/
theorem drop_apply (w : FVec Ideal S1x256x128 .bf16) (k : Fin 256) (l : Fin 128) :
    shapeCast S256x128 w shapeCasts_S1x256x128_S256x128 (ix2 k l) = w (ix3 0 k l) := by
  pointwise []

/-- The tokens' rows of one pair. -/
theorem rows_apply (o : ℕ) (ho : o + 128 ≤ 1024) (inbx : ∀ a, ![0, 0, o] a + S1x256x128.size a ≤ S1x2048x1024.size a) (k : Fin 256) (l : Fin 128) :
    shapeCast S256x128 (View.ld x0 (Rect.unit (s := S1x2048x1024) ![0, 0, o] S1x256x128.size inbx)) shapeCasts_S1x256x128_S256x128 (ix2 k l)
      = x0 (ix3 0 ⟨k.val, by omega⟩ ⟨o + l.val, by omega⟩) := by
  refine (drop_apply _ k l).trans (congrArg x0 (funext fun a => ?_))
  match a with
  | ⟨0, _⟩ => rfl
  | ⟨1, _⟩ => exact Fin.ext (show 0 + 1 * (k : ℕ) = k by omega)
  | ⟨2, _⟩ => exact Fin.ext (show o + 1 * (l : ℕ) = o + l by omega)

/-- The columns of one pair. -/
theorem cols_apply (w : Vec Ideal S256x512 .bf16) (o : ℕ) (ho : o + 128 ≤ 512) (sl : S256x512.Slices ![0, o] S256x128) (k : Fin 256) (l : Fin 128) :
    extractStridedSlice S256x128 ![0, o] w sl (ix2 k l) = w (ix2 k ⟨o + l.val, by omega⟩) := by
  pointwise []

/-- The leading axes of one left out. -/
theorem lift_apply (w : FVec Ideal S256x128 .bf16) (a b : Fin 1) (k : Fin 256) (l : Fin 128) :
    shapeCast S1x1x256x128 w shapeCasts_S256x128_S1x1x256x128 (ix4 a b k l) = w (ix2 k l) := by
  pointwise []

/-- The piece of a head's own lanes. -/
theorem key_own (p : Fin 4) (hh : Fin 2) (p' r o lo hi : ℕ) (e : p' = p.val ∧ r = 256 * hh.val ∧ o = 512 + 128 * p.val ∧ lo = 64 * hh.val ∧ hi = 64 * hh.val + 64)
    (inbx : ∀ a, ![0, 0, o] a + S1x256x128.size a ≤ S1x2048x1024.size a)
    (inb : ∀ a, ![p', 0, r, 0] a + S1x1x256x128.size a ≤ S4x8x512x256.size a) (j : S1x1x256x128.Idx) :
    keep (BitVec.ofNat 32 lo) (BitVec.ofNat 32 hi) (shapeCast S256x128 (View.ld x0 (Rect.unit (s := S1x2048x1024) ![0, 0, o] S1x256x128.size inbx)) shapeCasts_S1x256x128_S256x128) j
      = keyArr x0 x2 x4 ((Rect.unit (s := S4x8x512x256) ![p', 0, r, 0] S1x1x256x128.size inb).emb j) := by
  obtain ⟨e0, e1, e2, e3, e4⟩ := e
  idx_vars j
  refine (keep_apply lo hi (by omega) (by omega) _ j0 j1 j2 j3).trans (.trans ?_ (keyArr_emb x0 x2 x4 p p' r 0 e0 (by omega) (by omega) inb j0 j1 j2 j3).symm)
  rw [rows_apply x0 o (by omega)]
  unfold keyAt
  have h1 : (r + j2.val) / 256 = hh.val := by omega
  have h2 : (r + j2.val) % 256 = j2.val := by omega
  rw [dif_pos (show 0 + j3.val < 128 by omega)]
  refine if_congr (by simp only [h1]; omega) ?_ rfl
  congr 2
  · exact Fin.ext h2.symm
  · exact Fin.ext (by show o + j3.val = 512 + 128 * p.val + (0 + j3.val); omega)

/-- The piece of a head's bias lanes. -/
theorem key_bias (p : Fin 4) (hh : Fin 2) (p' r o lo hi : ℕ) (e : p' = p.val ∧ r = 256 * hh.val ∧ o = 128 * p.val ∧ lo = 8 * hh.val ∧ hi = 8 * hh.val + 8)
    (sl : S256x512.Slices ![0, o] S256x128)
    (inb : ∀ a, ![p', 0, r, 128] a + S1x1x256x128.size a ≤ S4x8x512x256.size a) (j : S1x1x256x128.Idx) :
    keep (BitVec.ofNat 32 lo) (BitVec.ofNat 32 hi) (extractStridedSlice S256x128 ![0, o] (lanes x2 x4) sl) j
      = keyArr x0 x2 x4 ((Rect.unit (s := S4x8x512x256) ![p', 0, r, 128] S1x1x256x128.size inb).emb j) := by
  obtain ⟨e0, e1, e2, e3, e4⟩ := e
  idx_vars j
  refine (keep_apply lo hi (by omega) (by omega) _ j0 j1 j2 j3).trans (.trans ?_ (keyArr_emb x0 x2 x4 p p' r 128 e0 (by omega) (by omega) inb j0 j1 j2 j3).symm)
  rw [cols_apply (lanes x2 x4) o (by omega)]
  unfold keyAt
  have h1 : (r + j2.val) / 256 = hh.val := by omega
  have h2 : (r + j2.val) % 256 = j2.val := by omega
  rw [dif_neg (show ¬128 + j3.val < 128 by omega)]
  refine if_congr (by simp only [h1]; omega) ?_ rfl
  congr 2
  · exact Fin.ext h2.symm
  · exact Fin.ext (by show o + j3.val = 128 * p.val + (128 + j3.val - 128); omega)

/-- The piece of a pair's queries. -/
theorem qry_own (p : Fin 4) (p' o : ℕ) (e : p' = p.val ∧ o = 128 * p.val)
    (inbx : ∀ a, ![0, 0, o] a + S1x256x128.size a ≤ S1x2048x1024.size a)
    (inb : ∀ a, ![0, p', 0, 0] a + S1x1x256x128.size a ≤ S8x4x256x256.size a) (j : S1x1x256x128.Idx) :
    shapeCast S1x1x256x128 (shapeCast S256x128 (View.ld x0 (Rect.unit (s := S1x2048x1024) ![0, 0, o] S1x256x128.size inbx)) shapeCasts_S1x256x128_S256x128)
        shapeCasts_S256x128_S1x1x256x128 j
      = qryArr x0 x2 x3 ((Rect.unit (s := S8x4x256x256) ![0, p', 0, 0] S1x1x256x128.size inb).emb j) := by
  obtain ⟨e0, e1⟩ := e
  idx_vars j
  refine (lift_apply _ j0 j1 j2 j3).trans (.trans ?_ (qryArr_emb x0 x2 x3 p p' 0 e0 (by omega) inb j0 j1 j2 j3).symm)
  rw [rows_apply x0 o (by omega)]
  unfold qryAt
  rw [dif_pos (show 0 + j3.val < 128 by omega)]
  congr 2
  exact Fin.ext (by show o + j3.val = 128 * p.val + (0 + j3.val); omega)

/-- The piece of a pair's bias lanes. -/
theorem qry_bias (p : Fin 4) (p' o : ℕ) (e : p' = p.val ∧ o = 128 * p.val)
    (sl : S256x512.Slices ![0, o] S256x128)
    (inb : ∀ a, ![0, p', 0, 128] a + S1x1x256x128.size a ≤ S8x4x256x256.size a) (j : S1x1x256x128.Idx) :
    shapeCast S1x1x256x128 (extractStridedSlice S256x128 ![0, o] (lanes x2 x3) sl) shapeCasts_S256x128_S1x1x256x128 j
      = qryArr x0 x2 x3 ((Rect.unit (s := S8x4x256x256) ![0, p', 0, 128] S1x1x256x128.size inb).emb j) := by
  obtain ⟨e0, e1⟩ := e
  idx_vars j
  refine (lift_apply _ j0 j1 j2 j3).trans (.trans ?_ (qryArr_emb x0 x2 x3 p p' 128 e0 (by omega) inb j0 j1 j2 j3).symm)
  rw [cols_apply (lanes x2 x3) o (by omega)]
  unfold qryAt
  rw [dif_neg (show ¬128 + j3.val < 128 by omega)]
  congr 2
  exact Fin.ext (by show o + j3.val = 128 * p.val + (128 + j3.val - 128); omega)

end Cert.Fox

end
-- ==== Proof.Fox.Run.lean ====
module
public import proofs.«01_k».proof.Proof.Gen.Kernel3Ideal.Frame
public import proofs.«01_k».proof.Proof.Fox.Keys

/-!
What the attention's body keeps and reads back for its first block of queries: its keys and queries, and the scores they give.
-/

@[expose] public section

set_option maxRecDepth 16384
set_option maxHeartbeats 4000000

noncomputable section

namespace Cert.Fox

open Cert.Kernel3Ideal Cert.Kernel3Ideal.Gen Idealize.ShloMosaic

section Reading

variable {sig' : RefSig} {κ : Kind} {sp : Space} {s : Shape} {e : EltTy} {Val : EltTy → Type}

/-- Pieces that miss an index do not matter there. -/
theorem canon_skip [∀ e, Nonempty (Val e)] (y : s.Idx) (A L : List (View.Piece Val s e)) (h : ∀ p ∈ A, y ∉ p.1.set) : View.canon (A ++ L) y = View.canon L y := by
  induction A with
  | nil => rfl
  | cons p A ih =>
    refine (View.canon_cons_of_not_mem p (A ++ L) (h p (by simp))).trans (ih fun q hq => h q (by simp [hq]))

/-- Of pieces that cover an index the first `n` of which miss it, the others, being blocks of one array, hold that array there. -/
theorem canon_drop [∀ e, Nonempty (Val e)] (G : s.Idx → Val e) (n : ℕ) (L : List (View.Piece Val s e)) (hp : View.PiecesOf G (L.drop n)) (y : s.Idx)
    (hd : ∀ p ∈ L.take n, y ∉ p.1.set) (hc : ∃ p ∈ L, y ∈ p.1.set) : View.canon L y = G y := by
  have hc' : ∃ p ∈ L.drop n, y ∈ p.1.set := by
    obtain ⟨p, hm, hy⟩ := hc
    rw [← List.take_append_drop n L, List.mem_append] at hm
    exact ⟨p, hm.resolve_left fun hm => hd p hm hy, hy⟩
  rw [← List.take_append_drop n L, canon_skip y _ _ hd]
  simpa using View.canon_append_of_piecesOf G [] (L.drop n) hp y hc'

/-- Pieces that start behind an index on axis `a` miss it. -/
theorem miss_of_le (a : Fin s.rank) (n : ℕ) (L : List (View.Piece Val s e)) (y : s.Idx) (hy : (y a).val < n) (h : L.all (fun p => decide (n ≤ p.1.off a)) = true) :
    ∀ p ∈ L, y ∉ p.1.set := by
  intro p hp hm
  have h1 := of_decide_eq_true (List.all_eq_true.mp h p hp)
  obtain ⟨j, _, hj⟩ := (LoadRect.mem_set _).mp hm a
  omega

end Reading

variable (c : Dev nD) (arg1 : Memref sig .tc .vmem S1x2048x1024 .bf16) (harg1 : arg1.IsWhole) (arg2 : Memref sig .tc .vmem S1x640x2048 .bf16) (harg2 : arg2.IsWhole)
  (arg3 : Memref sig .tc .vmem S1x2048x128 .f32) (harg3 : arg3.IsWhole) (arg4 : Memref sig .tc .vmem S384x512 .bf16) (harg4 : arg4.IsWhole)
  (arg5 : Memref sig .tc .vmem S384x512 .bf16) (harg5 : arg5.IsWhole) (arg7 : Memref sig .tc .vmem S4x8x512x256 .bf16) (arg8 : Memref sig .tc .vmem S8x4x256x256 .bf16)
  (arg9 : Memref sig .tc .vmem S2x8x256 .f32) (arg10 : Memref sig .tc .vmem S2x640x256 .f32) (arg11 : Memref sig .tc .vmem S2x512x256 .f32)
  (x0 : Vec Ideal S1x2048x1024 .bf16) (x1 : Vec Ideal S1x640x2048 .bf16) (x2 : Vec Ideal S1x2048x128 .f32) (x3 x4 : Vec Ideal S384x512 .bf16)

/-- A load from a whole buffer. -/
theorem load_whole {s : Shape} {e : EltTy} (m : Memref sig .tc .vmem s e) (h : m.IsWhole) (X : Vec Ideal s e) (r : Rect s) :
    View.readAt (Elt Ideal) m.view r.toLoadRect (h.unread X) = View.ld X r := by
  rw [View.readAt_eq_ld, Memref.IsWhole.read_unread]

/-- The bias lanes of the keys as the body computes them. -/
theorem lanes_load (m : Memref sig .tc .vmem S384x512 .bf16) (h : m.IsWhole) (t : Vec Ideal S384x512 .bf16) :
    lanes x2 t = k0_pay2 (F := Ideal)
      (View.readAt (Elt Ideal) arg3.view (Rect.unit (s := S1x2048x128) ![0, 0, 0] S1x256x128.size inb_S1x2048x128_S1x256x128_0_0_0).toLoadRect (harg3.unread x2))
      (View.readAt (Elt Ideal) m.view (Rect.unit (s := S384x512) ![0, 0] S384x512.size inb_S384x512_S384x512_0_0).toLoadRect (h.unread t)) := by
  rw [load_whole, load_whole, View.ld_unit_lit' _ _ (by decide)]
  rfl

theorem key_pieces : View.PiecesOf (keyArr x0 x2 x4)
    ((kernelRun0_A.sl.HS0_128 (F := Ideal) c arg1 harg1 arg3 harg3 arg5 harg5 x0 x2 x4).drop 112) := by
  have own := fun p hh p' r o lo hi e inbx inb j => key_own x0 x2 x4 p hh p' r o lo hi e inbx inb j
  have bias := fun p hh p' r o lo hi e sl inb j => key_bias x0 x2 x4 p hh p' r o lo hi e sl inb j
  simp only [← load_whole arg1 harg1 x0] at own
  simp only [lanes_load arg3 harg3 x2 arg5 harg5 x4] at bias
  exact ⟨bias 3 1 3 256 384 8 16 (by decide) (by decide) (by decide), own 3 1 3 256 896 64 128 (by decide) (by decide) (by decide), bias 3 0 3 0 384 0 8 (by decide) (by decide) (by decide), own 3 0 3 0 896 0 64 (by decide) (by decide) (by decide),
    bias 2 1 2 256 256 8 16 (by decide) (by decide) (by decide), own 2 1 2 256 768 64 128 (by decide) (by decide) (by decide), bias 2 0 2 0 256 0 8 (by decide) (by decide) (by decide), own 2 0 2 0 768 0 64 (by decide) (by decide) (by decide),
    bias 1 1 1 256 128 8 16 (by decide) (by decide) (by decide), own 1 1 1 256 640 64 128 (by decide) (by decide) (by decide), bias 1 0 1 0 128 0 8 (by decide) (by decide) (by decide), own 1 0 1 0 640 0 64 (by decide) (by decide) (by decide),
    bias 0 1 0 256 0 8 16 (by decide) (by decide) (by decide), own 0 1 0 256 512 64 128 (by decide) (by decide) (by decide), bias 0 0 0 0 0 0 8 (by decide) (by decide) (by decide), own 0 0 0 0 512 0 64 (by decide) (by decide) (by decide),
    trivial⟩

theorem qry_pieces : View.PiecesOf (qryArr x0 x2 x3)
    ((kernelRun0_A.sl.HS1_64 (F := Ideal) c arg1 harg1 arg3 harg3 arg4 harg4 x0 x2 x3).drop 56) := by
  have own := fun p p' o e inbx inb j => qry_own x0 x2 x3 p p' o e inbx inb j
  have bias := fun p p' o e sl inb j => qry_bias x0 x2 x3 p p' o e sl inb j
  simp only [← load_whole arg1 harg1 x0] at own
  simp only [lanes_load arg3 harg3 x2 arg4 harg4 x3] at bias
  exact ⟨bias 3 3 384 (by decide) (by decide) (by decide), own 3 3 384 (by decide) (by decide) (by decide), bias 2 2 256 (by decide) (by decide) (by decide), own 2 2 256 (by decide) (by decide) (by decide),
    bias 1 1 128 (by decide) (by decide) (by decide), own 1 1 128 (by decide) (by decide) (by decide), bias 0 0 0 (by decide) (by decide) (by decide), own 0 0 0 (by decide) (by decide) (by decide), trivial⟩

/-- A pair's keys as the body reads them back. -/
theorem keys_read (p : Fin 4) (p' : ℕ) (hp : p' = p.val) (inb : ∀ a, ![p', 0, 0, 0] a + S1x1x512x256.size a ≤ S4x8x512x256.size a) (r : Fin 512) (l : Fin 256) :
    arg7.view.readCov (kernelRun0_A.sl.HS0_128 (F := Ideal) c arg1 harg1 arg3 harg3 arg5 harg5 x0 x2 x4)
      (Rect.unit (s := S4x8x512x256) ![p', 0, 0, 0] S1x1x512x256.size inb).toLoadRect (ix4 0 0 r l) = keyAt x0 x2 x4 p r l := by
  rw [View.readCov_eq_canon']
  refine (canon_drop (keyArr x0 x2 x4) 112 _ (key_pieces c arg1 harg1 arg3 harg3 arg5 harg5 x0 x2 x4) _ (miss_of_le (1 : Fin 4) 1 _ _ ?_ ?_)
    (View.cover_of_tiledL (s := S4x8x512x256) _ S1x1x256x128.size (by sl_kernel_rfl) _)).trans ?_
  · exact lt_of_eq_of_lt (Rect.emb_apply _ _ _) Nat.one_pos
  · sl_kernel_rfl
  · unfold keyArr
    congr 1
    · exact Fin.ext ((Rect.emb_apply _ _ _).trans (show p' + 1 * 0 = p.val by omega))
    · exact Fin.ext ((Rect.emb_apply _ _ _).trans (show 0 + 1 * (r : ℕ) = r by omega))
    · exact Fin.ext ((Rect.emb_apply _ _ _).trans (show 0 + 1 * (l : ℕ) = l by omega))

/-- A pair's queries as the body reads them back. -/
theorem qrys_read (p : Fin 4) (p' : ℕ) (hp : p' = p.val) (inb : ∀ a, ![0, p', 0, 0] a + S1x1x256x256.size a ≤ S8x4x256x256.size a) (r : Fin 256) (l : Fin 256) :
    arg8.view.readCov (kernelRun0_A.sl.HS1_64 (F := Ideal) c arg1 harg1 arg3 harg3 arg4 harg4 x0 x2 x3)
      (Rect.unit (s := S8x4x256x256) ![0, p', 0, 0] S1x1x256x256.size inb).toLoadRect (ix4 0 0 r l) = qryAt x0 x2 x3 p r l := by
  rw [View.readCov_eq_canon']
  refine (canon_drop (qryArr x0 x2 x3) 56 _ (qry_pieces c arg1 harg1 arg3 harg3 arg4 harg4 x0 x2 x3) _ (miss_of_le (0 : Fin 4) 1 _ _ ?_ ?_)
    (View.cover_of_tiledL (s := S8x4x256x256) _ S1x1x256x128.size (by sl_kernel_rfl) _)).trans ?_
  · exact lt_of_eq_of_lt (Rect.emb_apply _ _ _) Nat.one_pos
  · sl_kernel_rfl
  · unfold qryArr
    congr 1
    · exact Fin.ext ((Rect.emb_apply _ _ _).trans (show p' + 1 * 0 = p.val by omega))
    · exact Fin.ext ((Rect.emb_apply _ _ _).trans (show 0 + 1 * (r : ℕ) = r by omega))
    · exact Fin.ext ((Rect.emb_apply _ _ _).trans (show 0 + 1 * (l : ℕ) = l by omega))

/-- A pair's scores as the body computes them. -/
theorem scores_read (p : Fin 4) (p' : ℕ) (hp : p' = p.val) (inb : ∀ a, ![p', 0, 0, 0] a + S1x1x512x256.size a ≤ S4x8x512x256.size a)
    (inb' : ∀ a, ![0, p', 0, 0] a + S1x1x256x256.size a ≤ S8x4x256x256.size a) :
    k0_pay348 (F := Ideal) (arg7.view.readCov (kernelRun0_A.sl.HS0_128 (F := Ideal) c arg1 harg1 arg3 harg3 arg5 harg5 x0 x2 x4)
        (Rect.unit (s := S4x8x512x256) ![p', 0, 0, 0] S1x1x512x256.size inb).toLoadRect)
      (arg8.view.readCov (kernelRun0_A.sl.HS1_64 (F := Ideal) c arg1 harg1 arg3 harg3 arg4 harg4 x0 x2 x3)
        (Rect.unit (s := S8x4x256x256) ![0, p', 0, 0] S1x1x256x256.size inb').toLoadRect) = scoreArr x0 x2 x3 x4 p :=
  scores_eq x0 x2 x3 x4 p _ _ (keys_read c arg1 harg1 arg3 harg3 arg5 harg5 arg7 x0 x2 x4 p p' hp inb) (qrys_read c arg1 harg1 arg3 harg3 arg4 harg4 arg8 x0 x2 x3 p p' hp inb')

end Cert.Fox

end
-- ==== Proof.Fox.Sums.lean ====
module
public import proofs.«01_k».proof.Proof.Fox.Run

/-!
The sums the attention's body keeps for its first block of queries, and what it leaves in the block's rows of its output.
-/

@[expose] public section

set_option maxRecDepth 200000
set_option maxHeartbeats 4000000

noncomputable section

namespace Cert.Fox

open Cert.Kernel3Ideal Cert.Kernel3Ideal.Gen Idealize.ShloMosaic

section Reading

variable {sig' : RefSig} {κ : Kind} {sp : Space} {s : Shape} {e : EltTy} {Val : EltTy → Type}

/-- A load of what pieces of one array hold, behind pieces that miss it. -/
theorem read_behind [∀ e, Nonempty (Val e)] (G : s.Idx → Val e) (v : View sig' κ sp s e) (n : ℕ) (L A : List (View.Piece Val s e)) (B : LoadRect s)
    (h : (L.take n).all (fun p => LoadRect.disj p.1 B) = true) (hA : L.drop n = A) (hp : View.PiecesOf G A) (j : B.shape.Idx) (hc : ∃ p ∈ A, B.idx j ∈ p.1.set) :
    v.readCov L B j = G (B.idx j) := by
  subst hA
  rw [View.readCov_eq_canon']
  refine canon_drop G n L hp _ (fun p hm => LoadRect.idx_not_mem_of_disj (List.all_eq_true.mp h p hm) j) ?_
  obtain ⟨p, hm, hy⟩ := hc
  exact ⟨p, List.mem_of_mem_drop hm, hy⟩

end Reading

variable (c : Dev nD) (arg1 : Memref sig .tc .vmem S1x2048x1024 .bf16) (harg1 : arg1.IsWhole) (arg2 : Memref sig .tc .vmem S1x640x2048 .bf16) (harg2 : arg2.IsWhole)
  (arg3 : Memref sig .tc .vmem S1x2048x128 .f32) (harg3 : arg3.IsWhole) (arg4 : Memref sig .tc .vmem S384x512 .bf16) (harg4 : arg4.IsWhole)
  (arg5 : Memref sig .tc .vmem S384x512 .bf16) (harg5 : arg5.IsWhole) (arg7 : Memref sig .tc .vmem S4x8x512x256 .bf16) (arg8 : Memref sig .tc .vmem S8x4x256x256 .bf16)
  (arg9 : Memref sig .tc .vmem S2x8x256 .f32) (arg10 : Memref sig .tc .vmem S2x640x256 .f32) (arg11 : Memref sig .tc .vmem S2x512x256 .f32)
  (x0 : Vec Ideal S1x2048x1024 .bf16) (x1 : Vec Ideal S1x640x2048 .bf16) (x2 : Vec Ideal S1x2048x128 .f32) (x3 x4 : Vec Ideal S384x512 .bf16)

/-- The maximum a head starts with. -/
theorem top_old (n : ℕ) (L : List (View.Piece (Elt Ideal) S2x8x256 .f32)) (h' o : ℕ) (inb : ∀ a, ![0, h', o] a + S1x1x128.size a ≤ S2x8x256.size a)
    (h : (L.take n).all (fun p => LoadRect.disj p.1 (Rect.unit (s := S2x8x256) ![0, h', o] S1x1x128.size inb).toLoadRect) = true)
    (hA : L.drop n = kernelRun0_A.sl.HS2_1 (F := Ideal)) (l : Fin 128) :
    arg9.view.readCov L (Rect.unit (s := S2x8x256) ![0, h', o] S1x1x128.size inb).toLoadRect (ix3 0 0 l) = (⊥ : EReal) := by
  refine read_behind (fun _ => (⊥ : EReal)) _ n L _ _ h hA ⟨fun x => rfl, trivial⟩ _ ⟨_, List.mem_singleton.mpr rfl, ?_⟩
  have b1 : h' + 1 ≤ 8 := inb 1
  have b2 : o + 128 ≤ 256 := inb 2
  show _ ∈ (Rect.unit (s := S2x8x256) ![0, 0, 0] S1x8x256.size inb_S2x8x256_S1x8x256_0_0_0).set
  refine Rect.mem_set_unit.mpr fun a => ?_
  match a with
  | ⟨0, _⟩ => exact ⟨Nat.zero_le _, lt_of_eq_of_lt (Rect.emb_apply _ _ _) (show 0 + 1 * 0 < 0 + 1 by omega)⟩
  | ⟨1, _⟩ => exact ⟨Nat.zero_le _, lt_of_eq_of_lt (Rect.emb_apply _ _ _) (show h' + 1 * 0 < 0 + 8 by omega)⟩
  | ⟨2, _⟩ => exact ⟨Nat.zero_le _, lt_of_eq_of_lt (Rect.emb_apply _ _ _) (show o + 1 * (l : ℕ) < 0 + 256 by omega)⟩

/-- The sums a head starts with. -/
theorem sum_old (n : ℕ) (L : List (View.Piece (Elt Ideal) S2x640x256 .f32)) (r' o : ℕ) (inb : ∀ a, ![0, r', o] a + S1x80x128.size a ≤ S2x640x256.size a)
    (h : (L.take n).all (fun p => LoadRect.disj p.1 (Rect.unit (s := S2x640x256) ![0, r', o] S1x80x128.size inb).toLoadRect) = true)
    (hA : L.drop n = kernelRun0_A.sl.HS3_1 (F := Ideal)) (r : Fin 80) (l : Fin 128) :
    arg10.view.readCov L (Rect.unit (s := S2x640x256) ![0, r', o] S1x80x128.size inb).toLoadRect (ix3 0 r l) = (0 : EReal) := by
  refine read_behind (fun _ => (0 : EReal)) _ n L _ _ h hA ⟨fun x => ?_, trivial⟩ _ ⟨_, List.mem_singleton.mpr rfl, ?_⟩
  · show Ideal.ofBits .f32 0x00000000#32 = 0
    simp
  have b1 : r' + 80 ≤ 640 := inb 1
  have b2 : o + 128 ≤ 256 := inb 2
  show _ ∈ (Rect.unit (s := S2x640x256) ![0, 0, 0] S1x640x256.size inb_S2x640x256_S1x640x256_0_0_0).set
  refine Rect.mem_set_unit.mpr fun a => ?_
  match a with
  | ⟨0, _⟩ => exact ⟨Nat.zero_le _, lt_of_eq_of_lt (Rect.emb_apply _ _ _) (show 0 + 1 * 0 < 0 + 1 by omega)⟩
  | ⟨1, _⟩ => exact ⟨Nat.zero_le _, lt_of_eq_of_lt (Rect.emb_apply _ _ _) (show r' + 1 * (r : ℕ) < 0 + 640 by omega)⟩
  | ⟨2, _⟩ => exact ⟨Nat.zero_le _, lt_of_eq_of_lt (Rect.emb_apply _ _ _) (show o + 1 * (l : ℕ) < 0 + 256 by omega)⟩

/-- The sum of row `n` of the values, of 80 rows to a head. -/
def rowSum (n : Fin 640) (q : Fin 256) : EReal :=
  sumAt (scoreArr x0 x2 x3 x4 ⟨n.val / 160, by omega⟩) ⟨n.val / 80 % 2, by omega⟩ (fun k => x1 (ix3 0 n ⟨k.val, by omega⟩)) q

/-- The sums as they are kept. -/
def sumArr : Vec Ideal S2x640x256 .f32 := fun i => rowSum x0 x1 x2 x3 x4 (i 1 : Fin 640) (i 2 : Fin 256)

/-- The values a head's rows take. -/
theorem vals_apply (r0 : ℕ) (hr : r0 + 80 ≤ 640) (inb : ∀ a, ![0, r0, 0] a + S1x80x256.size a ≤ S1x640x2048.size a) (r : Fin 80) (k : Fin 256) :
    View.ld x1 (Rect.unit (s := S1x640x2048) ![0, r0, 0] S1x80x256.size inb) (ix3 0 r k) = x1 (ix3 0 ⟨r0 + r.val, by omega⟩ ⟨k.val, by omega⟩) := by
  refine congrArg x1 (funext fun a => ?_)
  match a with
  | ⟨0, _⟩ => rfl
  | ⟨1, _⟩ => exact Fin.ext (show r0 + 1 * (r : ℕ) = r0 + r by omega)
  | ⟨2, _⟩ => exact Fin.ext (show 0 + 1 * (k : ℕ) = k by omega)

/-- The kept sums at an index of a piece. -/
theorem sumArr_emb (p : Fin 4) (hh : Fin 2) (r0 o : ℕ) (hr : r0 = 160 * p.val + 80 * hh.val) (ho : o + 128 ≤ 256)
    (inb : ∀ a, ![0, r0, o] a + S1x80x128.size a ≤ S2x640x256.size a) (a : Fin 1) (r : Fin 80) (l : Fin 128) :
    sumArr x0 x1 x2 x3 x4 ((Rect.unit (s := S2x640x256) ![0, r0, o] S1x80x128.size inb).emb (ix3 a r l))
      = sumAt (scoreArr x0 x2 x3 x4 p) hh (fun k => x1 (ix3 0 ⟨r0 + r.val, by omega⟩ ⟨k.val, by omega⟩)) ⟨o + l.val, by omega⟩ := by
  have e1 : ((Rect.unit (s := S2x640x256) ![0, r0, o] S1x80x128.size inb).emb (ix3 a r l) 1 : Fin 640) = (⟨r0 + r.val, by omega⟩ : Fin 640) :=
    Fin.ext ((Rect.emb_apply _ _ _).trans (show r0 + 1 * (r : ℕ) = r0 + r by omega))
  have e2 : ((Rect.unit (s := S2x640x256) ![0, r0, o] S1x80x128.size inb).emb (ix3 a r l) 2 : Fin 256) = (⟨o + l.val, by omega⟩ : Fin 256) :=
    Fin.ext ((Rect.emb_apply _ _ _).trans (show o + 1 * (l : ℕ) = o + l by omega))
  have e3 : (⟨(r0 + r.val) / 160, by omega⟩ : Fin 4) = p := Fin.ext (by show (r0 + r.val) / 160 = p.val; omega)
  have e4 : (⟨(r0 + r.val) / 80 % 2, by omega⟩ : Fin 2) = hh := Fin.ext (by show (r0 + r.val) / 80 % 2 = hh.val; omega)
  show rowSum x0 x1 x2 x3 x4 ((Rect.unit (s := S2x640x256) ![0, r0, o] S1x80x128.size inb).emb (ix3 a r l) 1) ((Rect.unit (s := S2x640x256) ![0, r0, o] S1x80x128.size inb).emb (ix3 a r l) 2) = _
  rw [e1, e2]
  unfold rowSum
  rw [e3, e4]

/-- The piece of the first 128 queries. -/
theorem piece_lo (p : Fin 4) (hh : Fin 2) (r0 : ℕ) (hr : r0 = 160 * p.val + 80 * hh.val) (inb : ∀ a, ![0, r0, 0] a + S1x80x128.size a ≤ S2x640x256.size a)
    (S : FVec Ideal S512x256 .f32) (hS : S = scoreArr x0 x2 x3 x4 p) (mo : Vec Ideal S1x1x128 .f32) (hmo : ∀ l, mo (ix3 0 0 l) = (⊥ : EReal))
    (oo : Vec Ideal S1x80x128 .f32) (ho : ∀ r l, oo (ix3 0 r l) = (0 : EReal)) (inbv : ∀ a, ![0, r0, 0] a + S1x80x256.size a ≤ S1x640x2048.size a)
    (vt : Vec Ideal S1x80x256 .bf16) (hv : vt = View.ld x1 (Rect.unit (s := S1x640x2048) ![0, r0, 0] S1x80x256.size inbv))
    (hs : S512x256.Slices ![256 * hh.val, 0] S256x128) (h : S80x256.Slices ![0, 0] S80x128) (al : FVec Ideal S1x128 .f32) (p1 : FVec Ideal S256x128 .bf16) (j : S1x80x128.Idx) :
    otT 0 h al (pT (stT (256 * hh.val) 0 (BitVec.ofNat 32 0) S hs) mo) p1 vt oo j
      = sumArr x0 x1 x2 x3 x4 ((Rect.unit (s := S2x640x256) ![0, r0, 0] S1x80x128.size inb).emb j) := by
  subst hS hv
  idx_vars j
  obtain rfl : j0 = 0 := Subsingleton.elim _ _
  refine (otT_lo (scoreArr x0 x2 x3 x4 p) hh al _ p1 _ oo h
    (pT_apply _ hh 0 (by omega) _ mo (stT_apply 0 (by omega) hh _ hs) hmo) ho j1 j2).trans (.trans ?_ (sumArr_emb x0 x1 x2 x3 x4 p hh r0 0 hr (by omega) inb 0 j1 j2).symm)
  simp only [vals_apply x1 r0 (by omega)]
  congr 1
  exact Fin.ext (Nat.zero_add _).symm

/-- The piece of the other 128 queries. -/
theorem piece_hi (p : Fin 4) (hh : Fin 2) (r0 : ℕ) (hr : r0 = 160 * p.val + 80 * hh.val) (inb : ∀ a, ![0, r0, 128] a + S1x80x128.size a ≤ S2x640x256.size a)
    (S : FVec Ideal S512x256 .f32) (hS : S = scoreArr x0 x2 x3 x4 p) (mo : Vec Ideal S1x1x128 .f32) (hmo : ∀ l, mo (ix3 0 0 l) = (⊥ : EReal))
    (oo : Vec Ideal S1x80x128 .f32) (ho : ∀ r l, oo (ix3 0 r l) = (0 : EReal)) (inbv : ∀ a, ![0, r0, 0] a + S1x80x256.size a ≤ S1x640x2048.size a)
    (vt : Vec Ideal S1x80x256 .bf16) (hv : vt = View.ld x1 (Rect.unit (s := S1x640x2048) ![0, r0, 0] S1x80x256.size inbv))
    (hs : S512x256.Slices ![256 * hh.val, 128] S256x128) (h : S80x256.Slices ![0, 128] S80x128) (al : FVec Ideal S1x128 .f32) (p0 : FVec Ideal S256x128 .bf16) (j : S1x80x128.Idx) :
    otT 128 h al p0 (pT (stT (256 * hh.val) 128 (BitVec.ofNat 32 128) S hs) mo) vt oo j
      = sumArr x0 x1 x2 x3 x4 ((Rect.unit (s := S2x640x256) ![0, r0, 128] S1x80x128.size inb).emb j) := by
  subst hS hv
  idx_vars j
  obtain rfl : j0 = 0 := Subsingleton.elim _ _
  refine (otT_hi (scoreArr x0 x2 x3 x4 p) hh al p0 _ _ oo h
    (pT_apply _ hh 128 (by omega) _ mo (stT_apply 128 (by omega) hh _ hs) hmo) ho j1 j2).trans (.trans ?_ (sumArr_emb x0 x1 x2 x3 x4 p hh r0 128 hr (by omega) inb 0 j1 j2).symm)
  simp only [vals_apply x1 r0 (by omega)]

/-- The sums are written piece by piece. -/
theorem sum_pieces : View.PiecesOf (sumArr x0 x1 x2 x3 x4)
    ((kernelRun0_A.sl.HS3_17 (F := Ideal) c arg1 harg1 arg2 harg2 arg3 harg3 arg4 harg4 arg5 harg5 arg7 arg8 arg9 arg10 x0 x1 x2 x3 x4).take 16) := by
  have sc := fun p p' hp inb inb' => scores_read c arg1 harg1 arg3 harg3 arg4 harg4 arg5 harg5 arg7 arg8 x0 x2 x3 x4 p p' hp inb inb'
  have vl := fun r0 inb => load_whole arg2 harg2 x1 (Rect.unit (s := S1x640x2048) ![0, r0, 0] S1x80x256.size inb)
  have lo := fun p hh r0 hr p' hp m inb inb1 inb2 inbm inbo inbv n L hL hA L' hL' hA' hs h al p1 j =>
    piece_lo x0 x1 x2 x3 x4 p hh r0 hr inb _ (sc p p' hp inb1 inb2) _ (top_old arg9 n L m 0 inbm hL hA) _ (sum_old arg10 n L' r0 0 inbo hL' hA') inbv _ (vl r0 inbv) hs h al p1 j
  have hi := fun p hh r0 hr p' hp m inb inb1 inb2 inbm inbo inbv n L hL hA L' hL' hA' hs h al p0 j =>
    piece_hi x0 x1 x2 x3 x4 p hh r0 hr inb _ (sc p p' hp inb1 inb2) _ (top_old arg9 n L m 128 inbm hL hA) _ (sum_old arg10 n L' r0 128 inbo hL' hA') inbv _ (vl r0 inbv) hs h al p0 j
  clear sc vl
  exact ⟨hi 3 1 560 (by decide) 3 rfl 7 (by decide) (by decide) (by decide) (by decide) (by decide) (by decide) 15 _ rfl rfl _ rfl rfl (by decide) (by decide) _ _,
    lo 3 1 560 (by decide) 3 rfl 7 (by decide) (by decide) (by decide) (by decide) (by decide) (by decide) 14 _ rfl rfl _ rfl rfl (by decide) (by decide) _ _,
    hi 3 0 480 (by decide) 3 rfl 6 (by decide) (by decide) (by decide) (by decide) (by decide) (by decide) 13 _ rfl rfl _ rfl rfl (by decide) (by decide) _ _,
    lo 3 0 480 (by decide) 3 rfl 6 (by decide) (by decide) (by decide) (by decide) (by decide) (by decide) 12 _ rfl rfl _ rfl rfl (by decide) (by decide) _ _,
    hi 2 1 400 (by decide) 2 rfl 5 (by decide) (by decide) (by decide) (by decide) (by decide) (by decide) 11 _ rfl rfl _ rfl rfl (by decide) (by decide) _ _,
    lo 2 1 400 (by decide) 2 rfl 5 (by decide) (by decide) (by decide) (by decide) (by decide) (by decide) 10 _ rfl rfl _ rfl rfl (by decide) (by decide) _ _,
    hi 2 0 320 (by decide) 2 rfl 4 (by decide) (by decide) (by decide) (by decide) (by decide) (by decide) 9 _ rfl rfl _ rfl rfl (by decide) (by decide) _ _,
    lo 2 0 320 (by decide) 2 rfl 4 (by decide) (by decide) (by decide) (by decide) (by decide) (by decide) 8 _ rfl rfl _ rfl rfl (by decide) (by decide) _ _,
    hi 1 1 240 (by decide) 1 rfl 3 (by decide) (by decide) (by decide) (by decide) (by decide) (by decide) 7 _ rfl rfl _ rfl rfl (by decide) (by decide) _ _,
    lo 1 1 240 (by decide) 1 rfl 3 (by decide) (by decide) (by decide) (by decide) (by decide) (by decide) 6 _ rfl rfl _ rfl rfl (by decide) (by decide) _ _,
    hi 1 0 160 (by decide) 1 rfl 2 (by decide) (by decide) (by decide) (by decide) (by decide) (by decide) 5 _ rfl rfl _ rfl rfl (by decide) (by decide) _ _,
    lo 1 0 160 (by decide) 1 rfl 2 (by decide) (by decide) (by decide) (by decide) (by decide) (by decide) 4 _ rfl rfl _ rfl rfl (by decide) (by decide) _ _,
    hi 0 1 80 (by decide) 0 rfl 1 (by decide) (by decide) (by decide) (by decide) (by decide) (by decide) 3 _ rfl rfl _ rfl rfl (by decide) (by decide) _ _,
    lo 0 1 80 (by decide) 0 rfl 1 (by decide) (by decide) (by decide) (by decide) (by decide) (by decide) 2 _ rfl rfl _ rfl rfl (by decide) (by decide) _ _,
    hi 0 0 0 (by decide) 0 rfl 0 (by decide) (by decide) (by decide) (by decide) (by decide) (by decide) 1 _ rfl rfl _ rfl rfl (by decide) (by decide) _ _,
    lo 0 0 0 (by decide) 0 rfl 0 (by decide) (by decide) (by decide) (by decide) (by decide) (by decide) 0 _ rfl rfl _ rfl rfl (by decide) (by decide) _ _,
    trivial⟩

end Cert.Fox

end
-- ==== Proof.Fox.Out.lean ====
module
public import proofs.«01_k».proof.Proof.Fox.Sums

/-!
What the attention's body leaves in the rows of its output that its first block of queries fills.
-/

@[expose] public section

set_option maxRecDepth 200000
set_option maxHeartbeats 4000000

noncomputable section

namespace Cert.Fox

open Cert.Kernel3Ideal Cert.Kernel3Ideal.Gen Idealize.ShloMosaic

variable (c : Dev nD) (arg1 : Memref sig .tc .vmem S1x2048x1024 .bf16) (harg1 : arg1.IsWhole) (arg2 : Memref sig .tc .vmem S1x640x2048 .bf16) (harg2 : arg2.IsWhole)
  (arg3 : Memref sig .tc .vmem S1x2048x128 .f32) (harg3 : arg3.IsWhole) (arg4 : Memref sig .tc .vmem S384x512 .bf16) (harg4 : arg4.IsWhole)
  (arg5 : Memref sig .tc .vmem S384x512 .bf16) (harg5 : arg5.IsWhole) (arg7 : Memref sig .tc .vmem S4x8x512x256 .bf16) (arg8 : Memref sig .tc .vmem S8x4x256x256 .bf16)
  (arg9 : Memref sig .tc .vmem S2x8x256 .f32) (arg10 : Memref sig .tc .vmem S2x640x256 .f32) (arg11 : Memref sig .tc .vmem S2x512x256 .f32)
  (x0 : Vec Ideal S1x2048x1024 .bf16) (x1 : Vec Ideal S1x640x2048 .bf16) (x2 : Vec Ideal S1x2048x128 .f32) (x3 x4 : Vec Ideal S384x512 .bf16)

/-- An index of a block of consecutive rows. -/
theorem mem_rows {n0 n1 n2 m0 m1 m2 o1 o2 : ℕ} (inb : ∀ a, ![0, o1, o2] a + (⟨3, ![m0, m1, m2]⟩ : Shape).size a ≤ (⟨3, ![n0, n1, n2]⟩ : Shape).size a)
    (y : (⟨3, ![n0, n1, n2]⟩ : Shape).Idx) (h0 : (y 0).val < m0) (h1 : o1 ≤ (y 1).val ∧ (y 1).val < o1 + m1) (h2 : o2 ≤ (y 2).val ∧ (y 2).val < o2 + m2) :
    y ∈ (Rect.unit (s := ⟨3, ![n0, n1, n2]⟩) ![0, o1, o2] (⟨3, ![m0, m1, m2]⟩ : Shape).size inb).set := by
  refine Rect.mem_set_unit.mpr fun a => ?_
  match a with
  | ⟨0, _⟩ => exact ⟨Nat.zero_le _, by show (y 0).val < 0 + m0; omega⟩
  | ⟨1, _⟩ => exact h1
  | ⟨2, _⟩ => exact h2

/-- Pieces whose rectangles are listed cover what the list covers. -/
theorem cover_of_rects {s : Shape} {e : EltTy} {Val : EltTy → Type} (L : List (View.Piece Val s e)) (R : List (Rect s)) (h : L.map Sigma.fst = R) (y : s.Idx)
    (hc : ∃ r ∈ R, y ∈ r.set) : ∃ p ∈ L, y ∈ p.1.set := by
  subst h
  obtain ⟨r, hr, hy⟩ := hc
  obtain ⟨p, hp, rfl⟩ := List.mem_map.mp hr
  exact ⟨p, hp, hy⟩

/-- The pieces of the sums cover the rows of the first of the two arrays. -/
theorem sum_cover (y : S2x640x256.Idx) (h0 : (y 0).val = 0) :
    ∃ p ∈ (kernelRun0_A.sl.HS3_17 (F := Ideal) c arg1 harg1 arg2 harg2 arg3 harg3 arg4 harg4 arg5 harg5 arg7 arg8 arg9 arg10 x0 x1 x2 x3 x4).take 16, y ∈ p.1.set := by
  have inb : ∀ i : Fin 16, ∀ a, ![0, 80 * (7 - i.val / 2), 128 * (1 - i.val % 2)] a + S1x80x128.size a ≤ S2x640x256.size a := by decide
  refine cover_of_rects _ (List.ofFn fun i : Fin 16 => Rect.unit (s := S2x640x256) ![0, 80 * (7 - i.val / 2), 128 * (1 - i.val % 2)] S1x80x128.size (inb i)) rfl y ?_
  have b1 : (y 1).val < 640 := (y 1).isLt
  have b2 : (y 2).val < 256 := (y 2).isLt
  refine ⟨_, List.mem_ofFn.mpr ⟨⟨2 * (7 - (y 1).val / 80) + (1 - (y 2).val / 128), by omega⟩, rfl⟩, mem_rows (m0 := 1) (m1 := 80) (m2 := 128) _ y (by omega) ?_ ?_⟩ <;>
    dsimp only <;> omega

/-- The sums as the body reads them back. -/
theorem sums_read (y : S2x640x256.Idx) (h0 : (y 0).val = 0) :
    View.canon (kernelRun0_A.sl.HS3_17 (F := Ideal) c arg1 harg1 arg2 harg2 arg3 harg3 arg4 harg4 arg5 harg5 arg7 arg8 arg9 arg10 x0 x1 x2 x3 x4) y = sumArr x0 x1 x2 x3 x4 y := by
  conv_lhs => rw [← List.take_append_drop 16 (kernelRun0_A.sl.HS3_17 (F := Ideal) c arg1 harg1 arg2 harg2 arg3 harg3 arg4 harg4 arg5 harg5 arg7 arg8 arg9 arg10 x0 x1 x2 x3 x4)]
  exact View.canon_append_of_piecesOf _ _ _ (sum_pieces c arg1 harg1 arg2 harg2 arg3 harg3 arg4 harg4 arg5 harg5 arg7 arg8 arg9 arg10 x0 x1 x2 x3 x4) y
    (sum_cover c arg1 harg1 arg2 harg2 arg3 harg3 arg4 harg4 arg5 harg5 arg7 arg8 arg9 arg10 x0 x1 x2 x3 x4 y h0)

/-- An entry of the first block's result: a row's sum over the sum of the weights. -/
def quot (n : Fin 512) (q : Fin 256) : EReal :=
  Ideal.div (rowSum x0 x1 x2 x3 x4 ⟨80 * (n.val / 64) + n.val % 64, by omega⟩ q) (rowSum x0 x1 x2 x3 x4 ⟨80 * (n.val / 64) + 64, by omega⟩ q)

/-- The quotients as they are kept. -/
def quotArr : Vec Ideal S2x512x256 .f32 := fun i => quot x0 x1 x2 x3 x4 (i 1 : Fin 512) (i 2 : Fin 256)

/-- A head's piece. -/
theorem quot_piece (h : Fin 8) (a b e : ℕ) (hh : a = 80 * h.val ∧ b = 80 * h.val + 64 ∧ e = 64 * h.val)
    (inb : ∀ i, ![0, a, 0] i + S1x64x256.size i ≤ S2x640x256.size i) (inb' : ∀ i, ![0, b, 0] i + S1x1x256.size i ≤ S2x640x256.size i)
    (inbo : ∀ i, ![0, e, 0] i + S1x64x256.size i ≤ S2x512x256.size i) (j : S1x64x256.Idx) :
    k0_pay472 (F := Ideal)
        (arg10.view.readCov (kernelRun0_A.sl.HS3_17 (F := Ideal) c arg1 harg1 arg2 harg2 arg3 harg3 arg4 harg4 arg5 harg5 arg7 arg8 arg9 arg10 x0 x1 x2 x3 x4)
          (Rect.unit (s := S2x640x256) ![0, a, 0] S1x64x256.size inb).toLoadRect)
        (arg10.view.readCov (kernelRun0_A.sl.HS3_17 (F := Ideal) c arg1 harg1 arg2 harg2 arg3 harg3 arg4 harg4 arg5 harg5 arg7 arg8 arg9 arg10 x0 x1 x2 x3 x4)
          (Rect.unit (s := S2x640x256) ![0, b, 0] S1x1x256.size inb').toLoadRect) j
      = quotArr x0 x1 x2 x3 x4 ((Rect.unit (s := S2x512x256) ![0, e, 0] S1x64x256.size inbo).emb j) := by
  obtain ⟨rfl, rfl, rfl⟩ := hh
  idx_vars j
  obtain rfl : j0 = 0 := Subsingleton.elim _ _
  have rd := sums_read c arg1 harg1 arg2 harg2 arg3 harg3 arg4 harg4 arg5 harg5 arg7 arg8 arg9 arg10 x0 x1 x2 x3 x4
  rw [yt_apply, View.readCov_eq_canon', View.readCov_eq_canon']
  show Ideal.div (View.canon (Val := Elt Ideal) (s := S2x640x256) (e := .f32) _ _) (View.canon (Val := Elt Ideal) (s := S2x640x256) (e := .f32) _ _) = _
  rw [rd _ (Rect.emb_apply _ _ _), rd _ (Rect.emb_apply _ _ _)]
  have e1 : ((Rect.unit (s := S2x512x256) ![0, 64 * h.val, 0] S1x64x256.size inbo).emb (ix3 0 j1 j2) 1 : Fin 512) = (⟨64 * h.val + j1.val, by omega⟩ : Fin 512) :=
    Fin.ext ((Rect.emb_apply _ _ _).trans (show 64 * h.val + 1 * (j1 : ℕ) = 64 * h.val + j1 by omega))
  have e2 : ((Rect.unit (s := S2x512x256) ![0, 64 * h.val, 0] S1x64x256.size inbo).emb (ix3 0 j1 j2) 2 : Fin 256) = j2 :=
    Fin.ext ((Rect.emb_apply _ _ _).trans (show 0 + 1 * (j2 : ℕ) = j2 by omega))
  show _ = quot x0 x1 x2 x3 x4 ((Rect.unit (s := S2x512x256) ![0, 64 * h.val, 0] S1x64x256.size inbo).emb (ix3 0 j1 j2) 1)
    ((Rect.unit (s := S2x512x256) ![0, 64 * h.val, 0] S1x64x256.size inbo).emb (ix3 0 j1 j2) 2)
  rw [e1, e2]
  unfold quot sumArr
  congr 2
  · exact Fin.ext ((Rect.emb_apply _ _ _).trans (show 80 * h.val + 1 * (j1 : ℕ) = 80 * ((64 * h.val + j1) / 64) + (64 * h.val + j1) % 64 by omega))
  · exact Fin.ext ((Rect.emb_apply _ _ _).trans (show 80 * h.val + 64 + 1 * 0 = 80 * ((64 * h.val + j1) / 64) + 64 by omega))

/-- The quotients are written piece by piece. -/
theorem quot_pieces : View.PiecesOf (quotArr x0 x1 x2 x3 x4)
    (kernelRun0_A.sl.HS4_8 (F := Ideal) c arg1 harg1 arg2 harg2 arg3 harg3 arg4 harg4 arg5 harg5 arg7 arg8 arg9 arg10 x0 x1 x2 x3 x4) := by
  have pc := fun h a b e hh inb inb' inbo => quot_piece c arg1 harg1 arg2 harg2 arg3 harg3 arg4 harg4 arg5 harg5 arg7 arg8 arg9 arg10 x0 x1 x2 x3 x4 h a b e hh inb inb' inbo
  exact ⟨pc 7 560 624 448 (by decide) (by decide) (by decide) (by decide),
    pc 6 480 544 384 (by decide) (by decide) (by decide) (by decide),
    pc 5 400 464 320 (by decide) (by decide) (by decide) (by decide),
    pc 4 320 384 256 (by decide) (by decide) (by decide) (by decide),
    pc 3 240 304 192 (by decide) (by decide) (by decide) (by decide),
    pc 2 160 224 128 (by decide) (by decide) (by decide) (by decide),
    pc 1 80 144 64 (by decide) (by decide) (by decide) (by decide),
    pc 0 0 64 0 (by decide) (by decide) (by decide) (by decide),
    trivial⟩

/-- The pieces of the quotients cover the rows of the first of the two arrays. -/
theorem quot_cover (y : S2x512x256.Idx) (h0 : (y 0).val = 0) :
    ∃ p ∈ kernelRun0_A.sl.HS4_8 (F := Ideal) c arg1 harg1 arg2 harg2 arg3 harg3 arg4 harg4 arg5 harg5 arg7 arg8 arg9 arg10 x0 x1 x2 x3 x4, y ∈ p.1.set := by
  have inb : ∀ i : Fin 8, ∀ a, ![0, 64 * (7 - i.val), 0] a + S1x64x256.size a ≤ S2x512x256.size a := by decide
  refine cover_of_rects _ (List.ofFn fun i : Fin 8 => Rect.unit (s := S2x512x256) ![0, 64 * (7 - i.val), 0] S1x64x256.size (inb i)) rfl y ?_
  have b1 : (y 1).val < 512 := (y 1).isLt
  have b2 : (y 2).val < 256 := (y 2).isLt
  refine ⟨_, List.mem_ofFn.mpr ⟨⟨7 - (y 1).val / 64, by omega⟩, rfl⟩, mem_rows (m0 := 1) (m1 := 64) (m2 := 256) _ y (by omega) ?_ ?_⟩ <;>
    dsimp only <;> omega

/-- The first block's rows of the output. -/
theorem out_rows (i : grid0.Coords) (arg6 : Memref sig .tc .vmem S1x2048x512 .bf16) (harg6 : arg6.IsWhole) (harg7 : arg7.IsWhole) (harg8 : arg8.IsWhole) (harg9 : arg9.IsWhole)
    (harg10 : arg10.IsWhole) (harg11 : arg11.IsWhole) (q : Fin 256) (n : Fin 512) :
    out0_A_5 (F := Ideal) c i arg1 harg1 arg2 harg2 arg3 harg3 arg4 harg4 arg5 harg5 arg6 harg6 arg7 harg7 arg8 harg8 arg9 harg9 arg10 harg10 arg11 harg11 x0 x1 x2 x3 x4
      (ix3 0 ⟨q.val, by omega⟩ n) = quot x0 x1 x2 x3 x4 n q := by
  unfold out0_A_5
  rw [View.read_writes_junk_apply_eq_canon]
  have kr : (kernelRun0_A (F := Ideal) c i arg1 harg1 arg2 harg2 arg3 harg3 arg4 harg4 arg5 harg5 arg6 harg6 arg7 harg7 arg8 harg8 arg9 harg9 arg10 harg10 arg11 harg11 x0 x1 x2 x3 x4).1.drop 7
      = [⟨Rect.unit (s := S1x2048x512) ![0, 0, 0] S1x256x512.size inb_S1x2048x512_S1x256x512_0_0_0, k0_pay483 (F := Ideal) (arg11.view.readCov
          (kernelRun0_A.sl.HS4_8 (F := Ideal) c arg1 harg1 arg2 harg2 arg3 harg3 arg4 harg4 arg5 harg5 arg7 arg8 arg9 arg10 x0 x1 x2 x3 x4)
          (Rect.unit (s := S2x512x256) ![0, 0, 0] S1x512x256.size inb_S2x512x256_S1x512x256_0_0_0).toLoadRect)⟩] := rfl
  conv_lhs => rw [← List.take_append_drop 7 (kernelRun0_A (F := Ideal) c i arg1 harg1 arg2 harg2 arg3 harg3 arg4 harg4 arg5 harg5 arg6 harg6 arg7 harg7 arg8 harg8 arg9 harg9 arg10 harg10 arg11 harg11 x0 x1 x2 x3 x4).1]
  rw [canon_skip _ _ _ ?_, kr]
  · have e : (ix3 0 ⟨q.val, by omega⟩ n : S1x2048x512.Idx) = (Rect.unit (s := S1x2048x512) ![0, 0, 0] S1x256x512.size inb_S1x2048x512_S1x256x512_0_0_0).emb (ix3 0 q n) := by
      funext a
      match a with
      | ⟨0, _⟩ => rfl
      | ⟨1, _⟩ => exact Fin.ext (show (q : ℕ) = 0 + 1 * (q : ℕ) by omega)
      | ⟨2, _⟩ => exact Fin.ext (show (n : ℕ) = 0 + 1 * (n : ℕ) by omega)
    rw [e, View.canon_cons_emb, y_apply, View.readCov_eq_canon']
    refine (canon_drop (quotArr x0 x1 x2 x3 x4) 0 _ (quot_pieces c arg1 harg1 arg2 harg2 arg3 harg3 arg4 harg4 arg5 harg5 arg7 arg8 arg9 arg10 x0 x1 x2 x3 x4) _ (by simp)
      (quot_cover c arg1 harg1 arg2 harg2 arg3 harg3 arg4 harg4 arg5 harg5 arg7 arg8 arg9 arg10 x0 x1 x2 x3 x4 _ (Rect.emb_apply _ _ _))).trans ?_
    unfold quotArr
    congr 1
    · exact Fin.ext ((Rect.emb_apply _ _ _).trans (show 0 + 1 * (n : ℕ) = n by omega))
    · exact Fin.ext ((Rect.emb_apply _ _ _).trans (show 0 + 1 * (q : ℕ) = q by omega))
  · exact miss_of_le (s := S1x2048x512) (1 : Fin 3) 256 _ _ (show q.val < 256 from q.isLt) (by sl_kernel_rfl)

end Cert.Fox

end
-- ==== Proof.Fox.Scalar.lean ====
module
public import Idealize.ShloMosaic.Lib.IdealHost
public import Idealize.ShloMosaic.Lib.Pointwise

/-!
The mathematics of one row of causal softmax attention, in two texts: with the exponential to base two, weights left undivided until the end, and with the
natural exponential, each weight divided. Both are the real number `attn`.
-/

@[expose] public section

noncomputable section

namespace Cert.Fox

open Idealize.ShloMosaic

/-- The sum of the finite values is the value of the finite sum. -/
theorem coe_sum {n : ℕ} (f : Fin n → ℝ) : ∑ k, ((f k : ℝ) : EReal) = ((∑ k, f k : ℝ) : EReal) := by
  induction n with
  | zero => simp
  | succ n ih => rw [Fin.sum_univ_succ, Fin.sum_univ_succ, ih, EReal.coe_add]

/-- The weighted mean of the values `v` up to key `t`, by the exponentials of the scores `s`. -/
def attn {n : ℕ} (t : ℕ) (s v : Fin n → ℝ) : ℝ :=
  (∑ k, v k * if k.val ≤ t then Real.exp (s k) else 0) / ∑ k, if k.val ≤ t then Real.exp (s k) else 0

/-- The sum of the exponentials is positive: the first key is not masked. -/
theorem sum_pos {n : ℕ} (t : ℕ) (s : Fin n → ℝ) (h : 0 < n) : 0 < ∑ k : Fin n, if k.val ≤ t then Real.exp (s k) else 0 := by
  refine Finset.sum_pos' (fun k _ => ?_) ⟨⟨0, h⟩, Finset.mem_univ _, ?_⟩
  · split
    · exact (Real.exp_pos _).le
    · exact le_rfl
  · rw [if_pos (Nat.zero_le _)]
    exact Real.exp_pos _

/-- The greatest of a row of masked scores is a real number. -/
theorem max_real {n : ℕ} (t : ℕ) (s : Fin n → ℝ) (h : 0 < n) (st : Fin n → EReal) (hst : ∀ k, st k = if k.val ≤ t then ((s k : ℝ) : EReal) else ⊥) :
    ∃ M : ℝ, (Finset.univ : Finset (Fin n)).fold max ⊥ st = M := by
  refine ⟨_, (EReal.coe_toReal ?_ ?_).symm⟩
  · refine (Finset.fold_max_lt _ |>.mpr ⟨bot_lt_top, fun k _ => ?_⟩).ne
    rw [hst]
    split
    · exact EReal.coe_lt_top _
    · exact bot_lt_top
  · refine (Finset.lt_fold_max _ |>.mpr (Or.inr ⟨⟨0, h⟩, Finset.mem_univ _, ?_⟩)).ne'
    rw [hst, if_pos (Nat.zero_le _)]
    exact EReal.bot_lt_coe _

/-- A masked score's weight, to base two, relative to any reference `m`. -/
theorem weight2 (t k : ℕ) (s m : ℝ) (st : EReal) (hst : st = if k ≤ t then ((s * (1 / Real.log 2) : ℝ) : EReal) else ⊥) :
    Ideal.exp2 (st - (m : EReal)) = (((if k ≤ t then Real.exp s else 0) * Real.exp (-(Real.log 2 * m)) : ℝ) : EReal) := by
  have h2 : Real.log 2 ≠ 0 := (Real.log_pos (by norm_num)).ne'
  rw [hst]
  split
  · rw [← EReal.coe_sub, Ideal.exp2_coe, ← Real.exp_add]
    congr 1
    show (2 : ℝ) ^ (s * (1 / Real.log 2) - m) = _
    rw [Real.rpow_def_of_pos (by norm_num)]
    congr 1
    field_simp
    ring
  · rw [EReal.bot_sub, Ideal.exp2_bot]
    simp

/-- The same to the natural base. -/
theorem weight1 (t k : ℕ) (s m : ℝ) (st : EReal) (hst : st = if k ≤ t then (s : EReal) else ⊥) :
    Ideal.exp (st - (m : EReal)) = (((if k ≤ t then Real.exp s else 0) * Real.exp (-m) : ℝ) : EReal) := by
  rw [hst]
  split
  · rw [← EReal.coe_sub, Ideal.exp_coe, ← Real.exp_add]
    rfl
  · rw [EReal.bot_sub, Ideal.exp_bot]
    simp

/-- The row with the exponentials to base two, divided at the end. -/
theorem row2 {n : ℕ} (t : ℕ) (s v : Fin n → ℝ) (h : 0 < n) (m : ℝ) (st : Fin n → EReal)
    (hst : ∀ k, st k = if k.val ≤ t then ((s k * (1 / Real.log 2) : ℝ) : EReal) else ⊥) :
    Ideal.div (∑ k, (v k : EReal) * Ideal.exp2 (st k - (m : EReal))) (∑ k, Ideal.exp2 (st k - (m : EReal))) = ((attn t s v : ℝ) : EReal) := by
  have e : ∀ k, Ideal.exp2 (st k - (m : EReal)) = _ := fun k => weight2 t k.val (s k) m (st k) (hst k)
  have hp : 0 < ∑ k : Fin n, (if k.val ≤ t then Real.exp (s k) else 0) * Real.exp (-(Real.log 2 * m)) := by
    rw [← Finset.sum_mul]
    exact mul_pos (sum_pos t s h) (Real.exp_pos _)
  simp only [e, ← EReal.coe_mul, coe_sum]
  rw [Ideal.div_coe hp.ne', ← EReal.coe_mul]
  congr 1
  unfold attn
  simp only [← mul_assoc]
  rw [← Finset.sum_mul, ← Finset.sum_mul]
  have := (sum_pos t s h).ne'
  have := (Real.exp_pos (-(Real.log 2 * m))).ne'
  field_simp

/-- The row with the natural exponentials, each divided. -/
theorem row1 {n : ℕ} (t : ℕ) (s v : Fin n → ℝ) (h : 0 < n) (m : ℝ) (st : Fin n → EReal) (hst : ∀ k, st k = if k.val ≤ t then (s k : EReal) else ⊥) :
    ∑ k, (v k : EReal) * Ideal.div (Ideal.exp (st k - (m : EReal))) (∑ k, Ideal.exp (st k - (m : EReal))) = ((attn t s v : ℝ) : EReal) := by
  have e : ∀ k, Ideal.exp (st k - (m : EReal)) = _ := fun k => weight1 t k.val (s k) m (st k) (hst k)
  have hp : 0 < ∑ k : Fin n, (if k.val ≤ t then Real.exp (s k) else 0) * Real.exp (-m) := by
    rw [← Finset.sum_mul]
    exact mul_pos (sum_pos t s h) (Real.exp_pos _)
  simp only [e, coe_sum, Ideal.div_coe hp.ne', ← EReal.coe_mul]
  congr 1
  unfold attn
  rw [← Finset.sum_mul, Finset.sum_div]
  have := (sum_pos t s h).ne'
  have := (Real.exp_pos (-m)).ne'
  refine Finset.sum_congr rfl fun k _ => ?_
  field_simp

/-- Masked keys do not matter: the row over a prefix of the keys that holds the query. -/
theorem attn_prefix (t : ℕ) (ht : t < 256) (s v : Fin 2048 → ℝ) :
    attn t s v = attn t (fun k : Fin 256 => s ⟨k, by omega⟩) (fun k => v ⟨k, by omega⟩) := by
  have e : ∀ g : Fin 2048 → ℝ, (∀ k : Fin 2048, t < k.val → g k = 0) → ∑ k, g k = ∑ k : Fin 256, g ⟨k, by omega⟩ := by
    intro g hg
    refine (Fin.sum_univ_add (a := 256) (b := 1792) g).trans ?_
    rw [Finset.sum_eq_zero (s := Finset.univ) (f := fun i : Fin 1792 => g (Fin.natAdd 256 i)) fun i _ => hg _ (by simp; omega), add_zero]
    rfl
  unfold attn
  rw [e _ fun k hk => by rw [if_neg (by omega), mul_zero], e _ fun k hk => if_neg (by omega)]

end Cert.Fox

end
-- ==== Proof.Fox.Real.lean ====
module
public import proofs.«01_k».proof.Proof.Fox.Out
public import proofs.«01_k».proof.Proof.Fox.Scalar

/-!
What the attention's first rows are on finite arguments: the bias lanes add a query's sum and subtract a key's, and a head's rows divided by its sum of weights
are the attention of the plain formula.
-/

@[expose] public section

set_option maxRecDepth 16384

noncomputable section

namespace Cert.Fox

open Cert.Kernel3Ideal Cert.Kernel3Ideal.Gen Idealize.ShloMosaic

/-- The scale to base two. -/
def lam : ℝ := 1 / Real.log 2

/-- The row of the pieces that a query's bias lane `s` selects, for head `h`. -/
def rowQ (s : Fin 8) (h : Fin 8) : Fin 384 := if hs : s.val < 3 then ⟨128 * s.val + h.val, by omega⟩ else ⟨8, by omega⟩

/-- The row of the pieces that a key's bias lane `s` selects, for head `h`. -/
def rowK (s : Fin 8) (h : Fin 8) : Fin 384 := if hs : 3 ≤ s.val ∧ s.val < 6 then ⟨128 * (s.val - 3) + h.val, by omega⟩ else ⟨8, by omega⟩

/-- The factor of a query's bias lane. -/
def facQ (s : Fin 8) : ℝ := if s.val < 6 then 1 else 0

/-- The factor of a key's bias lane. -/
def facK (s : Fin 8) : ℝ := if s.val < 3 then 1 else if s.val < 6 then -1 else 0

/-- The column of bias lane `s` of head `h`. -/
def biasCol (h s : Fin 8) : Fin 512 := ⟨128 * (h.val / 2) + (8 * (h.val % 2) + s.val), by omega⟩

/-- What the blocks hold that the attention reads for its first queries: the scaled queries and the keys, the values with rows of ones, the scaled sums, and the tables. -/
structure Reads (x0 : Vec Ideal S1x2048x1024 .bf16) (x1 : Vec Ideal S1x640x2048 .bf16) (x2 : Vec Ideal S1x2048x128 .f32) (x3 x4 : Vec Ideal S384x512 .bf16)
    (A B W : Fin 256 → Fin 512 → ℝ) (C : Fin 256 → Fin 8 → ℝ) : Prop where
  query : ∀ q n, x0 (ix3 0 ⟨(q : Fin 256).val, by omega⟩ ⟨(n : Fin 512).val, by omega⟩) = ((A q n * (1 / 8) * lam : ℝ) : EReal)
  key : ∀ k n, x0 (ix3 0 ⟨(k : Fin 256).val, by omega⟩ ⟨512 + (n : Fin 512).val, by omega⟩) = ((B k n : ℝ) : EReal)
  val : ∀ k n, x1 (ix3 0 ⟨80 * ((n : Fin 512).val / 64) + n.val % 64, by omega⟩ ⟨(k : Fin 256).val, by omega⟩) = ((W k n : ℝ) : EReal)
  one : ∀ k h, x1 (ix3 0 ⟨80 * (h : Fin 8).val + 64, by omega⟩ ⟨(k : Fin 256).val, by omega⟩) = 1
  cum : ∀ k l, sums x2 (ix3 0 k l) = ((if h : (l : Fin 128).val < 8 then C k ⟨l.val, h⟩ * lam else 0 : ℝ) : EReal)
  tabQ : ∀ h s j, x3 (ix2 j (biasCol h s)) = if j = rowQ s h then ((facQ s : ℝ) : EReal) else 0
  tabK : ∀ h s j, x4 (ix2 j (biasCol h s)) = if j = rowK s h then ((facK s : ℝ) : EReal) else 0

/-- A sum over 128 lanes of which only `w` from `lo` on count. -/
theorem window (w lo : ℕ) (h : lo + w ≤ 128) (f : Fin 128 → EReal) :
    ∑ l : Fin 128, (if lo ≤ l.val ∧ l.val < lo + w then f l else 0) = ∑ d : Fin w, f ⟨lo + d.val, by omega⟩ := by
  rw [← Finset.sum_filter]
  symm
  refine Finset.sum_bij (fun d _ => ⟨lo + d.val, by omega⟩) ?_ ?_ ?_ ?_
  · intro d _
    simp
  · intro a _ b _ e
    have := congrArg Fin.val e
    exact Fin.ext (by simpa using this)
  · intro l hl
    have hl := (Finset.mem_filter.mp hl).2
    exact ⟨⟨l.val - lo, by omega⟩, Finset.mem_univ _, Fin.ext (by simp only; omega)⟩
  · intro d _
    rfl

variable {x0 : Vec Ideal S1x2048x1024 .bf16} {x1 : Vec Ideal S1x640x2048 .bf16} {x2 : Vec Ideal S1x2048x128 .f32} {x3 x4 : Vec Ideal S384x512 .bf16}
  {A B W : Fin 256 → Fin 512 → ℝ} {C : Fin 256 → Fin 8 → ℝ} (R : Reads x0 x1 x2 x3 x4 A B W C)

include R

/-- A query's bias lanes: its sum, and ones against the key's. -/
theorem query_lane (q : Fin 256) (h s : Fin 8) :
    lanes x2 x3 (ix2 q (biasCol h s)) = ((if s.val = 0 then C q h * lam else if 3 ≤ s.val ∧ s.val < 6 then 1 else 0 : ℝ) : EReal) := by
  rw [lanes_single x2 x3 q _ _ _ (R.tabQ h s), pieceAt_real x2 q _ (R.cum q)]
  have h8 : h.val ≠ 8 := by omega
  have hl : ¬ 128 + h.val < 128 := by omega
  have hl2 : ¬ 256 + h.val < 128 := by omega
  fin_cases s <;> simp [rowQ, facQ, h8, hl, hl2] <;> omega

/-- A key's bias lanes: ones against the query's sum, and its own taken away. -/
theorem key_lane (k : Fin 256) (h s : Fin 8) :
    lanes x2 x4 (ix2 k (biasCol h s)) = ((if s.val < 3 then 1 else if s.val = 3 then -(C k h * lam) else 0 : ℝ) : EReal) := by
  rw [lanes_single x2 x4 k _ _ _ (R.tabK h s), pieceAt_real x2 k _ (R.cum k)]
  have h8 : h.val ≠ 8 := by omega
  have hl : ¬ 128 + h.val < 128 := by omega
  have hl2 : ¬ 256 + h.val < 128 := by omega
  fin_cases s <;> simp [rowK, facK, h8, hl, hl2] <;> omega

/-- The plain formula's score of a key for a query, in head `h`. -/
def plain (A B : Fin 256 → Fin 512 → ℝ) (C : Fin 256 → Fin 8 → ℝ) (h : Fin 8) (q k : Fin 256) : ℝ :=
  (∑ d : Fin 64, A q ⟨64 * h.val + d.val, by omega⟩ * B k ⟨64 * h.val + d.val, by omega⟩) * (1 / 8) + C q h - C k h

omit R in
theorem key_half (p : Fin 4) (hh : Fin 2) (k : Fin 256) (l : Fin 128) :
    keyAt x0 x2 x4 p ⟨256 * hh.val + k.val, by omega⟩ ⟨l.val, by omega⟩
      = if hh.val * 64 ≤ l.val ∧ l.val < hh.val * 64 + 64 then x0 (ix3 0 ⟨k.val, by omega⟩ ⟨512 + (128 * p.val + l.val), by omega⟩) else 0 := by
  have e1 : (256 * hh.val + k.val) / 256 = hh.val := by omega
  have e2 : (256 * hh.val + k.val) % 256 = k.val := by omega
  unfold keyAt
  refine (dif_pos l.isLt).trans ?_
  simp only [e1, e2, Nat.add_mul, Nat.one_mul, Nat.add_assoc]

omit R in
theorem key_lanes (p : Fin 4) (hh : Fin 2) (k : Fin 256) (l : Fin 128) :
    keyAt x0 x2 x4 p ⟨256 * hh.val + k.val, by omega⟩ ⟨128 + l.val, by omega⟩
      = if hh.val * 8 ≤ l.val ∧ l.val < hh.val * 8 + 8 then lanes x2 x4 (ix2 k ⟨128 * p.val + l.val, by omega⟩) else 0 := by
  have e1 : (256 * hh.val + k.val) / 256 = hh.val := by omega
  have e2 : (256 * hh.val + k.val) % 256 = k.val := by omega
  have e3 : 128 + l.val - 128 = l.val := by omega
  unfold keyAt
  refine (dif_neg (by simp only; omega)).trans ?_
  simp only [e1, e2, e3, Nat.add_mul, Nat.one_mul]

/-- A pair's scores are the plain ones in base two. -/
theorem score_real (h : Fin 8) (q k : Fin 256) :
    scoreAt x0 x2 x3 x4 ⟨h.val / 2, by omega⟩ ⟨256 * (h.val % 2) + k.val, by omega⟩ q = ((plain A B C h q k * lam : ℝ) : EReal) := by
  unfold scoreAt
  refine (Fin.sum_univ_add (a := 128) (b := 128) _).trans ?_
  have e1 : ∑ l : Fin 128, keyAt x0 x2 x4 ⟨h.val / 2, by omega⟩ ⟨256 * (h.val % 2) + k.val, by omega⟩ (Fin.castAdd 128 l) * qryAt x0 x2 x3 ⟨h.val / 2, by omega⟩ q (Fin.castAdd 128 l)
      = ((∑ d : Fin 64, B k ⟨64 * h.val + d.val, by omega⟩ * (A q ⟨64 * h.val + d.val, by omega⟩ * (1 / 8) * lam) : ℝ) : EReal) := by
    rw [← coe_sum]
    refine Eq.trans ?_ ((window 64 (h.val % 2 * 64) (by omega) (fun l => x0 (ix3 0 ⟨k.val, by omega⟩ ⟨512 + (128 * (h.val / 2) + l.val), by omega⟩)
      * x0 (ix3 0 ⟨q.val, by omega⟩ ⟨128 * (h.val / 2) + l.val, by omega⟩))).trans ?_)
    · refine Finset.sum_congr rfl fun l _ => ?_
      rw [show qryAt x0 x2 x3 ⟨h.val / 2, by omega⟩ q (Fin.castAdd 128 l) = x0 (ix3 0 ⟨q.val, by omega⟩ ⟨128 * (h.val / 2) + l.val, by omega⟩) from dif_pos l.isLt]
      refine (congrArg (· * _) (key_half ⟨h.val / 2, by omega⟩ ⟨h.val % 2, by omega⟩ k l)).trans ?_
      simp only [ite_mul, zero_mul]
    · refine Finset.sum_congr rfl fun d _ => ?_
      have e : 128 * (h.val / 2) + (h.val % 2 * 64 + d.val) = 64 * h.val + d.val := by omega
      simp only [e]
      rw [EReal.coe_mul]
      exact congrArg₂ (· * ·) (R.key k ⟨64 * h.val + d.val, by omega⟩) (R.query q ⟨64 * h.val + d.val, by omega⟩)
  have e2 : ∑ l : Fin 128, keyAt x0 x2 x4 ⟨h.val / 2, by omega⟩ ⟨256 * (h.val % 2) + k.val, by omega⟩ (Fin.natAdd 128 l) * qryAt x0 x2 x3 ⟨h.val / 2, by omega⟩ q (Fin.natAdd 128 l)
      = ((C q h * lam - C k h * lam : ℝ) : EReal) := by
    refine Eq.trans ?_ ((window 8 (h.val % 2 * 8) (by omega) (fun l => lanes x2 x4 (ix2 k ⟨128 * (h.val / 2) + l.val, by omega⟩)
      * lanes x2 x3 (ix2 q ⟨128 * (h.val / 2) + l.val, by omega⟩))).trans ?_)
    · refine Finset.sum_congr rfl fun l _ => ?_
      have e3 : 128 + l.val - 128 = l.val := by omega
      rw [show qryAt x0 x2 x3 ⟨h.val / 2, by omega⟩ q (Fin.natAdd 128 l) = lanes x2 x3 (ix2 q ⟨128 * (h.val / 2) + l.val, by omega⟩) from
        (dif_neg (show ¬ 128 + l.val < 128 by omega)).trans (by simp only [Fin.natAdd, e3])]
      refine (congrArg (· * _) (key_lanes ⟨h.val / 2, by omega⟩ ⟨h.val % 2, by omega⟩ k l)).trans ?_
      simp only [ite_mul, zero_mul]
    · have e : ∀ d : Fin 8, (⟨128 * (h.val / 2) + (h.val % 2 * 8 + d.val), by omega⟩ : Fin 512) = biasCol h d := fun d => Fin.ext (by simp only [biasCol]; omega)
      simp only [e, query_lane R, key_lane R]
      simp only [← EReal.coe_mul]
      rw [coe_sum]
      congr 1
      simp [Fin.sum_univ_eight]
      ring
  refine (congrArg₂ (· + ·) e1 e2).trans ?_
  rw [← EReal.coe_add]
  congr 1
  unfold plain
  have e3 : ∀ d : Fin 64, B k ⟨64 * h.val + d.val, by omega⟩ * (A q ⟨64 * h.val + d.val, by omega⟩ * (1 / 8) * lam)
      = A q ⟨64 * h.val + d.val, by omega⟩ * B k ⟨64 * h.val + d.val, by omega⟩ * ((1 / 8) * lam) := fun d => by ring
  simp only [e3]
  rw [← Finset.sum_mul]
  ring

/-- A head's row divided by its sum of weights is the attention. -/
theorem quot_real (n : Fin 512) (q : Fin 256) :
    quot x0 x1 x2 x3 x4 n q = ((attn q.val (plain A B C ⟨n.val / 64, by omega⟩ q) (fun k => W k n) : ℝ) : EReal) := by
  have hs : ∀ k, maskAt (scoreArr x0 x2 x3 x4 ⟨n.val / 64 / 2, by omega⟩) ⟨n.val / 64 % 2, by omega⟩ q k
      = if k.val ≤ q.val then ((plain A B C ⟨n.val / 64, by omega⟩ q k * (1 / Real.log 2) : ℝ) : EReal) else ⊥ := fun k => by
    unfold maskAt
    exact if_congr Iff.rfl (score_real R ⟨n.val / 64, by omega⟩ q k) rfl
  obtain ⟨M, hM⟩ := max_real q.val (fun k => plain A B C ⟨n.val / 64, by omega⟩ q k * (1 / Real.log 2)) (by omega) _ hs
  have ht : topAt (scoreArr x0 x2 x3 x4 ⟨n.val / 64 / 2, by omega⟩) ⟨n.val / 64 % 2, by omega⟩ q = (M : EReal) := by
    unfold topAt
    rw [hM]
    exact max_eq_right bot_le
  have key : ∀ (r : ℕ) (hr : r < 80) (v : Fin 256 → EReal) (hv : ∀ k : Fin 256, x1 (ix3 0 ⟨80 * (n.val / 64) + r, by omega⟩ ⟨k.val, by omega⟩) = v k),
      rowSum x0 x1 x2 x3 x4 ⟨80 * (n.val / 64) + r, by omega⟩ q
        = ∑ k, v k * Ideal.exp2 (maskAt (scoreArr x0 x2 x3 x4 ⟨n.val / 64 / 2, by omega⟩) ⟨n.val / 64 % 2, by omega⟩ q k - (M : EReal)) := by
    intro r hr v hv
    have e1 : (80 * (n.val / 64) + r) / 160 = n.val / 64 / 2 := by omega
    have e2 : (80 * (n.val / 64) + r) / 80 % 2 = n.val / 64 % 2 := by omega
    simp only [rowSum, sumAt, e1, e2, ht, hv]
  unfold quot
  rw [key (n.val % 64) (by omega) _ (fun k => R.val k n), key 64 (by omega) _ (fun k => R.one k ⟨n.val / 64, by omega⟩)]
  simp only [one_mul]
  exact row2 q.val _ (fun k => W k n) (by omega) M _ hs

end Cert.Fox

end
-- ==== Proof.Fox.Entries.lean ====
module
public import proofs.«01_k».proof.Proof.Fox.Host
public import proofs.«01_k».proof.Proof.Fox.Real

/-!
The arrays the attention's kernel is called with, element by element, and the tables at the columns of the bias lanes.
-/

@[expose] public section

set_option maxRecDepth 16384

noncomputable section

namespace Cert.Fox

open Cert.Kernel3Ideal Cert.Kernel3Ideal.Gen Idealize.ShloMosaic

variable (a0 a1 a2 : FVec Ideal S16x2048x512 .f32) (a3 : FVec Ideal S16x2048x8 .f32)

theorem two : Ideal.ofBits .f32 0x40000000#32 = ((2 : ℝ) : EReal) := by
  simp [Ideal.ofBits, Ideal.ieee, -EReal.coe_mul]; norm_num

theorem eighth : Ideal.ofBits .f32 0x3E000000#32 = ((1 / 8 : ℝ) : EReal) := by
  simp [Ideal.ofBits, Ideal.ieee, -EReal.coe_mul]; norm_num

theorem lamArr_apply (i : S_.Idx) : lamArr i = ((lam : ℝ) : EReal) := by
  pointwise [lamArr]
  rw [two, Ideal.log_coe, if_neg (by norm_num), Ideal.div_coe (Real.log_pos (by norm_num)).ne', one_mul]
  rfl

theorem q_entry (b : Fin 16) (r : Fin 2048) (n : Fin 512) :
    qkArr a0 a1 (ix3 b r ⟨n.val, by omega⟩) = a0 (ix3 b r n) * ((1 / 8 : ℝ) : EReal) * ((lam : ℝ) : EReal) := by
  pointwise [qkArr]
  rw [lamArr_apply, eighth]

theorem k_entry (b : Fin 16) (r : Fin 2048) (n : Fin 512) :
    qkArr a0 a1 (ix3 b r ⟨512 + n.val, by omega⟩) = a1 (ix3 b r n) := by
  pointwise [qkArr]

theorem v_entry (b : Fin 16) (r : Fin 2048) (n : Fin 512) :
    vtArr a2 (ix3 b ⟨80 * (n.val / 64) + n.val % 64, by omega⟩ r) = a2 (ix3 b r n) := by
  pointwise [vtArr]
  exact dif_pos (by omega)

theorem one_entry (b : Fin 16) (r : Fin 2048) (h : Fin 8) :
    vtArr a2 (ix3 b ⟨80 * h.val + 64, by omega⟩ r) = (1 : EReal) := by
  pointwise [vtArr]
  exact dif_neg (by omega)

theorem cum_entry (b : Fin 16) (r : Fin 2048) (l : Fin 128) :
    cumArr a3 (ix3 b r l) = if h : l.val < 8 then a3 (ix3 b r ⟨l.val, h⟩) * ((lam : ℝ) : EReal) else 0 := by
  pointwise [cumArr]
  simp only [lamArr_apply]
  by_cases h : l.val < 8
  · rw [dif_pos (by omega), dif_pos h]
  · rw [dif_neg (by omega), dif_neg h]
    show (((0#32 : BitVec 32).toInt : ℝ) : EReal) = 0
    simp

theorem used_col : ∀ h s : Fin 8, usedW (BitVec.ofNat 32 (biasCol h s)) = 1#1 := by decide +kernel
theorem rowQ_col : ∀ h s : Fin 8, rowQW (BitVec.ofNat 32 (biasCol h s)) = if s.val < 6 then BitVec.ofNat 32 (rowQ s h) else 4294967295#32 := by decide +kernel
theorem rowK_col : ∀ h s : Fin 8, rowKW (BitVec.ofNat 32 (biasCol h s)) = if s.val < 6 then BitVec.ofNat 32 (rowK s h) else 4294967295#32 := by decide +kernel
theorem low_col : ∀ h s : Fin 8, IntOp.cmpi .slt (IntOp.andi (BitVec.ofNat 32 (biasCol h s)) 7#32) 3#32 = BitVec.ofBool (decide (s.val < 3)) := by decide +kernel
theorem no_row : ∀ j : Fin 384, IntOp.cmpi .eq (BitVec.ofNat 32 j) 4294967295#32 = 0#1 := by decide +kernel

theorem tabQ_col (h s : Fin 8) (j : Fin 384) :
    (Scalar.select (IntOp.andi (usedW (BitVec.ofNat 32 (biasCol h s))) (IntOp.cmpi .eq (BitVec.ofNat 32 j) (rowQW (BitVec.ofNat 32 (biasCol h s))))) 1 0 : EReal)
      = if j = rowQ s h then ((facQ s : ℝ) : EReal) else 0 := by
  rw [used_col, rowQ_col]
  unfold facQ
  by_cases hs : s.val < 6
  · rw [if_pos hs, if_pos hs, WordCmp.cmpi_eq_ofNat (by omega) (by omega)]
    by_cases hj : j = rowQ s h
    · simp [hj, Scalar.select, IntOp.andi]
    · have hj' : j.val ≠ (rowQ s h).val := fun e => hj (Fin.ext e)
      simp [hj, hj', Scalar.select, IntOp.andi]
  · rw [if_neg hs, if_neg hs, no_row]
    simp [Scalar.select, IntOp.andi]

theorem tabK_col (h s : Fin 8) (j : Fin 384) :
    (Scalar.select (IntOp.andi (usedW (BitVec.ofNat 32 (biasCol h s))) (IntOp.cmpi .eq (BitVec.ofNat 32 j) (rowKW (BitVec.ofNat 32 (biasCol h s)))))
      (Scalar.select (IntOp.cmpi .slt (IntOp.andi (BitVec.ofNat 32 (biasCol h s)) 7#32) 3#32) 1 (-1)) 0 : EReal)
      = if j = rowK s h then ((facK s : ℝ) : EReal) else 0 := by
  rw [used_col, rowK_col, low_col]
  unfold facK
  by_cases hs : s.val < 6
  · rw [if_pos hs, if_pos hs, WordCmp.cmpi_eq_ofNat (by omega) (by omega)]
    by_cases hj : j = rowK s h
    · by_cases h3 : s.val < 3 <;> simp [hj, h3, Scalar.select, IntOp.andi]
    · have hj' : j.val ≠ (rowK s h).val := fun e => hj (Fin.ext e)
      simp [hj, hj', Scalar.select, IntOp.andi]
  · rw [if_neg hs, if_neg hs, no_row]
    have h3 : ¬ s.val < 3 := by omega
    simp [h3, Scalar.select, IntOp.andi]

end Cert.Fox

end
-- ==== Proof.Fox.Windows.lean ====
module
public import proofs.«01_k».proof.Proof.Gen.Kernel3Ideal.Value
public import Idealize.ShloMosaic.Lib.Pointwise
public import Idealize.ShloMosaic.Lib.Pipeline.ValueKit

/-!
The block of each of the attention's windows that a grid point works on: a sequence of its array, or the whole of a table.
-/

@[expose] public section

set_option maxRecDepth 16384

noncomputable section

namespace Cert.Fox

open Cert.Kernel3Ideal Cert.Kernel3Ideal.Gen Idealize.ShloMosaic Idealize.ShloMosaic.TcCoe Idealize.SL.Sem

variable (m : (ℓ : Loc nD τ sig) → Buf (Elt Ideal) ℓ) (c : Dev nD)

/-! The block of each window that a grid point works on. -/

theorem idx0 : ∀ t : Fin grid0.N, win0_0.index t = ![t.val, 0, 0] := by decide +kernel
theorem idx1 : ∀ t : Fin grid0.N, win0_1.index t = ![t.val, 0, 0] := by decide +kernel
theorem idx2 : ∀ t : Fin grid0.N, win0_2.index t = ![t.val, 0, 0] := by decide +kernel
theorem idx3 : ∀ t : Fin grid0.N, win0_3.index t = ![0, 0] := by decide +kernel
theorem idx4 : ∀ t : Fin grid0.N, win0_4.index t = ![0, 0] := by decide +kernel
theorem idx5 : ∀ t : Fin grid0.N, win0_5.index t = ![t.val, 0, 0] := by decide +kernel

/-- The sequence a grid point computes. -/
def sq (t : Fin cfg0.N) : Fin 16 := ⟨t.val, lt_of_lt_of_eq t.isLt N_0⟩

theorem blk0 (t : Fin cfg0.N) (r : Fin 2048) (k : Fin 1024) :
    iblk m c 0 t (ix3 0 r k) = (V m c main_v8 : FVec Ideal S16x2048x1024 .bf16) (ix3 (sq t) r k) := by
  unfold sq
  blk_ext [iblk, idx0 t]

theorem blk1 (t : Fin cfg0.N) (r : Fin 640) (k : Fin 2048) :
    iblk m c 1 t (ix3 0 r k) = (V m c main_v14 : FVec Ideal S16x640x2048 .bf16) (ix3 (sq t) r k) := by
  unfold sq
  blk_ext [iblk, idx1 t]

theorem blk2 (t : Fin cfg0.N) (r : Fin 2048) (k : Fin 128) :
    iblk m c 2 t (ix3 0 r k) = (V m c main_v17 : FVec Ideal S16x2048x128 .f32) (ix3 (sq t) r k) := by
  unfold sq
  blk_ext [iblk, idx2 t]

theorem blk3 (t : Fin cfg0.N) (r : Fin 384) (k : Fin 512) :
    iblk m c 3 t (ix2 r k) = (V m c main_v83 : FVec Ideal S384x512 .bf16) (ix2 r k) := by
  blk_ext [iblk, idx3 t]

theorem blk4 (t : Fin cfg0.N) (r : Fin 384) (k : Fin 512) :
    iblk m c 4 t (ix2 r k) = (V m c main_v84 : FVec Ideal S384x512 .bf16) (ix2 r k) := by
  blk_ext [iblk, idx4 t]

end Cert.Fox

end
-- ==== Proof.Fox.Array.lean ====
module
public import proofs.«01_k».proof.Proof.Fox.Entries
public import proofs.«01_k».proof.Proof.Fox.Windows

/-!
What the attention's result array holds after its run, for the first 256 tokens of a sequence and on finite arguments: the attention of the plain formula.
-/

@[expose] public section

set_option maxRecDepth 16384

noncomputable section

namespace Cert.Fox

open Cert.Kernel3Ideal Cert.Kernel3Ideal.Gen Idealize.ShloMosaic Idealize.ShloMosaic.TcCoe Idealize.SL.Sem

variable (m : (ℓ : Loc nD τ sig) → Buf (Elt Ideal) ℓ) (c : Dev nD)

/-- The sums of the first tokens, read from the block. -/
theorem sums_apply (x2 : Vec Ideal S1x2048x128 .f32) (k : Fin 256) (l : Fin 128) : sums x2 (ix3 0 k l) = x2 (ix3 0 ⟨k.val, by omega⟩ l) :=
  congrArg x2 (funext fun a => match a with
    | ⟨0, _⟩ => rfl
    | ⟨1, _⟩ => Fin.ext (show 0 + 1 * k.val = k.val by omega)
    | ⟨2, _⟩ => Fin.ext (show 0 + 1 * l.val = l.val by omega))

variable (r0 r1 r2 : S16x2048x512.Idx → ℝ) (r3 : S16x2048x8.Idx → ℝ)
  (h0 : ∀ i, (m ((c : Thread nD τ).loc main_arg0) : FVec Ideal S16x2048x512 .f32) i = ((r0 i : ℝ) : EReal))
  (h1 : ∀ i, (m ((c : Thread nD τ).loc main_arg1) : FVec Ideal S16x2048x512 .f32) i = ((r1 i : ℝ) : EReal))
  (h2 : ∀ i, (m ((c : Thread nD τ).loc main_arg2) : FVec Ideal S16x2048x512 .f32) i = ((r2 i : ℝ) : EReal))
  (h3 : ∀ i, (m ((c : Thread nD τ).loc main_arg3) : FVec Ideal S16x2048x8 .f32) i = ((r3 i : ℝ) : EReal))

/-- The first rows of a sequence. -/
def first {n : ℕ} (r : (⟨3, ![16, 2048, n]⟩ : Shape).Idx → ℝ) (b : Fin 16) (q : Fin 256) (l : Fin n) : ℝ := r (ix3 b ⟨q.val, by omega⟩ l)

include h0 h1 h2 h3

/-- What the blocks of a grid point hold, on finite arguments. -/
theorem reads (t : Fin cfg0.N) : Reads (iblk m c 0 t) (iblk m c 1 t) (iblk m c 2 t) (iblk m c 3 t) (iblk m c 4 t)
    (first r0 (sq t)) (first r1 (sq t)) (first r2 (sq t)) (first r3 (sq t)) where
  query q n := by
    refine (blk0 m c t _ _).trans ?_
    rw [qkArr_eq]
    refine (q_entry _ _ _ _ n).trans ?_
    rw [h0, ← EReal.coe_mul, ← EReal.coe_mul]
    rfl
  key k n := by
    refine (blk0 m c t _ _).trans ?_
    rw [qkArr_eq]
    exact (k_entry _ _ _ _ n).trans (h1 _)
  val k n := by
    refine (blk1 m c t _ _).trans ?_
    rw [vtArr_eq]
    exact (v_entry _ _ _ n).trans (h2 _)
  one k h := by
    refine (blk1 m c t _ _).trans ?_
    rw [vtArr_eq]
    exact one_entry _ _ _ h
  cum k l := by
    refine (sums_apply _ k l).trans ((blk2 m c t _ _).trans ?_)
    rw [cumArr_eq]
    refine (cum_entry _ _ _ l).trans ?_
    by_cases h : l.val < 8
    · rw [dif_pos h, dif_pos h, h3, ← EReal.coe_mul]
      rfl
    · rw [dif_neg h, dif_neg h, EReal.coe_zero]
  tabQ h s j := (blk3 m c t _ _).trans ((tabQ_entry m c j _).trans (tabQ_col h s j))
  tabK h s j := (blk4 m c t _ _).trans ((tabK_entry m c j _).trans (tabK_col h s j))

/-- What the body puts out at point `t` for the first rows. -/
theorem out_point (t : Fin cfg0.N) (q : Fin 256) (n : Fin 512) :
    outsAt0 (F := Ideal) m c t (ix3 0 ⟨q.val, by omega⟩ n)
      = ((attn q.val (plain (first r0 (sq t)) (first r1 (sq t)) (first r3 (sq t)) ⟨n.val / 64, by omega⟩ q) (fun k => first r2 (sq t) k n) : ℝ) : EReal) := by
  unfold outsAt0
  exact (out_rows _ _ _ _ _ _ _ _ _ _ _ _ _ _ _ _ _ _ _ _ _ _ _ _ _ _ _ _ _ q n).trans (quot_real (reads m c r0 r1 r2 r3 h0 h1 h2 h3 t) n q)

omit h0 h1 h2 h3

/-- The grid point of a sequence. -/
def pt (b : Fin 16) : Fin cfg0.N := ⟨b.val, lt_of_lt_of_eq b.isLt N_0.symm⟩

/-- The result array after the kernel's run, as the body put it out. -/
theorem out_array : (dats m 0 c).arrAt 5 cfg0.N
    = fun i => outsAt0 (F := Ideal) m c (pt (i 0 : Fin 16)) (ix3 0 (i 1 : Fin 2048) (i 2 : Fin 512)) := by
  refine (dats m 0 c).arrAt_eq_of_covers 5 _ (by decide +kernel) fun t hf y => ?_
  blk_simp
  rw [after0_5]
  have hy0 : y (0 : Fin 3) = (0 : Fin 1) := Subsingleton.elim (α := Fin 1) _ _
  have hy : y = ix3 (0 : Fin 1) (y (1 : Fin 3) : Fin 2048) (y (2 : Fin 3) : Fin 512) := by
    funext a
    fin_cases a
    · exact hy0
    · rfl
    · rfl
  have e0 : ((win0_5.blk t).view.emb y 0 : Fin 16) = sq t := Fin.ext (by blk_simp [idx5 t]; simp [sq, hy0])
  have e1 : ((win0_5.blk t).view.emb y 1 : Fin 2048) = y (1 : Fin 3) := Fin.ext (by blk_simp [idx5 t])
  have e2 : ((win0_5.blk t).view.emb y 2 : Fin 512) = y (2 : Fin 3) := Fin.ext (by blk_simp [idx5 t])
  rw [e0, e1, e2]
  exact congrArg _ hy

include h0 h1 h2 h3

/-- The result array after the kernel's run, for the first tokens. -/
theorem out_first (b : Fin 16) (q : Fin 256) (n : Fin 512) :
    (dats m 0 c).arrAt 5 cfg0.N (ix3 b ⟨q.val, by omega⟩ n)
      = ((attn q.val (plain (first r0 b) (first r1 b) (first r3 b) ⟨n.val / 64, by omega⟩ q) (fun k => first r2 b k n) : ℝ) : EReal) := by
  rw [out_array]
  exact out_point m c r0 r1 r2 r3 h0 h1 h2 h3 (pt b) q n

end Cert.Fox

end
-- ==== Proof.Fox.Ref.lean ====
module
public import proofs.«01_k».proof.Proof.Gen.Reference3Ideal.Read
public import proofs.«01_k».proof.Proof.Fox.Scalar
public import Idealize.ShloMosaic.Lib.Pointwise
public import Idealize.ShloMosaic.Lib.WordCmp

/-!
What the attention's reference computes, on finite arguments: the attention of the plain formula over all 2048 keys.
-/

@[expose] public section

set_option maxRecDepth 16384

noncomputable section

namespace Cert.Fox.Ref

open Cert.Reference3Ideal Cert.Reference3Ideal.Gen Cert.Reference3Ideal.Read Idealize.ShloMosaic

/-- The maximum along an array's last axis. -/
theorem row_max (y : FVec Ideal S16x8x2048x2048 .f32) (z : FVec Ideal S_ .f32) (b : Fin 16) (h : Fin 8) (q : Fin 2048) :
    Host.reduce FloatOps.maximumf y z reducesTo_S16x8x2048x2048_S16x8x2048_d3 h_S_ (ix3 b h q)
      = (Finset.univ : Finset (Fin 2048)).fold max (z (Shape.Idx.first h_S_)) fun k => y (ix4 b h q k) := by
  have hr : S16x8x2048x2048.Reduces [3] S16x8x2048 := by decide
  rw [Host.reduce_eq_fold_single FloatOps.maximumf y z reducesTo_S16x8x2048x2048_S16x8x2048_d3 hr h_S_]
  refine congrArg (fun f => (Finset.univ : Finset (Fin 2048)).fold max (z (Shape.Idx.first h_S_)) f) (funext fun k => congrArg y (funext fun a => ?_))
  match a with
  | ⟨0, _⟩ => rfl
  | ⟨1, _⟩ => rfl
  | ⟨2, _⟩ => rfl
  | ⟨3, _⟩ => rfl

theorem eighth : Ideal.ofBits .f32 0x3E000000#32 = ((1 / 8 : ℝ) : EReal) := by
  simp [Ideal.ofBits, Ideal.ieee, -EReal.coe_mul]; norm_num

theorem neg_inf : Ideal.ofBits .f32 0xFF800000#32 = ⊥ := by simp [Ideal.ofBits, Ideal.ieee]

variable (a0 a1 a2 : FVec Ideal S16x2048x512 .f32) (a3 : FVec Ideal S16x2048x8 .f32)

/-- The masked scores. -/
theorem st_apply (b : Fin 16) (h : Fin 8) (q k : Fin 2048) :
    val_main_v18 (F := Ideal) a0 a1 a3 (ix4 b h q k)
      = if k.val ≤ q.val then (∑ d : Fin 64, a0 (ix3 b q ⟨h.val * 64 + d.val, by omega⟩) * a1 (ix3 b k ⟨h.val * 64 + d.val, by omega⟩)) * ((1 / 8 : ℝ) : EReal)
          + a3 (ix3 b q h) - a3 (ix3 b k h) else ⊥ := by
  pointwise [val_main_v18, val_main_call0_v1, val_main_call0_v2, val_main_call0_v0, val_main_cst_0, val_main_v17, val_main_v16, val_main_v15, val_main_v14, val_main_v13,
    val_main_v12, val_main_v11, val_main_v10, val_main_v9, val_main_v8, val_main_v7, val_main_v6, val_main_v5, val_main_v4, val_main_cst, val_main_v3, val_main_v2, val_main_v1, val_main_v0]
  rw [WordCmp.cmpi_sge_ofNat (by omega) (by omega), WordCmp.select_ofBool, eighth]
  simp only [decide_eq_true_eq]
  exact if_congr Iff.rfl rfl neg_inf

/-- Their maximum. -/
theorem top_apply (b : Fin 16) (h : Fin 8) (q : Fin 2048) :
    val_main_v21 (F := Ideal) a0 a1 a3 (ix3 b h q) = (Finset.univ : Finset (Fin 2048)).fold max ⊥ fun k => val_main_v18 (F := Ideal) a0 a1 a3 (ix4 b h q k) := by
  rw [val_main_v21_apply, val_main_v20_apply, val_main_cst_2_apply]
  unfold val_main_v19
  rw [row_max, val_main_cst_1_apply]
  refine (congrArg₂ max neg_inf (congrArg (fun e : EReal => (Finset.univ : Finset (Fin 2048)).fold max e fun k => val_main_v18 (F := Ideal) a0 a1 a3 (ix4 b h q k)) neg_inf)).trans ?_
  exact max_eq_right bot_le

/-- The weighted sum of the values. -/
theorem out_apply (b : Fin 16) (q : Fin 2048) (n : Fin 512) :
    val_main_v34 (F := Ideal) a0 a1 a2 a3 (ix3 b q n)
      = ∑ k : Fin 2048, a2 (ix3 b k n) * Ideal.div
          (Ideal.exp (val_main_v18 (F := Ideal) a0 a1 a3 (ix4 b ⟨n.val / 64, by omega⟩ q k) - val_main_v21 (F := Ideal) a0 a1 a3 (ix3 b ⟨n.val / 64, by omega⟩ q)))
          (∑ j : Fin 2048, Ideal.exp (val_main_v18 (F := Ideal) a0 a1 a3 (ix4 b ⟨n.val / 64, by omega⟩ q j) - val_main_v21 (F := Ideal) a0 a1 a3 (ix3 b ⟨n.val / 64, by omega⟩ q))) := by
  pointwise [val_main_v34, val_main_v33, val_main_v32, val_main_v31, val_main_v30, val_main_v29, val_main_v28, val_main_v27, val_main_v26, val_main_v25, val_main_v24,
    val_main_v23, val_main_v22, val_main_cst_3]

/-- The plain formula's score of a key for a query, in head `h` of sequence `b`. -/
def plain (r0 r1 : S16x2048x512.Idx → ℝ) (r3 : S16x2048x8.Idx → ℝ) (b : Fin 16) (h : Fin 8) (q k : Fin 2048) : ℝ :=
  (∑ d : Fin 64, r0 (ix3 b q ⟨64 * h.val + d.val, by omega⟩) * r1 (ix3 b k ⟨64 * h.val + d.val, by omega⟩)) * (1 / 8) + r3 (ix3 b q h) - r3 (ix3 b k h)

/-- On finite arguments the reference is the attention of the plain formula. -/
theorem out_real (r0 r1 r2 : S16x2048x512.Idx → ℝ) (r3 : S16x2048x8.Idx → ℝ) (h0 : ∀ i, a0 i = ((r0 i : ℝ) : EReal)) (h1 : ∀ i, a1 i = ((r1 i : ℝ) : EReal))
    (h2 : ∀ i, a2 i = ((r2 i : ℝ) : EReal)) (h3 : ∀ i, a3 i = ((r3 i : ℝ) : EReal)) (b : Fin 16) (q : Fin 2048) (n : Fin 512) :
    val_main_v34 (F := Ideal) a0 a1 a2 a3 (ix3 b q n)
      = ((attn q.val (plain r0 r1 r3 b ⟨n.val / 64, by omega⟩ q) (fun k => r2 (ix3 b k n)) : ℝ) : EReal) := by
  have hs : ∀ k, val_main_v18 (F := Ideal) a0 a1 a3 (ix4 b ⟨n.val / 64, by omega⟩ q k)
      = if k.val ≤ q.val then ((plain r0 r1 r3 b ⟨n.val / 64, by omega⟩ q k : ℝ) : EReal) else ⊥ := fun k => by
    rw [st_apply]
    refine if_congr Iff.rfl ?_ rfl
    simp only [h0, h1, h3, ← EReal.coe_mul]
    rw [coe_sum, ← EReal.coe_mul, ← EReal.coe_add, ← EReal.coe_sub]
    unfold plain
    simp only [Nat.mul_comm]
  obtain ⟨M, hM⟩ := max_real q.val _ (by omega) _ hs
  rw [out_apply, top_apply, hM]
  simp only [h2]
  exact row1 q.val _ (fun k => r2 (ix3 b k n)) (by omega) M _ hs

end Cert.Fox.Ref

end
-- ==== Proof.Fox.Claim.lean ====
module
public import proofs.«01_k».proof.Defs
public import proofs.«01_k».proof.Proof.Fox.Array
public import proofs.«01_k».proof.Proof.Fox.Ref
public import Idealize.ShloMosaic.Lib.ReduceAll
public import Idealize.ShloMosaic.Lib.KernelVsHost

/-!
The equation of the attention: on memories that agree on finite arguments, the kernel's result array and the reference's are the same for the first 256 tokens
of every sequence.
-/

@[expose] public section

noncomputable section

namespace Cert.Fox

open Idealize.ShloMosaic Idealize.SL.Sem

/-- The shape relations of the mask hold. -/
theorem maskFacts : Cert.On_first_rows.Facts := ⟨by decide⟩

/-- The shape relations of the precondition hold. -/
theorem preFacts : Cert.Pre_finite.Facts := ⟨by decide, by decide, by decide, by decide, by decide⟩

/-- The mask selects the first 256 tokens. -/
theorem mask_row [Cert.On_first_rows.Facts] (x0 x1 x2 x3) (i : (⟨3, ![16, 2048, 512]⟩ : Shape).Idx)
    (h : Cert.On_first_rows.fn (F := Ideal) x0 x1 x2 x3 i = 1#1) : ((i 1 : Fin 2048)).val < 256 := by
  have hi : ((i 1 : Fin 2048)).val < 2048 := (i 1 : Fin 2048).isLt
  have e : IntOp.cmpi .slt (BitVec.ofNat 32 ((i 1 : Fin 2048)).val) (BitVec.ofNat 32 256) = 1#1 := h
  rw [WordCmp.cmpi_slt_ofNat (by omega) (by omega)] at e
  by_contra hn
  rw [decide_eq_false hn] at e
  exact absurd e (by decide)

/-- A value whose magnitude is below infinity is a real. -/
theorem real_of (x : Ideal .f32)
    (h : FloatOps.cmpf .olt (FloatOps.hostAbsf x) (FloatOps.ofBits (F := Ideal) .f32 0x7F800000#32) = 1#1) : ∃ r : ℝ, x = ((r : ℝ) : EReal) := by
  rw [← Ideal.xori_weird_eq_hostAbsf_olt_inf] at h
  have hx : ¬ ((x : EReal) = ⊤ ∨ (x : EReal) = ⊥) := fun hx => by
    rw [show FloatOps.weird x = BitVec.ofBool (decide ((x : EReal) = ⊤ ∨ (x : EReal) = ⊥)) from rfl, decide_eq_true hx] at h
    exact absurd h (by decide)
  exact ⟨EReal.toReal x, (EReal.coe_toReal (fun e => hx (.inl e)) (fun e => hx (.inr e))).symm⟩

/-- A conjunction that holds has both halves. -/
theorem and_one : ∀ a b : BitVec 1, IntOp.andi a b = 1#1 → a = 1#1 ∧ b = 1#1 := by decide

/-- Under the precondition every element of every argument is a real. -/
theorem real_args [Cert.Pre_finite.Facts] (x0 x1 x2 x3) (h : Cert.Pre_finite.fn (F := Ideal) x0 x1 x2 x3 = fun _ => 1#1) :
    (∀ i, ∃ r : ℝ, x0 i = ((r : ℝ) : EReal)) ∧ (∀ i, ∃ r : ℝ, x1 i = ((r : ℝ) : EReal)) ∧ (∀ i, ∃ r : ℝ, x2 i = ((r : ℝ) : EReal))
      ∧ ∀ i, ∃ r : ℝ, x3 i = ((r : ℝ) : EReal) := by
  haveI : Subsingleton Cert.Pre_finite.S_.Idx := ⟨fun a b => funext fun x => x.elim0⟩
  obtain ⟨h, e3⟩ := and_one _ _ (congrFun h ix0)
  obtain ⟨h, e2⟩ := and_one _ _ h
  obtain ⟨e0, e1⟩ := and_one _ _ h
  exact ⟨fun i => real_of _ (Host.reduce_andi_all _ _ _ _ _ e0 i), fun i => real_of _ (Host.reduce_andi_all _ _ _ _ _ e1 i),
    fun i => real_of _ (Host.reduce_andi_all _ _ _ _ _ e2 i), fun i => real_of _ (Host.reduce_andi_all _ _ _ _ _ e3 i)⟩

/-- The mask's constant may be named minus infinity. -/
theorem preserves : preserves_Kernel3_Kernel3Ideal :=
  IdealRules.named_const.statement Cert.Kernel3Ideal.κ "mask" .f32 0xF149F2CA#32 ⊥ rfl

/-- The kernel's result is the reference's for the first tokens, on finite arguments. -/
theorem algebraic : algebraic_Kernel3Ideal_Reference3Ideal_on_first_rows_pre_finite (hPre_finite := preFacts) (hOn_first_rows := maskFacts) := by
  intro m ρ m' ρ' hpre hagree
  refine ⟨_, (θ_run Cert.Kernel3Ideal.defs _ _).mono (fun _ h c => ⟨fun i _ => congrFun (h c).1 i, (h c).2⟩)
    (Cert.Kernel3Ideal.Value.run_blocks (F := Ideal) m ρ), ?_⟩
  refine (θ_run Cert.Reference3Ideal.defs _ _).mono (fun _ h c => ?_) (Cert.Reference3Ideal.Value.run (F := Ideal) m' ρ')
  obtain ⟨a0, a1, a2, a3⟩ := hagree c
  obtain ⟨hv, hk⟩ := h c
  refine ⟨fun i hi => ?_, hk⟩
  have hl := @mask_row maskFacts _ _ _ _ i hi
  obtain ⟨f0, f1, f2, f3⟩ := @real_args preFacts _ _ _ _ (hpre c)
  choose r0 h0 using f0
  choose r1 h1 using f1
  choose r2 h2 using f2
  choose r3 h3 using f3
  idx_vars i
  refine (congrFun hv _).trans ?_
  rw [Cert.Reference3Ideal.Read.val_main_v34_eq, a0, a1, a2, a3]
  refine (Ref.out_real _ _ _ _ r0 r1 r2 r3 h0 h1 h2 h3 i0 i1 i2).trans (Eq.trans ?_ (out_first m c r0 r1 r2 r3 h0 h1 h2 h3 i0 ⟨i1.val, hl⟩ i2).symm)
  rw [attn_prefix i1.val hl]
  rfl

end Cert.Fox

end
-- ==== Proof.lean ====
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Reference3Ideal.Read
public import Idealize.ShloMosaic.Adequacy
public import Idealize.ShloMosaic.Init
public import Idealize.ShloMosaic.Lib.Quiescent
public import proofs.«01_k».proof.Proof.Mix.Claim
public import proofs.«01_k».proof.Proof.Ffn.Claim
public import proofs.«01_k».proof.Proof.Fox.Claim

/-! All claims of the certificate, put together. -/

@[expose] public section

noncomputable section

namespace Cert.Proof

open Idealize.ShloMosaic Idealize.SL.Sem

/-- The reference of the second half runs, leaves its arguments as they were, and ends with every counter at zero. -/
theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The reference of the first half runs, leaves its arguments as they were, and ends with every counter at zero. -/
theorem quiescent_Reference2Ideal : quiescent_Reference2Ideal := fun m ρ _ =>
  (θ_run Cert.Reference2Ideal.defs _ _).mono (fun r h => ⟨fun c => (h c).2.2.2.2, sem_eq_zero_of_no_sems (by decide) r.2⟩)
    (Cert.Reference2Ideal.Value.run (F := Ideal) m ρ)

/-- The reference of the attention runs, leaves its arguments as they were, and ends with every counter at zero. -/
theorem quiescent_Reference3Ideal : quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- Everything the certificate claims. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts, Cert.Fox.preFacts, Cert.Ffn.maskFacts, Cert.Fox.maskFacts,
  fun m ρ _ => Cert.Kernel.Gen.frame m ρ, fun m ρ _ => Cert.KernelIdeal.Gen.frame m ρ, quiescent_ReferenceIdeal,
  fun m ρ _ => Cert.Kernel2.Gen.frame m ρ, fun m ρ _ => Cert.Kernel2Ideal.Gen.frame m ρ, quiescent_Reference2Ideal,
  fun m ρ _ => Cert.Kernel3.Gen.frame m ρ, fun m ρ _ => Cert.Kernel3Ideal.Gen.frame m ρ, fun m ρ _ => Cert.Kernel3Ideal.Gen.frame m ρ,
  quiescent_Reference3Ideal, fun m ρ _ => quiescent_Reference3Ideal m ρ trivial,
  (trivial : preserves_Kernel_KernelIdeal), Cert.Mix.algebraic, (trivial : preserves_Kernel2_Kernel2Ideal), Cert.Ffn.algebraic,
  Cert.Fox.preserves, Cert.Fox.algebraic⟩

end Cert.Proof

end
